-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite_args2 [hPre_finite_args2 : Cert.Pre_finite_args2.Facts] (m : (ℓ : Loc Cert.GlaIdeal.nD Cert.GlaIdeal.τ Cert.GlaIdeal.sig) → Buf (Elt Ideal) ℓ) : Prop :=
  ∀ c : Dev Cert.GlaIdeal.nD,
    (Cert.Pre_finite_args2.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))) = (fun _ => 1#1)

def Pre_GlaReferenceIdeal (m : (ℓ : Loc Cert.GlaReferenceIdeal.nD Cert.GlaReferenceIdeal.τ Cert.GlaReferenceIdeal.sig) → Buf (Elt Ideal) ℓ) : Prop :=
  True

def Pre_GlaReferenceIdeal_finite_args2 [hPre_finite_args2 : Cert.Pre_finite_args2.Facts] (m : (ℓ : Loc Cert.GlaReferenceIdeal.nD Cert.GlaReferenceIdeal.τ Cert.GlaReferenceIdeal.sig) → Buf (Elt Ideal) ℓ) : Prop :=
  ∀ c : Dev Cert.GlaReferenceIdeal.nD,
    (Cert.Pre_finite_args2.fn (F := Ideal) (m ((c.tc : Thread Cert.GlaReferenceIdeal.nD Cert.GlaReferenceIdeal.τ).loc Cert.GlaReferenceIdeal.main_arg0)) (m ((c.tc : Thread Cert.GlaReferenceIdeal.nD Cert.GlaReferenceIdeal.τ).loc Cert.GlaReferenceIdeal.main_arg1)) (m ((c.tc : Thread Cert.GlaReferenceIdeal.nD Cert.GlaReferenceIdeal.τ).loc Cert.GlaReferenceIdeal.main_arg2)) (m ((c.tc : Thread Cert.GlaReferenceIdeal.nD Cert.GlaReferenceIdeal.τ).loc Cert.GlaReferenceIdeal.main_arg3)) (m ((c.tc : Thread Cert.GlaReferenceIdeal.nD Cert.GlaReferenceIdeal.τ).loc Cert.GlaReferenceIdeal.main_arg4)) (m ((c.tc : Thread Cert.GlaReferenceIdeal.nD Cert.GlaReferenceIdeal.τ).loc Cert.GlaReferenceIdeal.main_arg5)) (m ((c.tc : Thread Cert.GlaReferenceIdeal.nD Cert.GlaReferenceIdeal.τ).loc Cert.GlaReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaIdeal_pre_finite_args2 [hGlaIdeal : Cert.GlaIdeal.Facts] [hPre_finite_args2 : Cert.Pre_finite_args2.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite_args2 m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4)
      ∧ r.2.mem ((c.tc : Thread Cert.GlaReferenceIdeal.nD Cert.GlaReferenceIdeal.τ).loc Cert.GlaReferenceIdeal.main_arg5) = m ((c.tc : Thread Cert.GlaReferenceIdeal.nD Cert.GlaReferenceIdeal.τ).loc Cert.GlaReferenceIdeal.main_arg5)
      ∧ r.2.mem ((c.tc : Thread Cert.GlaReferenceIdeal.nD Cert.GlaReferenceIdeal.τ).loc Cert.GlaReferenceIdeal.main_arg6) = m ((c.tc : Thread Cert.GlaReferenceIdeal.nD Cert.GlaReferenceIdeal.τ).loc Cert.GlaReferenceIdeal.main_arg6))
      ∧ r.2.sem = fun _ => 0)

def quiescent_GlaReferenceIdeal_pre_finite_args2 [hGlaReferenceIdeal : Cert.GlaReferenceIdeal.Facts] [hPre_finite_args2 : Cert.Pre_finite_args2.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal_finite_args2 m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4)
      ∧ r.2.mem ((c.tc : Thread Cert.GlaReferenceIdeal.nD Cert.GlaReferenceIdeal.τ).loc Cert.GlaReferenceIdeal.main_arg5) = m ((c.tc : Thread Cert.GlaReferenceIdeal.nD Cert.GlaReferenceIdeal.τ).loc Cert.GlaReferenceIdeal.main_arg5)
      ∧ r.2.mem ((c.tc : Thread Cert.GlaReferenceIdeal.nD Cert.GlaReferenceIdeal.τ).loc Cert.GlaReferenceIdeal.main_arg6) = m ((c.tc : Thread Cert.GlaReferenceIdeal.nD Cert.GlaReferenceIdeal.τ).loc Cert.GlaReferenceIdeal.main_arg6))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Gla_GlaIdeal : Prop :=
  True

def algebraic_GlaIdeal_GlaReferenceIdeal_pre_finite_args2 [hGlaIdeal : Cert.GlaIdeal.Facts] [hGlaReferenceIdeal : Cert.GlaReferenceIdeal.Facts] [hPre_finite_args2 : Cert.Pre_finite_args2.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaIdeal_finite_args2 m →
    (∀ c : Dev Cert.GlaIdeal.nD,
      m' ((c.tc : Thread Cert.GlaReferenceIdeal.nD Cert.GlaReferenceIdeal.τ).loc Cert.GlaReferenceIdeal.main_arg0) = m ((c.tc : Thread Cert.GlaIdeal.nD Cert.GlaIdeal.τ).loc Cert.GlaIdeal.main_arg0)
      ∧ m' ((c.tc : Thread Cert.GlaReferenceIdeal.nD Cert.GlaReferenceIdeal.τ).loc Cert.GlaReferenceIdeal.main_arg1) = m ((c.tc : Thread Cert.GlaIdeal.nD Cert.GlaIdeal.τ).loc Cert.GlaIdeal.main_arg1)
      ∧ m' ((c.tc : Thread Cert.GlaReferenceIdeal.nD Cert.GlaReferenceIdeal.τ).loc Cert.GlaReferenceIdeal.main_arg2) = m ((c.tc : Thread Cert.GlaIdeal.nD Cert.GlaIdeal.τ).loc Cert.GlaIdeal.main_arg2)
      ∧ m' ((c.tc : Thread Cert.GlaReferenceIdeal.nD Cert.GlaReferenceIdeal.τ).loc Cert.GlaReferenceIdeal.main_arg3) = m ((c.tc : Thread Cert.GlaIdeal.nD Cert.GlaIdeal.τ).loc Cert.GlaIdeal.main_arg3)
      ∧ m' ((c.tc : Thread Cert.GlaReferenceIdeal.nD Cert.GlaReferenceIdeal.τ).loc Cert.GlaReferenceIdeal.main_arg4) = m ((c.tc : Thread Cert.GlaIdeal.nD Cert.GlaIdeal.τ).loc Cert.GlaIdeal.main_arg4)
      ∧ m' ((c.tc : Thread Cert.GlaReferenceIdeal.nD Cert.GlaReferenceIdeal.τ).loc Cert.GlaReferenceIdeal.main_arg5) = m ((c.tc : Thread Cert.GlaIdeal.nD Cert.GlaIdeal.τ).loc Cert.GlaIdeal.main_arg5)
      ∧ m' ((c.tc : Thread Cert.GlaReferenceIdeal.nD Cert.GlaReferenceIdeal.τ).loc Cert.GlaReferenceIdeal.main_arg6) = m ((c.tc : Thread Cert.GlaIdeal.nD Cert.GlaIdeal.τ).loc Cert.GlaIdeal.main_arg6)) →
    ∃ (v0 : (c : Dev Cert.GlaIdeal.nD) → Buf (Elt Ideal) ((c.tc : Thread Cert.GlaIdeal.nD Cert.GlaIdeal.τ).loc Cert.GlaIdeal.main_v21_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v21_1) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v42) = v0 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3)
          ∧ r.2.mem ((c.tc : Thread Cert.GlaReferenceIdeal.nD Cert.GlaReferenceIdeal.τ).loc Cert.GlaReferenceIdeal.main_arg4) = m' ((c.tc : Thread Cert.GlaReferenceIdeal.nD Cert.GlaReferenceIdeal.τ).loc Cert.GlaReferenceIdeal.main_arg4)
          ∧ r.2.mem ((c.tc : Thread Cert.GlaReferenceIdeal.nD Cert.GlaReferenceIdeal.τ).loc Cert.GlaReferenceIdeal.main_arg5) = m' ((c.tc : Thread Cert.GlaReferenceIdeal.nD Cert.GlaReferenceIdeal.τ).loc Cert.GlaReferenceIdeal.main_arg5)
          ∧ r.2.mem ((c.tc : Thread Cert.GlaReferenceIdeal.nD Cert.GlaReferenceIdeal.τ).loc Cert.GlaReferenceIdeal.main_arg6) = m' ((c.tc : Thread Cert.GlaReferenceIdeal.nD Cert.GlaReferenceIdeal.τ).loc Cert.GlaReferenceIdeal.main_arg6))

def Claim : Prop :=
  ∃ (hKernel : Cert.Kernel.Facts) (hKernelIdeal : Cert.KernelIdeal.Facts) (hReferenceIdeal : Cert.ReferenceIdeal.Facts) (hGla : Cert.Gla.Facts) (hGlaIdeal : Cert.GlaIdeal.Facts) (hGlaReferenceIdeal : Cert.GlaReferenceIdeal.Facts) (hPre_finite_args : Cert.Pre_finite_args.Facts) (hPre_finite_args2 : Cert.Pre_finite_args2.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Gla (hGla := hGla)
    ∧ quiescent_GlaIdeal (hGlaIdeal := hGlaIdeal)
    ∧ quiescent_GlaIdeal_pre_finite_args2 (hGlaIdeal := hGlaIdeal) (hPre_finite_args2 := hPre_finite_args2)
    ∧ quiescent_GlaReferenceIdeal (hGlaReferenceIdeal := hGlaReferenceIdeal)
    ∧ quiescent_GlaReferenceIdeal_pre_finite_args2 (hGlaReferenceIdeal := hGlaReferenceIdeal) (hPre_finite_args2 := hPre_finite_args2)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Gla_GlaIdeal
    ∧ algebraic_GlaIdeal_GlaReferenceIdeal_pre_finite_args2 (hGlaIdeal := hGlaIdeal) (hGlaReferenceIdeal := hGlaReferenceIdeal) (hPre_finite_args2 := hPre_finite_args2)
-- ==== Pre_finite_args.lean ====
abbrev S4x8192x1024 : Shape := ⟨3, ![4, 8192, 1024]⟩
abbrev S1024 : Shape := ⟨1, ![1024]⟩
abbrev S1024x256 : Shape := ⟨2, ![1024, 256]⟩
abbrev S64 : Shape := ⟨1, ![64]⟩
abbrev S1x1024 : Shape := ⟨2, ![1, 1024]⟩
abbrev S1x1024x4096 : Shape := ⟨3, ![1, 1024, 4096]⟩
abbrev S1x64 : Shape := ⟨2, ![1, 64]⟩
abbrev S1x32 : Shape := ⟨2, ![1, 32]⟩
abbrev S1x2048x1024 : Shape := ⟨3, ![1, 2048, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S64 : S_.BroadcastsInDim S64 (![] : Fin 0 → Fin S64.rank)
  reducesTo_S64_S_d0 : S64.ReducesTo [0] S_
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x64 : S_.BroadcastsInDim S1x64 (![] : Fin 0 → Fin S1x64.rank)
  reducesTo_S1x64_S_d0_1 : S1x64.ReducesTo [0, 1] S_
  bcast_S_S1x32 : S_.BroadcastsInDim S1x32 (![] : Fin 0 → Fin S1x32.rank)
  reducesTo_S1x32_S_d0_1 : S1x32.ReducesTo [0, 1] S_

variable [Facts]

def fn_part2 {F : FTy → Type} [FloatOps F] (main_arg7 : FVec F S1x64 .f32) (main_arg8 : FVec F S1x32 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  main_v43

def fn_part1 {F : FTy → Type} [FloatOps F] (main_arg4 : FVec F S64 .f32) (main_arg5 : FVec F S1x1024 .f32) (main_arg6 : FVec F S1x1024x4096 .f32) (main_arg7 : FVec F S1x64 .f32) (main_arg8 : FVec F S1x32 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024x4096 .f32 := Host.absf main_arg6
  let main_cst_10 : FVec F S_ .f32 := constant S_ .f32 0x7F800000#32
  let main_v30 : FVec F S1x1024x4096 .f32 := broadcastInDim S1x1024x4096 ![] bcast_S_S1x1024x4096 main_cst_10
  let main_v31 : IVec S1x1024x4096 1 := cmpf .olt main_v29 main_v30
  let main_c_11 : IVec S_ 1 := constantI S_ 1 1#1
  let main_v32 : IVec S_ 1 := (fun x v => Host.reduce IntOp.andi x v reducesTo_S1x1024x4096_S_d0_1_2 h_S_) main_v31 main_c_11
  let main_v33 : IVec S_ 1 := andi main_v28 main_v32
  fn_part2 (F := F) main_arg7 main_arg8 main_v33

def fn {F : FTy → Type} [FloatOps F] (main_arg0 : FVec F S4x8192x1024 .f32) (main_arg1 : FVec F S1024 .f32) (main_arg2 : FVec F S1024x256 .f32) (main_arg3 : FVec F S1024x256 .f32) (main_arg4 : FVec F S64 .f32) (main_arg5 : FVec F S1x1024 .f32) (main_arg6 : FVec F S1x1024x4096 .f32) (main_arg7 : FVec F S1x64 .f32) (main_arg8 : FVec F S1x32 .f32) (main_arg9 : FVec F S1x2048x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_v13 main_v16
-- ==== Pre_finite_args2.lean ====
abbrev S4x8192x1024 : Shape := ⟨3, ![4, 8192, 1024]⟩
abbrev S1x1024 : Shape := ⟨2, ![1, 1024]⟩
abbrev S1x1024x5136 : Shape := ⟨3, ![1, 1024, 5136]⟩
abbrev S1x16x512 : Shape := ⟨3, ![1, 16, 512]⟩
abbrev S1x512 : Shape := ⟨2, ![1, 512]⟩
abbrev S1x2048x1024 : Shape := ⟨3, ![1, 2048, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5136 : S_.BroadcastsInDim S1x1024x5136 (![] : Fin 0 → Fin S1x1024x5136.rank)
  reducesTo_S1x1024x5136_S_d0_1_2 : S1x1024x5136.ReducesTo [0, 1, 2] S_
  bcast_S_S1x16x512 : S_.BroadcastsInDim S1x16x512 (![] : Fin 0 → Fin S1x16x512.rank)
  reducesTo_S1x16x512_S_d0_1_2 : S1x16x512.ReducesTo [0, 1, 2] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_v13 : IVec S_ 1) (main_v16 : IVec S1x16x512 1) : IVec S_ 1 :=
  let main_c_5 : IVec S_ 1 := constantI S_ 1 1#1
  let main_v17 : IVec S_ 1 := (fun x v => Host.reduce IntOp.andi x v reducesTo_S1x16x512_S_d0_1_2 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  main_v23

def fn {F : FTy → Type} [FloatOps F] (main_arg0 : FVec F S4x8192x1024 .f32) (main_arg1 : FVec F S1x1024 .f32) (main_arg2 : FVec F S1x1024x5136 .f32) (main_arg3 : FVec F S1x16x512 .f32) (main_arg4 : FVec F S1x512 .f32) (main_arg5 : FVec F S1x512 .f32) (main_arg6 : FVec F S1x2048x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5136 .f32 := Host.absf main_arg2
  let main_cst_2 : FVec F S_ .f32 := constant S_ .f32 0x7F800000#32
  let main_v10 : FVec F S1x1024x5136 .f32 := broadcastInDim S1x1024x5136 ![] bcast_S_S1x1024x5136 main_cst_2
  let main_v11 : IVec S1x1024x5136 1 := cmpf .olt main_v9 main_v10
  let main_c_3 : IVec S_ 1 := constantI S_ 1 1#1
  let main_v12 : IVec S_ 1 := (fun x v => Host.reduce IntOp.andi x v reducesTo_S1x1024x5136_S_d0_1_2 h_S_) main_v11 main_c_3
  let main_v13 : IVec S_ 1 := andi main_v8 main_v12
  let main_v14 : FVec F S1x16x512 .f32 := Host.absf main_arg3
  let main_cst_4 : FVec F S_ .f32 := constant S_ .f32 0x7F800000#32
  let main_v15 : FVec F S1x16x512 .f32 := broadcastInDim S1x16x512 ![] bcast_S_S1x16x512 main_cst_4
  let main_v16 : IVec S1x16x512 1 := cmpf .olt main_v14 main_v15
  fn_part1 (F := F) main_arg4 main_v13 main_v16
-- ==== Kernel.lean ====
abbrev S4x8192x1024 : Shape := ⟨3, ![4, 8192, 1024]⟩
abbrev S1024 : Shape := ⟨1, ![1024]⟩
abbrev S1024x256 : Shape := ⟨2, ![1024, 256]⟩
abbrev S64 : Shape := ⟨1, ![64]⟩
abbrev S1x1024 : Shape := ⟨2, ![1, 1024]⟩
abbrev S1x1024x4096 : Shape := ⟨3, ![1, 1024, 4096]⟩
abbrev S1x64 : Shape := ⟨2, ![1, 64]⟩
abbrev S1x32 : Shape := ⟨2, ![1, 32]⟩
abbrev S1x2048x1024 : Shape := ⟨3, ![1, 2048, 1024]⟩
abbrev S1024x512 : Shape := ⟨2, ![1024, 512]⟩
abbrev S1024x4096 : Shape := ⟨2, ![1024, 4096]⟩
abbrev S1024x2048 : Shape := ⟨2, ![1024, 2048]⟩
abbrev S2048x1024 : Shape := ⟨2, ![2048, 1024]⟩
abbrev S4x64 : Shape := ⟨2, ![4, 64]⟩
abbrev S256 : Shape := ⟨1, ![256]⟩
abbrev S1x256 : Shape := ⟨2, ![1, 256]⟩
abbrev S32 : Shape := ⟨1, ![32]⟩
abbrev S_ : Shape := ⟨0, ![]⟩
abbrev S256x1 : Shape := ⟨2, ![256, 1]⟩
abbrev S256x256 : Shape := ⟨2, ![256, 256]⟩
abbrev S8192 : Shape := ⟨1, ![8192]⟩
abbrev S8192x1 : Shape := ⟨2, ![8192, 1]⟩
abbrev S8192x32 : Shape := ⟨2, ![8192, 32]⟩
abbrev S8192x128 : Shape := ⟨2, ![8192, 128]⟩
abbrev S4x128x256 : Shape := ⟨3, ![4, 128, 256]⟩
abbrev S1x256x1024 : Shape := ⟨3, ![1, 256, 1024]⟩
abbrev S256x128 : Shape := ⟨2, ![256, 128]⟩
abbrev S1x128x256 : Shape := ⟨3, ![1, 128, 256]⟩
abbrev S4x384x128 : Shape := ⟨3, ![4, 384, 128]⟩
abbrev S256x2048 : Shape := ⟨2, ![256, 2048]⟩
abbrev S4x128x128 : Shape := ⟨3, ![4, 128, 128]⟩
abbrev S256x1024 : Shape := ⟨2, ![256, 1024]⟩
abbrev S256x512 : Shape := ⟨2, ![256, 512]⟩
abbrev S128x256 : Shape := ⟨2, ![128, 256]⟩
abbrev S1x256x128 : Shape := ⟨3, ![1, 256, 128]⟩
abbrev S128x128 : Shape := ⟨2, ![128, 128]⟩
abbrev S512x128 : Shape := ⟨2, ![512, 128]⟩
abbrev S1 : Shape := ⟨1, ![1]⟩
abbrev S128x512 : Shape := ⟨2, ![128, 512]⟩
abbrev S128 : Shape := ⟨1, ![128]⟩
abbrev S128x1 : Shape := ⟨2, ![128, 1]⟩

abbrev nBuf : Space → Nat
  | .hbm => 82
  | .vmem => 28
  | .smem => 1
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x256, .f32⟩
  | .hbm, ⟨3, _⟩ => ⟨S1024x256, .f32⟩
  | .hbm, ⟨4, _⟩ => ⟨S64, .f32⟩
  | .hbm, ⟨5, _⟩ => ⟨S1x1024, .f32⟩
  | .hbm, ⟨6, _⟩ => ⟨S1x1024x4096, .f32⟩
  | .hbm, ⟨7, _⟩ => ⟨S1x64, .f32⟩
  | .hbm, ⟨8, _⟩ => ⟨S1x32, .f32⟩
  | .hbm, ⟨9, _⟩ => ⟨S1x2048x1024, .f32⟩
  | .hbm, ⟨10, _⟩ => ⟨S1024x512, .f32⟩
  | .hbm, ⟨11, _⟩ => ⟨S1024x512, .bf16⟩
  | .hbm, ⟨12, _⟩ => ⟨S1024x4096, .f32⟩
  | .hbm, ⟨13, _⟩ => ⟨S1024x2048, .f32⟩
  | .hbm, ⟨14, _⟩ => ⟨S1024x2048, .bf16⟩
  | .hbm, ⟨15, _⟩ => ⟨S1024x4096, .f32⟩
  | .hbm, ⟨16, _⟩ => ⟨S1024x2048, .f32⟩
  | .hbm, ⟨17, _⟩ => ⟨S1024x2048, .bf16⟩
  | .hbm, ⟨18, _⟩ => ⟨S2048x1024, .f32⟩
  | .hbm, ⟨19, _⟩ => ⟨S2048x1024, .bf16⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x64, .f32⟩
  | .hbm, ⟨24, _⟩ => ⟨S4x64, .f32⟩
  | .hbm, ⟨25, _⟩ => ⟨S256, .f32⟩
  | .hbm, ⟨26, _⟩ => ⟨S1x256, .f32⟩
  | .hbm, ⟨27, _⟩ => ⟨S64, .f32⟩
  | .hbm, ⟨28, _⟩ => ⟨S1x64, .f32⟩
  | .hbm, ⟨29, _⟩ => ⟨S4x64, .f32⟩
  | .hbm, ⟨30, _⟩ => ⟨S256, .f32⟩
  | .hbm, ⟨31, _⟩ => ⟨S1x256, .f32⟩
  | .hbm, ⟨32, _⟩ => ⟨S32, .f32⟩
  | .hbm, ⟨33, _⟩ => ⟨S256, .i32⟩
  | .hbm, ⟨34, _⟩ => ⟨S_, .i32⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S256, .i32⟩
  | .hbm, ⟨43, _⟩ => ⟨S256, .i32⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S256, .i1⟩
  | .hbm, ⟨48, _⟩ => ⟨S_, .i32⟩
  | .hbm, ⟨49, _⟩ => ⟨S256, .i32⟩
  | .hbm, ⟨50, _⟩ => ⟨S256, .i32⟩
  | .hbm, ⟨51, _⟩ => ⟨S256, .i32⟩
  | .hbm, ⟨52, _⟩ => ⟨S256x1, .i32⟩
  | .hbm, ⟨53, _⟩ => ⟨S1x256, .i32⟩
  | .hbm, ⟨54, _⟩ => ⟨S256x256, .i32⟩
  | .hbm, ⟨55, _⟩ => ⟨S256x256, .i32⟩
  | .hbm, ⟨56, _⟩ => ⟨S256x256, .i1⟩
  | .hbm, ⟨57, _⟩ => ⟨S256x256, .bf16⟩
  | .hbm, ⟨58, _⟩ => ⟨S8192, .i32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S8192, .f32⟩
  | .hbm, ⟨68, _⟩ => ⟨S8192x1, .f32⟩
  | .hbm, ⟨69, _⟩ => ⟨S1x32, .f32⟩
  | .hbm, ⟨70, _⟩ => ⟨S8192x32, .f32⟩
  | .hbm, ⟨71, _⟩ => ⟨S8192x32, .f32⟩
  | .hbm, ⟨72, _⟩ => ⟨S8192x32, .f32⟩
  | .hbm, ⟨73, _⟩ => ⟨S8192x32, .f32⟩
  | .hbm, ⟨74, _⟩ => ⟨S8192x32, .f32⟩
  | .hbm, ⟨75, _⟩ => ⟨S8192x128, .f32⟩
  | .hbm, ⟨76, _⟩ => ⟨S8192x32, .f32⟩
  | .hbm, ⟨77, _⟩ => ⟨S8192x32, .f32⟩
  | .hbm, ⟨78, _⟩ => ⟨S8192x128, .f32⟩
  | .hbm, ⟨79, _⟩ => ⟨S4x8192x1024, .f32⟩
  | .hbm, ⟨80, _⟩ => ⟨S4x128x256, .f32⟩
  | .hbm, ⟨81, _⟩ => ⟨S4x128x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1x256, .f32⟩
  | .local _ .vmem, ⟨5, _⟩ => ⟨S256x256, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x1024, .f32⟩
  | .local _ .vmem, ⟨11, _⟩ => ⟨S1024x2048, .bf16⟩
  | .local _ .vmem, ⟨12, _⟩ => ⟨S1024x2048, .bf16⟩
  | .local _ .vmem, ⟨13, _⟩ => ⟨S1x256, .f32⟩
  | .local _ .vmem, ⟨14, _⟩ => ⟨S2048x1024, .bf16⟩
  | .local _ .vmem, ⟨15, _⟩ => ⟨S1x256x1024, .f32⟩
  | .local _ .vmem, ⟨16, _⟩ => ⟨S1x256x1024, .f32⟩
  | .local _ .vmem, ⟨17, _⟩ => ⟨S1x128x256, .f32⟩
  | .local _ .vmem, ⟨18, _⟩ => ⟨S1x128x256, .f32⟩
  | .local _ .vmem, ⟨19, _⟩ => ⟨S1x128x256, .f32⟩
  | .local _ .vmem, ⟨20, _⟩ => ⟨S1x128x256, .f32⟩
  | .local _ .vmem, ⟨21, _⟩ => ⟨S4x384x128, .bf16⟩
  | .local _ .vmem, ⟨22, _⟩ => ⟨S4x384x128, .bf16⟩
  | .local _ .vmem, ⟨23, _⟩ => ⟨S4x384x128, .bf16⟩
  | .local _ .vmem, ⟨24, _⟩ => ⟨S4x384x128, .bf16⟩
  | .local _ .vmem, ⟨25, _⟩ => ⟨S256x2048, .bf16⟩
  | .local _ .vmem, ⟨26, _⟩ => ⟨S256x2048, .f32⟩
  | .local _ .vmem, ⟨27, _⟩ => ⟨S256x2048, .bf16⟩
  | .local _ .smem, ⟨0, _⟩ => ⟨S32, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst : Ref sig .tc := ⟨.hbm, 61, rfl⟩
abbrev main_v34 : Ref sig .tc := ⟨.hbm, 62, rfl⟩
abbrev main_v35 : Ref sig .tc := ⟨.hbm, 63, rfl⟩
abbrev main_cst_0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50_0 : Ref sig .tc := ⟨.hbm, 79, rfl⟩
abbrev main_v50_1 : Ref sig .tc := ⟨.hbm, 80, rfl⟩
abbrev main_v50_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v84 : BitVec 1 := Scalar.cmpi .eq arg1 c31_i32
  let v85 : BitVec 32 := Scalar.extui v84
  let c0_i32_30 : BitVec 32 := 0#32
  let v86 : BitVec 1 := Scalar.cmpi .ne v85 c0_i32_30
  v86

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .smem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S4x8192x1024 : Shape := ⟨3, ![4, 8192, 1024]⟩
abbrev S1024 : Shape := ⟨1, ![1024]⟩
abbrev S1024x256 : Shape := ⟨2, ![1024, 256]⟩
abbrev S64 : Shape := ⟨1, ![64]⟩
abbrev S1x1024 : Shape := ⟨2, ![1, 1024]⟩
abbrev S1x1024x4096 : Shape := ⟨3, ![1, 1024, 4096]⟩
abbrev S1x64 : Shape := ⟨2, ![1, 64]⟩
abbrev S1x32 : Shape := ⟨2, ![1, 32]⟩
abbrev S1x2048x1024 : Shape := ⟨3, ![1, 2048, 1024]⟩
abbrev S8192 : Shape := ⟨1, ![8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x256 : Shape := ⟨3, ![4, 8192, 256]⟩
abbrev S4x8192x4x64 : Shape := ⟨4, ![4, 8192, 4, 64]⟩
abbrev S4x8192x4 : Shape := ⟨3, ![4, 8192, 4]⟩
abbrev S4x8192x4x1 : Shape := ⟨4, ![4, 8192, 4, 1]⟩
abbrev S1x1x1x64 : Shape := ⟨4, ![1, 1, 1, 64]⟩
abbrev S32 : Shape := ⟨1, ![32]⟩
abbrev S8192x1 : Shape := ⟨2, ![8192, 1]⟩
abbrev S8192x32 : Shape := ⟨2, ![8192, 32]⟩
abbrev S1x8192x1x32 : Shape := ⟨4, ![1, 8192, 1, 32]⟩
abbrev S4x8192x4x32 : Shape := ⟨4, ![4, 8192, 4, 32]⟩
abbrev S1024x4096 : Shape := ⟨2, ![1024, 4096]⟩
abbrev S4x8192x4096 : Shape := ⟨3, ![4, 8192, 4096]⟩
abbrev S4x8192x2048 : Shape := ⟨3, ![4, 8192, 2048]⟩
abbrev S4x8192x32x64 : Shape := ⟨4, ![4, 8192, 32, 64]⟩
abbrev S4x8192x32 : Shape := ⟨3, ![4, 8192, 32]⟩
abbrev S4x8192x32x1 : Shape := ⟨4, ![4, 8192, 32, 1]⟩
abbrev S4x8192x32x32 : Shape := ⟨4, ![4, 8192, 32, 32]⟩
abbrev S4x8192x4x8x64 : Shape := ⟨5, ![4, 8192, 4, 8, 64]⟩
abbrev S4x4x8192x8192x8 : Shape := ⟨5, ![4, 4, 8192, 8192, 8]⟩
abbrev S4x4x8x8192x8192 : Shape := ⟨5, ![4, 4, 8, 8192, 8192]⟩
abbrev S1x8192 : Shape := ⟨2, ![1, 8192]⟩
abbrev S8192x8192 : Shape := ⟨2, ![8192, 8192]⟩
abbrev S4x8 : Shape := ⟨2, ![4, 8]⟩
abbrev S1x4x8x1x1 : Shape := ⟨5, ![1, 4, 8, 1, 1]⟩
abbrev S4x4x8x8192 : Shape := ⟨4, ![4, 4, 8, 8192]⟩
abbrev S4x4x8x8192x1 : Shape := ⟨5, ![4, 4, 8, 8192, 1]⟩
abbrev S4x4x64x8x8192 : Shape := ⟨5, ![4, 4, 64, 8, 8192]⟩
abbrev S2048x1024 : Shape := ⟨2, ![2048, 1024]⟩
abbrev S4x128x4x64 : Shape := ⟨4, ![4, 128, 4, 64]⟩
abbrev S4x128x256 : Shape := ⟨3, ![4, 128, 256]⟩

abbrev nBuf : Space → Nat
  | .hbm => 211
  | .vmem => 0
  | .smem => 0
  | _ => 0

abbrev hbmTy0_0 (i : Nat) : BufTy := match i % 128 with
  | 0 => ⟨S4x8192x1024, .f32⟩
  | 1 => ⟨S1024, .f32⟩
  | 2 => ⟨S1024x256, .f32⟩
  | 3 => ⟨S1024x256, .f32⟩
  | 4 => ⟨S64, .f32⟩
  | 5 => ⟨S1x1024, .f32⟩
  | 6 => ⟨S1x1024x4096, .f32⟩
  | 7 => ⟨S1x64, .f32⟩
  | 8 => ⟨S1x32, .f32⟩
  | 9 => ⟨S1x2048x1024, .f32⟩
  | 10 => ⟨S8192, .i32⟩
  | 11 => ⟨S4x8192x1024, .f32⟩
  | 12 => ⟨S_, .f32⟩
  | 13 => ⟨S4x8192, .f32⟩
  | 14 => ⟨S4x8192x1, .f32⟩
  | 15 => ⟨S_, .f32⟩
  | 16 => ⟨S4x8192x1, .f32⟩
  | 17 => ⟨S4x8192x1, .f32⟩
  | 18 => ⟨S_, .f32⟩
  | 19 => ⟨S4x8192x1, .f32⟩
  | 20 => ⟨S4x8192x1, .f32⟩
  | 21 => ⟨S4x8192x1, .f32⟩
  | 22 => ⟨S4x8192x1024, .f32⟩
  | 23 => ⟨S4x8192x1024, .f32⟩
  | 24 => ⟨S1x1x1024, .f32⟩
  | 25 => ⟨S4x8192x1024, .f32⟩
  | 26 => ⟨S4x8192x1024, .f32⟩
  | 27 => ⟨S4x8192x256, .f32⟩
  | 28 => ⟨S4x8192x4x64, .f32⟩
  | 29 => ⟨S4x8192x4x64, .f32⟩
  | 30 => ⟨S_, .f32⟩
  | 31 => ⟨S4x8192x4, .f32⟩
  | 32 => ⟨S4x8192x4x1, .f32⟩
  | 33 => ⟨S_, .f32⟩
  | 34 => ⟨S4x8192x4x1, .f32⟩
  | 35 => ⟨S4x8192x4x1, .f32⟩
  | 36 => ⟨S_, .f32⟩
  | 37 => ⟨S4x8192x4x1, .f32⟩
  | 38 => ⟨S4x8192x4x1, .f32⟩
  | 39 => ⟨S4x8192x4x1, .f32⟩
  | 40 => ⟨S4x8192x4x64, .f32⟩
  | 41 => ⟨S4x8192x4x64, .f32⟩
  | 42 => ⟨S1x1x1x64, .f32⟩
  | 43 => ⟨S4x8192x4x64, .f32⟩
  | 44 => ⟨S4x8192x4x64, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S8192, .f32⟩
  | 54 => ⟨S8192x1, .f32⟩
  | 55 => ⟨S1x32, .f32⟩
  | 56 => ⟨S8192x32, .f32⟩
  | 57 => ⟨S8192x32, .f32⟩
  | 58 => ⟨S8192x32, .f32⟩
  | 59 => ⟨S8192x32, .f32⟩
  | 60 => ⟨S1x8192x1x32, .f32⟩
  | 61 => ⟨S8192x32, .f32⟩
  | 62 => ⟨S1x8192x1x32, .f32⟩
  | 63 => ⟨S4x8192x4x32, .f32⟩
  | 64 => ⟨S4x8192x4x32, .f32⟩
  | 65 => ⟨S4x8192x4x32, .f32⟩
  | 66 => ⟨S4x8192x4x32, .f32⟩
  | 67 => ⟨S4x8192x4x32, .f32⟩
  | 68 => ⟨S4x8192x4x32, .f32⟩
  | 69 => ⟨S4x8192x4x32, .f32⟩
  | 70 => ⟨S4x8192x4x32, .f32⟩
  | 71 => ⟨S4x8192x4x32, .f32⟩
  | 72 => ⟨S4x8192x4x32, .f32⟩
  | 73 => ⟨S4x8192x4x32, .f32⟩
  | 74 => ⟨S4x8192x4x32, .f32⟩
  | 75 => ⟨S4x8192x4x64, .f32⟩
  | 76 => ⟨S4x8192x256, .f32⟩
  | 77 => ⟨S4x8192x4x64, .f32⟩
  | 78 => ⟨S1024, .f32⟩
  | 79 => ⟨S4x8192x1024, .f32⟩
  | 80 => ⟨S_, .f32⟩
  | 81 => ⟨S4x8192, .f32⟩
  | 82 => ⟨S4x8192x1, .f32⟩
  | 83 => ⟨S_, .f32⟩
  | 84 => ⟨S4x8192x1, .f32⟩
  | 85 => ⟨S4x8192x1, .f32⟩
  | 86 => ⟨S_, .f32⟩
  | 87 => ⟨S4x8192x1, .f32⟩
  | 88 => ⟨S4x8192x1, .f32⟩
  | 89 => ⟨S4x8192x1, .f32⟩
  | 90 => ⟨S4x8192x1024, .f32⟩
  | 91 => ⟨S4x8192x1024, .f32⟩
  | 92 => ⟨S1x1x1024, .f32⟩
  | 93 => ⟨S4x8192x1024, .f32⟩
  | 94 => ⟨S4x8192x1024, .f32⟩
  | 95 => ⟨S1024x4096, .f32⟩
  | 96 => ⟨S4x8192x4096, .f32⟩
  | 97 => ⟨S4x8192x2048, .f32⟩
  | 98 => ⟨S4x8192x2048, .f32⟩
  | 99 => ⟨S4x8192x32x64, .f32⟩
  | 100 => ⟨S64, .f32⟩
  | 101 => ⟨S4x8192x32x64, .f32⟩
  | 102 => ⟨S_, .f32⟩
  | 103 => ⟨S4x8192x32, .f32⟩
  | 104 => ⟨S4x8192x32x1, .f32⟩
  | 105 => ⟨S_, .f32⟩
  | 106 => ⟨S4x8192x32x1, .f32⟩
  | 107 => ⟨S4x8192x32x1, .f32⟩
  | 108 => ⟨S_, .f32⟩
  | 109 => ⟨S4x8192x32x1, .f32⟩
  | 110 => ⟨S4x8192x32x1, .f32⟩
  | 111 => ⟨S4x8192x32x1, .f32⟩
  | 112 => ⟨S4x8192x32x64, .f32⟩
  | 113 => ⟨S4x8192x32x64, .f32⟩
  | 114 => ⟨S1x1x1x64, .f32⟩
  | 115 => ⟨S4x8192x32x64, .f32⟩
  | 116 => ⟨S4x8192x32x64, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S8192, .f32⟩
  | 126 => ⟨S8192x1, .f32⟩
  | 127 => ⟨S1x32, .f32⟩
  | _ => ⟨S4x8192x1024, .f32⟩

abbrev hbmTy0_1 (i : Nat) : BufTy := match i % 128 with
  | 0 => ⟨S8192x32, .f32⟩
  | 1 => ⟨S8192x32, .f32⟩
  | 2 => ⟨S8192x32, .f32⟩
  | 3 => ⟨S8192x32, .f32⟩
  | 4 => ⟨S1x8192x1x32, .f32⟩
  | 5 => ⟨S8192x32, .f32⟩
  | 6 => ⟨S1x8192x1x32, .f32⟩
  | 7 => ⟨S4x8192x32x32, .f32⟩
  | 8 => ⟨S4x8192x32x32, .f32⟩
  | 9 => ⟨S4x8192x32x32, .f32⟩
  | 10 => ⟨S4x8192x32x32, .f32⟩
  | 11 => ⟨S4x8192x32x32, .f32⟩
  | 12 => ⟨S4x8192x32x32, .f32⟩
  | 13 => ⟨S4x8192x32x32, .f32⟩
  | 14 => ⟨S4x8192x32x32, .f32⟩
  | 15 => ⟨S4x8192x32x32, .f32⟩
  | 16 => ⟨S4x8192x32x32, .f32⟩
  | 17 => ⟨S4x8192x32x32, .f32⟩
  | 18 => ⟨S4x8192x32x32, .f32⟩
  | 19 => ⟨S4x8192x32x64, .f32⟩
  | 20 => ⟨S32, .f32⟩
  | 21 => ⟨S4x8192x4x8x64, .f32⟩
  | 22 => ⟨S4x4x8192x8192x8, .f32⟩
  | 23 => ⟨S4x4x8x8192x8192, .f32⟩
  | 24 => ⟨S_, .f32⟩
  | 25 => ⟨S4x4x8x8192x8192, .f32⟩
  | 26 => ⟨S4x4x8x8192x8192, .f32⟩
  | 27 => ⟨S8192x1, .i32⟩
  | 28 => ⟨S1x8192, .i32⟩
  | 29 => ⟨S8192x8192, .i32⟩
  | 30 => ⟨S8192x8192, .i32⟩
  | 31 => ⟨S8192x8192, .i32⟩
  | 32 => ⟨S_, .i32⟩
  | 33 => ⟨S8192x8192, .i32⟩
  | 34 => ⟨S8192x8192, .i1⟩
  | 35 => ⟨S_, .i32⟩
  | 36 => ⟨S8192x8192, .i32⟩
  | 37 => ⟨S8192x8192, .i1⟩
  | 38 => ⟨S8192x8192, .i1⟩
  | 39 => ⟨S_, .f32⟩
  | 40 => ⟨S_, .f32⟩
  | 41 => ⟨S4x4x8x8192x8192, .i1⟩
  | 42 => ⟨S4x4x8x8192x8192, .f32⟩
  | 43 => ⟨S4x4x8x8192x8192, .f32⟩
  | 44 => ⟨S4x8, .f32⟩
  | 45 => ⟨S1x4x8x1x1, .f32⟩
  | 46 => ⟨S_, .f32⟩
  | 47 => ⟨S4x4x8x8192, .f32⟩
  | 48 => ⟨S4x4x8x8192x1, .f32⟩
  | 49 => ⟨S4x4x8x8192x1, .f32⟩
  | 50 => ⟨S4x4x8x8192x1, .f32⟩
  | 51 => ⟨S4x4x8x8192x8192, .f32⟩
  | 52 => ⟨S4x4x8x8192x8192, .f32⟩
  | 53 => ⟨S4x4x8x8192x8192, .f32⟩
  | 54 => ⟨S_, .f32⟩
  | 55 => ⟨S4x4x8x8192, .f32⟩
  | 56 => ⟨S4x4x8x8192x1, .f32⟩
  | 57 => ⟨S4x4x8x8192x1, .f32⟩
  | 58 => ⟨S4x4x8x8192x1, .f32⟩
  | 59 => ⟨S4x4x8x8192x1, .f32⟩
  | 60 => ⟨S4x4x8x8192x1, .f32⟩
  | 61 => ⟨S4x4x8x8192x8192, .f32⟩
  | 62 => ⟨S4x4x8x8192x8192, .f32⟩
  | 63 => ⟨S4x4x64x8x8192, .f32⟩
  | 64 => ⟨S4x8192x4x8x64, .f32⟩
  | 65 => ⟨S4x8192x2048, .f32⟩
  | 66 => ⟨S4x8192x2048, .f32⟩
  | 67 => ⟨S4x8192x2048, .f32⟩
  | 68 => ⟨S_, .f32⟩
  | 69 => ⟨S4x8192x2048, .f32⟩
  | 70 => ⟨S4x8192x2048, .f32⟩
  | 71 => ⟨S_, .f32⟩
  | 72 => ⟨S4x8192x2048, .f32⟩
  | 73 => ⟨S4x8192x2048, .f32⟩
  | 74 => ⟨S4x8192x2048, .f32⟩
  | 75 => ⟨S4x8192x2048, .f32⟩
  | 76 => ⟨S2048x1024, .f32⟩
  | 77 => ⟨S4x8192x1024, .f32⟩
  | 78 => ⟨S4x8192x1024, .f32⟩
  | 79 => ⟨S4x128x4x64, .f32⟩
  | 80 => ⟨S4x128x256, .f32⟩
  | 81 => ⟨S4x128x4x64, .f32⟩
  | 82 => ⟨S4x128x256, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_7 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_10 : Ref sig .tc := ⟨.hbm, 102, rfl⟩
abbrev main_v81 : Ref sig .tc := ⟨.hbm, 103, rfl⟩
abbrev main_v82 : Ref sig .tc := ⟨.hbm, 104, rfl⟩
abbrev main_cst_11 : Ref sig .tc := ⟨.hbm, 105, rfl⟩
abbrev main_v83 : Ref sig .tc := ⟨.hbm, 106, rfl⟩
abbrev main_v84 : Ref sig .tc := ⟨.hbm, 107, rfl⟩
abbrev main_cst_12 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_13 : Ref sig .tc := ⟨.hbm, 119, rfl⟩
abbrev main_v95 : Ref sig .tc := ⟨.hbm, 120, rfl⟩
abbrev main_v96 : Ref sig .tc := ⟨.hbm, 121, rfl⟩
abbrev main_cst_14 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_cst_15 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_c : Ref sig .tc := ⟨.hbm, 160, rfl⟩
abbrev main_v133 : Ref sig .tc := ⟨.hbm, 161, rfl⟩
abbrev main_v134 : Ref sig .tc := ⟨.hbm, 162, rfl⟩
abbrev main_c_16 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_17 : Ref sig .tc := ⟨.hbm, 167, rfl⟩
abbrev main_call0_v0 : Ref sig .tc := ⟨.hbm, 168, rfl⟩
abbrev main_call0_v1 : Ref sig .tc := ⟨.hbm, 169, rfl⟩
abbrev main_call0_v2 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_cst_18 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_cst_19 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_call1_v0 : Ref sig .tc := ⟨.hbm, 194, rfl⟩
abbrev main_call1_v1 : Ref sig .tc := ⟨.hbm, 195, rfl⟩
abbrev main_call1_cst : Ref sig .tc := ⟨.hbm, 196, rfl⟩
abbrev main_call1_v2 : Ref sig .tc := ⟨.hbm, 197, rfl⟩
abbrev main_call1_v3 : Ref sig .tc := ⟨.hbm, 198, rfl⟩
abbrev main_call1_cst_0 : Ref sig .tc := ⟨.hbm, 199, rfl⟩
abbrev main_call1_v4 : Ref sig .tc := ⟨.hbm, 200, rfl⟩
abbrev main_call1_v5 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩

abbrev nD : Nat := 1
abbrev τ : Topo := Topo.v7x

variable {F : FTy → Type} [FloatOps F]
-- ==== Gla.lean ====
abbrev S4x8192x1024 : Shape := ⟨3, ![4, 8192, 1024]⟩
abbrev S1x1024 : Shape := ⟨2, ![1, 1024]⟩
abbrev S1x1024x5136 : Shape := ⟨3, ![1, 1024, 5136]⟩
abbrev S1x16x512 : Shape := ⟨3, ![1, 16, 512]⟩
abbrev S1x512 : Shape := ⟨2, ![1, 512]⟩
abbrev S1x2048x1024 : Shape := ⟨3, ![1, 2048, 1024]⟩
abbrev S1024x5136 : Shape := ⟨2, ![1024, 5136]⟩
abbrev S1024x1024 : Shape := ⟨2, ![1024, 1024]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S16x512 : Shape := ⟨2, ![16, 512]⟩
abbrev S128x512 : Shape := ⟨2, ![128, 512]⟩
abbrev S512 : Shape := ⟨1, ![512]⟩
abbrev S1024 : Shape := ⟨1, ![1024]⟩
abbrev S2048x1024 : Shape := ⟨2, ![2048, 1024]⟩
abbrev S4x4x128x512 : Shape := ⟨4, ![4, 4, 128, 512]⟩
abbrev S1x256x1024 : Shape := ⟨3, ![1, 256, 1024]⟩
abbrev S1x4x128x512 : Shape := ⟨4, ![1, 4, 128, 512]⟩
abbrev S256x1024 : Shape := ⟨2, ![256, 1024]⟩
abbrev S256x2048 : Shape := ⟨2, ![256, 2048]⟩
abbrev S256x512 : Shape := ⟨2, ![256, 512]⟩
abbrev S4x128x512 : Shape := ⟨3, ![4, 128, 512]⟩
abbrev S256 : Shape := ⟨1, ![256]⟩
abbrev S256x1 : Shape := ⟨2, ![256, 1]⟩
abbrev S256x128 : Shape := ⟨2, ![256, 128]⟩
abbrev S128x128 : Shape := ⟨2, ![128, 128]⟩
abbrev S1x256x512 : Shape := ⟨3, ![1, 256, 512]⟩
abbrev S1 : Shape := ⟨1, ![1]⟩
abbrev S1x1x1 : Shape := ⟨3, ![1, 1, 1]⟩
abbrev S1x1x128x512 : Shape := ⟨4, ![1, 1, 128, 512]⟩
abbrev S1x128 : Shape := ⟨2, ![1, 128]⟩
abbrev S8x1 : Shape := ⟨2, ![8, 1]⟩
abbrev S8x128 : Shape := ⟨2, ![8, 128]⟩
abbrev S128 : Shape := ⟨1, ![128]⟩
abbrev S8x512 : Shape := ⟨2, ![8, 512]⟩
abbrev S128x1 : Shape := ⟨2, ![128, 1]⟩

abbrev nBuf : Space → Nat
  | .hbm => 34
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5136, .f32⟩
  | .hbm, ⟨3, _⟩ => ⟨S1x16x512, .f32⟩
  | .hbm, ⟨4, _⟩ => ⟨S1x512, .f32⟩
  | .hbm, ⟨5, _⟩ => ⟨S1x512, .f32⟩
  | .hbm, ⟨6, _⟩ => ⟨S1x2048x1024, .f32⟩
  | .hbm, ⟨7, _⟩ => ⟨S1024x5136, .f32⟩
  | .hbm, ⟨8, _⟩ => ⟨S1024x1024, .f32⟩
  | .hbm, ⟨9, _⟩ => ⟨S1024x1024, .bf16⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S16x512, .f32⟩
  | .hbm, ⟨20, _⟩ => ⟨S_, .i32⟩
  | .hbm, ⟨21, _⟩ => ⟨S_, .f32⟩
  | .hbm, ⟨22, _⟩ => ⟨S128x512, .f32⟩
  | .hbm, ⟨23, _⟩ => ⟨S128x512, .bf16⟩
  | .hbm, ⟨24, _⟩ => ⟨S512, .f32⟩
  | .hbm, ⟨25, _⟩ => ⟨S1x512, .f32⟩
  | .hbm, ⟨26, _⟩ => ⟨S1024, .f32⟩
  | .hbm, ⟨27, _⟩ => ⟨S1x1024, .f32⟩
  | .hbm, ⟨28, _⟩ => ⟨S512, .f32⟩
  | .hbm, ⟨29, _⟩ => ⟨S1x512, .f32⟩
  | .hbm, ⟨30, _⟩ => ⟨S2048x1024, .f32⟩
  | .hbm, ⟨31, _⟩ => ⟨S2048x1024, .bf16⟩
  | .hbm, ⟨32, _⟩ => ⟨S4x8192x1024, .f32⟩
  | .hbm, ⟨33, _⟩ => ⟨S4x4x128x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x128, .bf16⟩
  | .local _ .vmem, ⟨7, _⟩ => ⟨S128x512, .bf16⟩
  | .local _ .vmem, ⟨8, _⟩ => ⟨S1x512, .f32⟩
  | .local _ .vmem, ⟨9, _⟩ => ⟨S1x512, .f32⟩
  | .local _ .vmem, ⟨10, _⟩ => ⟨S2048x1024, .bf16⟩
  | .local _ .vmem, ⟨11, _⟩ => ⟨S1x256x1024, .f32⟩
  | .local _ .vmem, ⟨12, _⟩ => ⟨S1x256x1024, .f32⟩
  | .local _ .vmem, ⟨13, _⟩ => ⟨S1x4x128x512, .f32⟩
  | .local _ .vmem, ⟨14, _⟩ => ⟨S1x4x128x512, .f32⟩
  | .local _ .vmem, ⟨15, _⟩ => ⟨S256x1024, .f32⟩
  | .local _ .vmem, ⟨16, _⟩ => ⟨S256x2048, .f32⟩
  | .local _ .vmem, ⟨17, _⟩ => ⟨S256x2048, .f32⟩
  | .local _ .vmem, ⟨18, _⟩ => ⟨S256x512, .f32⟩
  | .local _ .vmem, ⟨19, _⟩ => ⟨S256x2048, .f32⟩
  | .local _ .vmem, ⟨20, _⟩ => ⟨S256x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32_265 : BitVec 32 := 0#32
  let c128_i32 : BitVec 32 := 128#32
  let v493 : BitVec 32 := Scalar.addi c0_i32_265 c128_i32
  let c1_i32 : BitVec 32 := 1#32
  ⟨c0_i32_265, v493, c1_i32⟩
def k0_mult1 (k0_t1 : Fin k0_t1_loop.trips) : BitVec 32 :=
  let c0_i32_374 : BitVec 32 := 0#32
  let c0_i32_265 : BitVec 32 := 0#32
  let c1_i32 : BitVec 32 := 1#32
  let arg20 : BitVec 32 := Scf.iv c0_i32_265 c1_i32 k0_t1
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  v601
def k0_off1 (k0_t1 : Fin k0_t1_loop.trips) : Fin 2 → Nat :=
  let c0_i32_374 : BitVec 32 := 0#32
  let c0_i32_265 : BitVec 32 := 0#32
  let c1_i32 : BitVec 32 := 1#32
  let arg20 : BitVec 32 := Scf.iv c0_i32_265 c1_i32 k0_t1
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  let v602 : BitVec 32 := v601
  let v615 : Index := Scalar.indexCast v602
  let c0_381 : Index := 0#32
  ![v615.toNat, 0]
def k0_off2 (k0_t1 : Fin k0_t1_loop.trips) : Fin 2 → Nat :=
  let c0_i32_374 : BitVec 32 := 0#32
  let c0_i32_265 : BitVec 32 := 0#32
  let c1_i32 : BitVec 32 := 1#32
  let arg20 : BitVec 32 := Scf.iv c0_i32_265 c1_i32 k0_t1
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  let v602 : BitVec 32 := v601
  let v623 : Index := Scalar.indexCast v602
  let c512_384 : Index := 512#32
  ![v623.toNat, 512]
def k0_off3 (k0_t1 : Fin k0_t1_loop.trips) : Fin 2 → Nat :=
  let c0_i32_374 : BitVec 32 := 0#32
  let c0_i32_265 : BitVec 32 := 0#32
  let c1_i32 : BitVec 32 := 1#32
  let arg20 : BitVec 32 := Scf.iv c0_i32_265 c1_i32 k0_t1
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  let v602 : BitVec 32 := v601
  let v631 : Index := Scalar.indexCast v602
  let c0_387 : Index := 0#32
  ![v631.toNat, 0]
@[reducible] def k0_t2_loop : Scf.Loop 32 :=
  let c0_i32_277 : BitVec 32 := 0#32
  let c128_i32_278 : BitVec 32 := 128#32
  let v505 : BitVec 32 := Scalar.addi c0_i32_277 c128_i32_278
  let c1_i32_279 : BitVec 32 := 1#32
  ⟨c0_i32_277, v505, c1_i32_279⟩
def k0_mult2 (k0_t2 : Fin k0_t2_loop.trips) : BitVec 32 :=
  let c0_i32_374 : BitVec 32 := 0#32
  let c0_i32_277 : BitVec 32 := 0#32
  let c1_i32_279 : BitVec 32 := 1#32
  let arg20 : BitVec 32 := Scf.iv c0_i32_277 c1_i32_279 k0_t2
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  v601
def k0_off4 (k0_t2 : Fin k0_t2_loop.trips) : Fin 2 → Nat :=
  let c0_i32_374 : BitVec 32 := 0#32
  let c0_i32_277 : BitVec 32 := 0#32
  let c1_i32_279 : BitVec 32 := 1#32
  let arg20 : BitVec 32 := Scf.iv c0_i32_277 c1_i32_279 k0_t2
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  let v602 : BitVec 32 := v601
  let v615 : Index := Scalar.indexCast v602
  let c128_381 : Index := 128#32
  ![v615.toNat, 128]
def k0_off5 (k0_t2 : Fin k0_t2_loop.trips) : Fin 2 → Nat :=
  let c0_i32_374 : BitVec 32 := 0#32
  let c0_i32_277 : BitVec 32 := 0#32
  let c1_i32_279 : BitVec 32 := 1#32
  let arg20 : BitVec 32 := Scf.iv c0_i32_277 c1_i32_279 k0_t2
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  let v602 : BitVec 32 := v601
  let v623 : Index := Scalar.indexCast v602
  let c640_384 : Index := 640#32
  ![v623.toNat, 640]
def k0_off6 (k0_t2 : Fin k0_t2_loop.trips) : Fin 2 → Nat :=
  let c0_i32_374 : BitVec 32 := 0#32
  let c0_i32_277 : BitVec 32 := 0#32
  let c1_i32_279 : BitVec 32 := 1#32
  let arg20 : BitVec 32 := Scf.iv c0_i32_277 c1_i32_279 k0_t2
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  let v602 : BitVec 32 := v601
  let v631 : Index := Scalar.indexCast v602
  let c512_387 : Index := 512#32
  ![v631.toNat, 512]
@[reducible] def k0_t3_loop : Scf.Loop 32 :=
  let c0_i32_291 : BitVec 32 := 0#32
  let c128_i32_292 : BitVec 32 := 128#32
  let v517 : BitVec 32 := Scalar.addi c0_i32_291 c128_i32_292
  let c1_i32_293 : BitVec 32 := 1#32
  ⟨c0_i32_291, v517, c1_i32_293⟩
def k0_mult3 (k0_t3 : Fin k0_t3_loop.trips) : BitVec 32 :=
  let c0_i32_374 : BitVec 32 := 0#32
  let c0_i32_291 : BitVec 32 := 0#32
  let c1_i32_293 : BitVec 32 := 1#32
  let arg20 : BitVec 32 := Scf.iv c0_i32_291 c1_i32_293 k0_t3
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  v601
def k0_off7 (k0_t3 : Fin k0_t3_loop.trips) : Fin 2 → Nat :=
  let c0_i32_374 : BitVec 32 := 0#32
  let c0_i32_291 : BitVec 32 := 0#32
  let c1_i32_293 : BitVec 32 := 1#32
  let arg20 : BitVec 32 := Scf.iv c0_i32_291 c1_i32_293 k0_t3
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  let v602 : BitVec 32 := v601
  let v615 : Index := Scalar.indexCast v602
  let c256_381 : Index := 256#32
  ![v615.toNat, 256]
def k0_off8 (k0_t3 : Fin k0_t3_loop.trips) : Fin 2 → Nat :=
  let c0_i32_374 : BitVec 32 := 0#32
  let c0_i32_291 : BitVec 32 := 0#32
  let c1_i32_293 : BitVec 32 := 1#32
  let arg20 : BitVec 32 := Scf.iv c0_i32_291 c1_i32_293 k0_t3
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  let v602 : BitVec 32 := v601
  let v623 : Index := Scalar.indexCast v602
  let c768_384 : Index := 768#32
  ![v623.toNat, 768]
def k0_off9 (k0_t3 : Fin k0_t3_loop.trips) : Fin 2 → Nat :=
  let c0_i32_374 : BitVec 32 := 0#32
  let c0_i32_291 : BitVec 32 := 0#32
  let c1_i32_293 : BitVec 32 := 1#32
  let arg20 : BitVec 32 := Scf.iv c0_i32_291 c1_i32_293 k0_t3
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  let v602 : BitVec 32 := v601
  let v631 : Index := Scalar.indexCast v602
  let c1024_387 : Index := 1024#32
  ![v631.toNat, 1024]
@[reducible] def k0_t4_loop : Scf.Loop 32 :=
  let c0_i32_305 : BitVec 32 := 0#32
  let c128_i32_306 : BitVec 32 := 128#32
  let v529 : BitVec 32 := Scalar.addi c0_i32_305 c128_i32_306
  let c1_i32_307 : BitVec 32 := 1#32
  ⟨c0_i32_305, v529, c1_i32_307⟩
def k0_mult4 (k0_t4 : Fin k0_t4_loop.trips) : BitVec 32 :=
  let c0_i32_374 : BitVec 32 := 0#32
  let c0_i32_305 : BitVec 32 := 0#32
  let c1_i32_307 : BitVec 32 := 1#32
  let arg20 : BitVec 32 := Scf.iv c0_i32_305 c1_i32_307 k0_t4
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  v601
def k0_off10 (k0_t4 : Fin k0_t4_loop.trips) : Fin 2 → Nat :=
  let c0_i32_374 : BitVec 32 := 0#32
  let c0_i32_305 : BitVec 32 := 0#32
  let c1_i32_307 : BitVec 32 := 1#32
  let arg20 : BitVec 32 := Scf.iv c0_i32_305 c1_i32_307 k0_t4
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  let v602 : BitVec 32 := v601
  let v615 : Index := Scalar.indexCast v602
  let c384_381 : Index := 384#32
  ![v615.toNat, 384]
def k0_off11 (k0_t4 : Fin k0_t4_loop.trips) : Fin 2 → Nat :=
  let c0_i32_374 : BitVec 32 := 0#32
  let c0_i32_305 : BitVec 32 := 0#32
  let c1_i32_307 : BitVec 32 := 1#32
  let arg20 : BitVec 32 := Scf.iv c0_i32_305 c1_i32_307 k0_t4
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  let v602 : BitVec 32 := v601
  let v623 : Index := Scalar.indexCast v602
  let c896_384 : Index := 896#32
  ![v623.toNat, 896]
def k0_off12 (k0_t4 : Fin k0_t4_loop.trips) : Fin 2 → Nat :=
  let c0_i32_374 : BitVec 32 := 0#32
  let c0_i32_305 : BitVec 32 := 0#32
  let c1_i32_307 : BitVec 32 := 1#32
  let arg20 : BitVec 32 := Scf.iv c0_i32_305 c1_i32_307 k0_t4
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c0_i32_374 v600
  let v602 : BitVec 32 := v601
  let v631 : Index := Scalar.indexCast v602
  let c1536_387 : Index := 1536#32
  ![v631.toNat, 1536]
@[reducible] def k0_t5_loop : Scf.Loop 32 :=
  let c0_i32_319 : BitVec 32 := 0#32
  let c128_i32_320 : BitVec 32 := 128#32
  let v541 : BitVec 32 := Scalar.addi c0_i32_319 c128_i32_320
  let c1_i32_321 : BitVec 32 := 1#32
  ⟨c0_i32_319, v541, c1_i32_321⟩
def k0_mult5 (k0_t5 : Fin k0_t5_loop.trips) : BitVec 32 :=
  let c128_i32_374 : BitVec 32 := 128#32
  let c0_i32_319 : BitVec 32 := 0#32
  let c1_i32_321 : BitVec 32 := 1#32
  let arg20 : BitVec 32 := Scf.iv c0_i32_319 c1_i32_321 k0_t5
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  v601
def k0_off13 (k0_t5 : Fin k0_t5_loop.trips) : Fin 2 → Nat :=
  let c128_i32_374 : BitVec 32 := 128#32
  let c0_i32_319 : BitVec 32 := 0#32
  let c1_i32_321 : BitVec 32 := 1#32
  let arg20 : BitVec 32 := Scf.iv c0_i32_319 c1_i32_321 k0_t5
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  let v602 : BitVec 32 := v601
  let v615 : Index := Scalar.indexCast v602
  let c0_381 : Index := 0#32
  ![v615.toNat, 0]
def k0_off14 (k0_t5 : Fin k0_t5_loop.trips) : Fin 2 → Nat :=
  let c128_i32_374 : BitVec 32 := 128#32
  let c0_i32_319 : BitVec 32 := 0#32
  let c1_i32_321 : BitVec 32 := 1#32
  let arg20 : BitVec 32 := Scf.iv c0_i32_319 c1_i32_321 k0_t5
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  let v602 : BitVec 32 := v601
  let v623 : Index := Scalar.indexCast v602
  let c512_384 : Index := 512#32
  ![v623.toNat, 512]
def k0_off15 (k0_t5 : Fin k0_t5_loop.trips) : Fin 2 → Nat :=
  let c128_i32_374 : BitVec 32 := 128#32
  let c0_i32_319 : BitVec 32 := 0#32
  let c1_i32_321 : BitVec 32 := 1#32
  let arg20 : BitVec 32 := Scf.iv c0_i32_319 c1_i32_321 k0_t5
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  let v602 : BitVec 32 := v601
  let v631 : Index := Scalar.indexCast v602
  let c0_387 : Index := 0#32
  ![v631.toNat, 0]
@[reducible] def k0_t6_loop : Scf.Loop 32 :=
  let c0_i32_333 : BitVec 32 := 0#32
  let c128_i32_334 : BitVec 32 := 128#32
  let v553 : BitVec 32 := Scalar.addi c0_i32_333 c128_i32_334
  let c1_i32_335 : BitVec 32 := 1#32
  ⟨c0_i32_333, v553, c1_i32_335⟩
def k0_mult6 (k0_t6 : Fin k0_t6_loop.trips) : BitVec 32 :=
  let c128_i32_374 : BitVec 32 := 128#32
  let c0_i32_333 : BitVec 32 := 0#32
  let c1_i32_335 : BitVec 32 := 1#32
  let arg20 : BitVec 32 := Scf.iv c0_i32_333 c1_i32_335 k0_t6
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  v601
def k0_off16 (k0_t6 : Fin k0_t6_loop.trips) : Fin 2 → Nat :=
  let c128_i32_374 : BitVec 32 := 128#32
  let c0_i32_333 : BitVec 32 := 0#32
  let c1_i32_335 : BitVec 32 := 1#32
  let arg20 : BitVec 32 := Scf.iv c0_i32_333 c1_i32_335 k0_t6
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  let v602 : BitVec 32 := v601
  let v615 : Index := Scalar.indexCast v602
  let c128_381 : Index := 128#32
  ![v615.toNat, 128]
def k0_off17 (k0_t6 : Fin k0_t6_loop.trips) : Fin 2 → Nat :=
  let c128_i32_374 : BitVec 32 := 128#32
  let c0_i32_333 : BitVec 32 := 0#32
  let c1_i32_335 : BitVec 32 := 1#32
  let arg20 : BitVec 32 := Scf.iv c0_i32_333 c1_i32_335 k0_t6
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  let v602 : BitVec 32 := v601
  let v623 : Index := Scalar.indexCast v602
  let c640_384 : Index := 640#32
  ![v623.toNat, 640]
def k0_off18 (k0_t6 : Fin k0_t6_loop.trips) : Fin 2 → Nat :=
  let c128_i32_374 : BitVec 32 := 128#32
  let c0_i32_333 : BitVec 32 := 0#32
  let c1_i32_335 : BitVec 32 := 1#32
  let arg20 : BitVec 32 := Scf.iv c0_i32_333 c1_i32_335 k0_t6
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  let v602 : BitVec 32 := v601
  let v631 : Index := Scalar.indexCast v602
  let c512_387 : Index := 512#32
  ![v631.toNat, 512]
@[reducible] def k0_t7_loop : Scf.Loop 32 :=
  let c0_i32_347 : BitVec 32 := 0#32
  let c128_i32_348 : BitVec 32 := 128#32
  let v565 : BitVec 32 := Scalar.addi c0_i32_347 c128_i32_348
  let c1_i32_349 : BitVec 32 := 1#32
  ⟨c0_i32_347, v565, c1_i32_349⟩
def k0_mult7 (k0_t7 : Fin k0_t7_loop.trips) : BitVec 32 :=
  let c128_i32_374 : BitVec 32 := 128#32
  let c0_i32_347 : BitVec 32 := 0#32
  let c1_i32_349 : BitVec 32 := 1#32
  let arg20 : BitVec 32 := Scf.iv c0_i32_347 c1_i32_349 k0_t7
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  v601
def k0_off19 (k0_t7 : Fin k0_t7_loop.trips) : Fin 2 → Nat :=
  let c128_i32_374 : BitVec 32 := 128#32
  let c0_i32_347 : BitVec 32 := 0#32
  let c1_i32_349 : BitVec 32 := 1#32
  let arg20 : BitVec 32 := Scf.iv c0_i32_347 c1_i32_349 k0_t7
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  let v602 : BitVec 32 := v601
  let v615 : Index := Scalar.indexCast v602
  let c256_381 : Index := 256#32
  ![v615.toNat, 256]
def k0_off20 (k0_t7 : Fin k0_t7_loop.trips) : Fin 2 → Nat :=
  let c128_i32_374 : BitVec 32 := 128#32
  let c0_i32_347 : BitVec 32 := 0#32
  let c1_i32_349 : BitVec 32 := 1#32
  let arg20 : BitVec 32 := Scf.iv c0_i32_347 c1_i32_349 k0_t7
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  let v602 : BitVec 32 := v601
  let v623 : Index := Scalar.indexCast v602
  let c768_384 : Index := 768#32
  ![v623.toNat, 768]
def k0_off21 (k0_t7 : Fin k0_t7_loop.trips) : Fin 2 → Nat :=
  let c128_i32_374 : BitVec 32 := 128#32
  let c0_i32_347 : BitVec 32 := 0#32
  let c1_i32_349 : BitVec 32 := 1#32
  let arg20 : BitVec 32 := Scf.iv c0_i32_347 c1_i32_349 k0_t7
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  let v602 : BitVec 32 := v601
  let v631 : Index := Scalar.indexCast v602
  let c1024_387 : Index := 1024#32
  ![v631.toNat, 1024]
@[reducible] def k0_t8_loop : Scf.Loop 32 :=
  let c0_i32_361 : BitVec 32 := 0#32
  let c128_i32_362 : BitVec 32 := 128#32
  let v577 : BitVec 32 := Scalar.addi c0_i32_361 c128_i32_362
  let c1_i32_363 : BitVec 32 := 1#32
  ⟨c0_i32_361, v577, c1_i32_363⟩
def k0_mult8 (k0_t8 : Fin k0_t8_loop.trips) : BitVec 32 :=
  let c128_i32_374 : BitVec 32 := 128#32
  let c0_i32_361 : BitVec 32 := 0#32
  let c1_i32_363 : BitVec 32 := 1#32
  let arg20 : BitVec 32 := Scf.iv c0_i32_361 c1_i32_363 k0_t8
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  v601
def k0_off22 (k0_t8 : Fin k0_t8_loop.trips) : Fin 2 → Nat :=
  let c128_i32_374 : BitVec 32 := 128#32
  let c0_i32_361 : BitVec 32 := 0#32
  let c1_i32_363 : BitVec 32 := 1#32
  let arg20 : BitVec 32 := Scf.iv c0_i32_361 c1_i32_363 k0_t8
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  let v602 : BitVec 32 := v601
  let v615 : Index := Scalar.indexCast v602
  let c384_381 : Index := 384#32
  ![v615.toNat, 384]
def k0_off23 (k0_t8 : Fin k0_t8_loop.trips) : Fin 2 → Nat :=
  let c128_i32_374 : BitVec 32 := 128#32
  let c0_i32_361 : BitVec 32 := 0#32
  let c1_i32_363 : BitVec 32 := 1#32
  let arg20 : BitVec 32 := Scf.iv c0_i32_361 c1_i32_363 k0_t8
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  let v602 : BitVec 32 := v601
  let v623 : Index := Scalar.indexCast v602
  let c896_384 : Index := 896#32
  ![v623.toNat, 896]
def k0_off24 (k0_t8 : Fin k0_t8_loop.trips) : Fin 2 → Nat :=
  let c128_i32_374 : BitVec 32 := 128#32
  let c0_i32_361 : BitVec 32 := 0#32
  let c1_i32_363 : BitVec 32 := 1#32
  let arg20 : BitVec 32 := Scf.iv c0_i32_361 c1_i32_363 k0_t8
  let c0_i32_367 : BitVec 32 := 0#32
  let v584 : BitVec 1 := Scalar.cmpi .sgt arg20 c0_i32_367
  let v585 : BitVec 32 := Scalar.extui v584
  let c0_i32_368 : BitVec 32 := 0#32
  let v586 : BitVec 1 := Scalar.cmpi .slt arg20 c0_i32_368
  let v587 : BitVec 32 := Scalar.extui v586
  let v588 : BitVec 32 := Scalar.subi v585 v587
  let c8_i32 : BitVec 32 := 8#32
  let c0_i32_369 : BitVec 32 := 0#32
  let v589 : BitVec 1 := Scalar.cmpi .sgt c8_i32 c0_i32_369
  let v590 : BitVec 32 := Scalar.extui v589
  let c0_i32_370 : BitVec 32 := 0#32
  let v591 : BitVec 1 := Scalar.cmpi .slt c8_i32 c0_i32_370
  let v592 : BitVec 32 := Scalar.extui v591
  let v593 : BitVec 32 := Scalar.subi v590 v592
  let v594 : BitVec 1 := Scalar.cmpi .ne v588 v593
  let v595 : BitVec 32 := Scalar.remsi arg20 c8_i32
  let c0_i32_371 : BitVec 32 := 0#32
  let v596 : BitVec 1 := Scalar.cmpi .ne v595 c0_i32_371
  let v597 : BitVec 1 := Scalar.andi v594 v596
  let v583 : BitVec 32 := Scalar.divsi arg20 c8_i32
  let c1_i32_372 : BitVec 32 := 1#32
  let v598 : BitVec 32 := Scalar.subi v583 c1_i32_372
  let v599 : BitVec 32 := Scalar.select v597 v598 v583
  let c8_i32_373 : BitVec 32 := 8#32
  let v600 : BitVec 32 := Scalar.muli v599 c8_i32_373
  let v601 : BitVec 32 := Scalar.addi c128_i32_374 v600
  let v602 : BitVec 32 := v601
  let v631 : Index := Scalar.indexCast v602
  let c1536_387 : Index := 1536#32
  ![v631.toNat, 1536]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== GlaReferenceIdeal.lean ====
abbrev S4x8192x1024 : Shape := ⟨3, ![4, 8192, 1024]⟩
abbrev S1x1024 : Shape := ⟨2, ![1, 1024]⟩
abbrev S1x1024x5136 : Shape := ⟨3, ![1, 1024, 5136]⟩
abbrev S1x16x512 : Shape := ⟨3, ![1, 16, 512]⟩
abbrev S1x512 : Shape := ⟨2, ![1, 512]⟩
abbrev S1x2048x1024 : Shape := ⟨3, ![1, 2048, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5136 : Shape := ⟨2, ![1024, 5136]⟩
abbrev S4x8192x5136 : Shape := ⟨3, ![4, 8192, 5136]⟩
abbrev S4x8192x512 : Shape := ⟨3, ![4, 8192, 512]⟩
abbrev S4x8192x4x128 : Shape := ⟨4, ![4, 8192, 4, 128]⟩
abbrev S4x8192x2048 : Shape := ⟨3, ![4, 8192, 2048]⟩
abbrev S4x8192x4x512 : Shape := ⟨4, ![4, 8192, 4, 512]⟩
abbrev S4x8192x16 : Shape := ⟨3, ![4, 8192, 16]⟩
abbrev S16x512 : Shape := ⟨2, ![16, 512]⟩
abbrev S512 : Shape := ⟨1, ![512]⟩
abbrev S1x1x512 : Shape := ⟨3, ![1, 1, 512]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x512x8192 : Shape := ⟨3, ![4, 512, 8192]⟩
abbrev S4x4x128x512 : Shape := ⟨4, ![4, 4, 128, 512]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5136, .f32⟩
  | .hbm, ⟨3, _⟩ => ⟨S1x16x512, .f32⟩
  | .hbm, ⟨4, _⟩ => ⟨S1x512, .f32⟩
  | .hbm, ⟨5, _⟩ => ⟨S1x512, .f32⟩
  | .hbm, ⟨6, _⟩ => ⟨S1x2048x1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S1024x5136, .f32⟩
  | .hbm, ⟨25, _⟩ => ⟨S4x8192x5136, .f32⟩
  | .hbm, ⟨26, _⟩ => ⟨S4x8192x512, .f32⟩
  | .hbm, ⟨27, _⟩ => ⟨S4x8192x4x128, .f32⟩
  | .hbm, ⟨28, _⟩ => ⟨S4x8192x2048, .f32⟩
  | .hbm, ⟨29, _⟩ => ⟨S4x8192x4x512, .f32⟩
  | .hbm, ⟨30, _⟩ => ⟨S4x8192x16, .f32⟩
  | .hbm, ⟨31, _⟩ => ⟨S16x512, .f32⟩
  | .hbm, ⟨32, _⟩ => ⟨S4x8192x512, .f32⟩
  | .hbm, ⟨33, _⟩ => ⟨S512, .f32⟩
  | .hbm, ⟨34, _⟩ => ⟨S1x1x512, .f32⟩
  | .hbm, ⟨35, _⟩ => ⟨S4x8192x512, .f32⟩
  | .hbm, ⟨36, _⟩ => ⟨S4x8192x512, .f32⟩
  | .hbm, ⟨37, _⟩ => ⟨S4x8192x512, .f32⟩
  | .hbm, ⟨38, _⟩ => ⟨S_, .f32⟩
  | .hbm, ⟨39, _⟩ => ⟨S4x8192x512, .f32⟩
  | .hbm, ⟨40, _⟩ => ⟨S4x8192x512, .f32⟩
  | .hbm, ⟨41, _⟩ => ⟨S4x8192x512, .f32⟩
  | .hbm, ⟨42, _⟩ => ⟨S4x8192x512, .f32⟩
  | .hbm, ⟨43, _⟩ => ⟨S4x8192x512, .i1⟩
  | .hbm, ⟨44, _⟩ => ⟨S4x8192x512, .f32⟩
  | .hbm, ⟨45, _⟩ => ⟨S4x8192x512, .f32⟩
  | .hbm, ⟨46, _⟩ => ⟨S4x8192x512, .f32⟩
  | .hbm, ⟨47, _⟩ => ⟨S4x8192x512, .f32⟩
  | .hbm, ⟨48, _⟩ => ⟨S4x8192x512, .f32⟩
  | .hbm, ⟨49, _⟩ => ⟨S4x8192x512, .f32⟩
  | .hbm, ⟨50, _⟩ => ⟨S4x8192x512, .f32⟩
  | .hbm, ⟨51, _⟩ => ⟨S4x8192x512, .f32⟩
  | .hbm, ⟨52, _⟩ => ⟨S4x8192x512, .f32⟩
  | .hbm, ⟨53, _⟩ => ⟨S_, .f32⟩
  | .hbm, ⟨54, _⟩ => ⟨S4x8192x512, .f32⟩
  | .hbm, ⟨55, _⟩ => ⟨S4x8192x512, .f32⟩
  | .hbm, ⟨56, _⟩ => ⟨S8192, .i32⟩
  | .hbm, ⟨57, _⟩ => ⟨S1x8192, .i32⟩
  | .hbm, ⟨58, _⟩ => ⟨S8192x1, .i32⟩
  | .hbm, ⟨59, _⟩ => ⟨S8192x8192, .i32⟩
  | .hbm, ⟨60, _⟩ => ⟨S8192x8192, .i32⟩
  | .hbm, ⟨61, _⟩ => ⟨S8192x8192, .i1⟩
  | .hbm, ⟨62, _⟩ => ⟨S8192x8192, .f32⟩
  | .hbm, ⟨63, _⟩ => ⟨S4x512x8192, .f32⟩
  | .hbm, ⟨64, _⟩ => ⟨S4x8192x512, .f32⟩
  | .hbm, ⟨65, _⟩ => ⟨S4x8192x512, .f32⟩
  | .hbm, ⟨66, _⟩ => ⟨S4x8192x4x128, .f32⟩
  | .hbm, ⟨67, _⟩ => ⟨S4x8192x4x128, .f32⟩
  | .hbm, ⟨68, _⟩ => ⟨S4x4x128x512, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_v1 : Ref sig .tc := ⟨.hbm, 51, rfl⟩
abbrev main_v27 : Ref sig .tc := ⟨.hbm, 52, rfl⟩
abbrev main_cst_2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩

abbrev nD : Nat := 1
abbrev τ : Topo := Topo.v7x

variable {F : FTy → Type} [FloatOps F]
-- ==== Proof.Swa.Host.lean ====
/-
  What the region finds in the arrays its windows read: each as a term of the program's arguments.
-/
module

public import proofs.«01_k».proof.Proof.Gen.KernelIdeal.Frame
public import Idealize.ShloMosaic.Lib.StableHlo.Run
public import Idealize.ShloMosaic.Lib.Pointwise

@[expose] public section

set_option maxRecDepth 16384

noncomputable section

namespace Cert.Swa

open Idealize.ShloMosaic Idealize.ShloMosaic.TcCoe Cert.KernelIdeal Cert.KernelIdeal.Gen

/-- The lane numbers divided by 64, rounding down: the quotient, less one where the signs differ and a remainder is left. -/
def laneGroup : Vec Bits S256 .i32 :=
  select
    (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

section

variable {F : FTy → Type} [FloatOps F]

/-- The table of angles: position times frequency. -/
def angles : FVec F S8192x32 .f32 :=
  mulf (broadcastInDim S8192x32 ![0, 1] bcast_S8192x1_S8192x32_0_1
      (broadcastInDim S8192x1 ![0] bcast_S8192_S8192x1_0 (sitofp .f32 (iotaInDim S8192 32 0))))
    (broadcastInDim S8192x32 ![0, 1] bcast_S1x32_S8192x32_0_1
      (broadcastInDim S1x32 ![1] bcast_S32_S1x32_1
        (Host.powf (broadcastInDim S32 ![] bcast_S_S32 (constant S_ .f32 0x461C4000#32))
          (Host.divf (Host.negf (sitofp .f32 (iotaInDim S32 32 0)))
            (broadcastInDim S32 ![] bcast_S_S32 (constant S_ .f32 0x42000000#32))))))

/-- A table of 32 lanes set beside itself, four times over. -/
def fourWide (a b x y : Vec F S8192x32 .f32) : Vec F S8192x128 .f32 :=
  concatenate S8192x128 1 [⟨S8192x32, a⟩, ⟨S8192x32, b⟩, ⟨S8192x32, x⟩, ⟨S8192x32, y⟩]
    concatenates_S8192x32_S8192x32_S8192x32_S8192x32_S8192x128_d1

/-- A norm weight of 64 lanes repeated for the four heads of a tile. -/
def fourHeads (w : Vec F S1x64 .f32) : Vec F S1x256 .f32 :=
  broadcastInDim S1x256 ![1] bcast_S256_S1x256_1
    (shapeCast S256 (broadcastInDim S4x64 ![0, 1] bcast_S1x64_S4x64_0_1 w) shapeCasts_S4x64_S256)

/-- Which lanes lie in one head. -/
def sameHead : Vec F S256x256 .bf16 :=
  uitofp .bf16 (cmpi .eq
    (broadcastInDim S256x256 ![0, 1] bcast_S256x1_S256x256_0_1 (broadcastInDim S256x1 ![0] bcast_S256_S256x1_0 laneGroup))
    (broadcastInDim S256x256 ![0, 1] bcast_S1x256_S256x256_0_1 (broadcastInDim S1x256 ![1] bcast_S256_S1x256_1 laneGroup)))

variable (m : (ℓ : Loc nD τ sig) → Buf (Elt F) ℓ) (c : Dev nD)

theorem in_kvn : V m c main_v10 = broadcastInDim S1x1024 ![1] bcast_S1024_S1x1024_1
    (m ((c : Thread nD τ).loc main_arg1) : Vec F S1024 .f32) := by
  show StableHlo.after (List.flatten [hostOps0, hostOps0_1, hostOps0_2]) _ (Proc.devRef .tc main_v10) = _
  simp only [List.flatten_cons, List.flatten_nil, List.append_nil, List.cons_append, List.nil_append]
  after_results_simp

theorem in_wkv : V m c main_v1 = truncf .bf16 (concatenate S1024x512 1 [⟨S1024x256, (m ((c : Thread nD τ).loc main_arg2) : Vec F S1024x256 .f32)⟩,
    ⟨S1024x256, (m ((c : Thread nD τ).loc main_arg3) : Vec F S1024x256 .f32)⟩] concatenates_S1024x256_S1024x256_S1024x512_d1) bitsLt_bf16_f32 := by
  show StableHlo.after (List.flatten [hostOps0, hostOps0_1, hostOps0_2]) _ (Proc.devRef .tc main_v1) = _
  simp only [List.flatten_cons, List.flatten_nil, List.append_nil, List.cons_append, List.nil_append]
  after_results_simp

theorem in_kn : V m c main_v16 = fourHeads (shapeCast S1x64 (m ((c : Thread nD τ).loc main_arg4) : Vec F S64 .f32) shapeCasts_S64_S1x64) := by
  show StableHlo.after (List.flatten [hostOps0, hostOps0_1, hostOps0_2]) _ (Proc.devRef .tc main_v16) = _
  simp only [List.flatten_cons, List.flatten_nil, List.append_nil, List.cons_append, List.nil_append]
  after_results_simp
  rfl

theorem in_bd : V m c main_v30 = (sameHead : Vec F S256x256 .bf16) := by
  show StableHlo.after (List.flatten [hostOps0, hostOps0_1, hostOps0_2]) _ (Proc.devRef .tc main_v30) = _
  simp only [List.flatten_cons, List.flatten_nil, List.append_nil, List.cons_append, List.nil_append]
  after_results_simp
  rfl

theorem in_cs : V m c main_v46 = (fourWide (Host.cos angles) (Host.cos angles) (Host.cos angles) (Host.cos angles) : Vec F S8192x128 .f32) := by
  show StableHlo.after (List.flatten [hostOps0, hostOps0_1, hostOps0_2]) _ (Proc.devRef .tc main_v46) = _
  simp only [List.flatten_cons, List.flatten_nil, List.append_nil, List.cons_append, List.nil_append]
  after_results_simp
  rfl

theorem in_sn : V m c main_v49 = (fourWide (Host.negf (Host.sin angles)) (Host.sin angles) (Host.negf (Host.sin angles)) (Host.sin angles)
    : Vec F S8192x128 .f32) := by
  show StableHlo.after (List.flatten [hostOps0, hostOps0_1, hostOps0_2]) _ (Proc.devRef .tc main_v49) = _
  simp only [List.flatten_cons, List.flatten_nil, List.append_nil, List.cons_append, List.nil_append]
  after_results_simp
  rfl

theorem in_bn : V m c main_v12 = broadcastInDim S1x1024 ![1] bcast_S1024_S1x1024_1
    (shapeCast S1024 (m ((c : Thread nD τ).loc main_arg5) : Vec F S1x1024 .f32) shapeCasts_S1x1024_S1024) := by
  show StableHlo.after (List.flatten [hostOps0, hostOps0_1, hostOps0_2]) _ (Proc.devRef .tc main_v12) = _
  simp only [List.flatten_cons, List.flatten_nil, List.append_nil, List.cons_append, List.nil_append]
  after_results_simp
  rfl

theorem in_wq : V m c main_v4 = truncf .bf16 (extractStridedSlice S1024x2048 ![0, 0]
    (shapeCast S1024x4096 (m ((c : Thread nD τ).loc main_arg6) : Vec F S1x1024x4096 .f32) shapeCasts_S1x1024x4096_S1024x4096)
    slices_S1024x4096_S1024x2048_0_0) bitsLt_bf16_f32 := by
  show StableHlo.after (List.flatten [hostOps0, hostOps0_1, hostOps0_2]) _ (Proc.devRef .tc main_v4) = _
  simp only [List.flatten_cons, List.flatten_nil, List.append_nil, List.cons_append, List.nil_append]
  after_results_simp
  rfl

theorem in_wg : V m c main_v7 = truncf .bf16 (extractStridedSlice S1024x2048 ![0, 2048]
    (shapeCast S1024x4096 (m ((c : Thread nD τ).loc main_arg6) : Vec F S1x1024x4096 .f32) shapeCasts_S1x1024x4096_S1024x4096)
    slices_S1024x4096_S1024x2048_0_2048) bitsLt_bf16_f32 := by
  show StableHlo.after (List.flatten [hostOps0, hostOps0_1, hostOps0_2]) _ (Proc.devRef .tc main_v7) = _
  simp only [List.flatten_cons, List.flatten_nil, List.append_nil, List.cons_append, List.nil_append]
  after_results_simp
  rfl

theorem in_qn : V m c main_v21 = fourHeads (shapeCast S1x64
    (shapeCast S64 (m ((c : Thread nD τ).loc main_arg7) : Vec F S1x64 .f32) shapeCasts_S1x64_S64) shapeCasts_S64_S1x64) := by
  show StableHlo.after (List.flatten [hostOps0, hostOps0_1, hostOps0_2]) _ (Proc.devRef .tc main_v21) = _
  simp only [List.flatten_cons, List.flatten_nil, List.append_nil, List.cons_append, List.nil_append]
  after_results_simp
  rfl

theorem in_zs : V m c main_v22 = shapeCast S32 (m ((c : Thread nD τ).loc main_arg8) : Vec F S1x32 .f32) shapeCasts_S1x32_S32 := by
  show StableHlo.after (List.flatten [hostOps0, hostOps0_1, hostOps0_2]) _ (Proc.devRef .tc main_v22) = _
  simp only [List.flatten_cons, List.flatten_nil, List.append_nil, List.cons_append, List.nil_append]
  after_results_simp
  rfl

theorem in_wo : V m c main_v9 = truncf .bf16
    (shapeCast S2048x1024 (m ((c : Thread nD τ).loc main_arg9) : Vec F S1x2048x1024 .f32) shapeCasts_S1x2048x1024_S2048x1024) bitsLt_bf16_f32 := by
  show StableHlo.after (List.flatten [hostOps0, hostOps0_1, hostOps0_2]) _ (Proc.devRef .tc main_v9) = _
  simp only [List.flatten_cons, List.flatten_nil, List.append_nil, List.cons_append, List.nil_append]
  after_results_simp
  rfl

end

end Cert.Swa

end
-- ==== Proof.Swa.Algebra.lean ====
/-
  The mathematics of the layer over the extended reals: finite values and the operations that keep them
  finite, the constants the programs carry, and the one identity about attention with a sink that both
  programs' softmax forms reduce to.
-/
module

public import Idealize.ShloMosaic.Lib.Pointwise
public import Idealize.ShloMosaic.Lib.Tactic

@[expose] public section

noncomputable section

namespace Cert.Swa

open Idealize.ShloMosaic

/-- A finite extended real. -/
def IsReal (x : EReal) : Prop := ∃ r : ℝ, x = (r : EReal)

theorem IsReal.coe (r : ℝ) : IsReal (r : EReal) := ⟨r, rfl⟩

theorem IsReal.zero : IsReal 0 := ⟨0, by simp⟩

theorem IsReal.add {x y : EReal} : IsReal x → IsReal y → IsReal (x + y) := by
  rintro ⟨a, rfl⟩ ⟨b, rfl⟩; exact ⟨a + b, by simp⟩

theorem IsReal.sub {x y : EReal} : IsReal x → IsReal y → IsReal (x - y) := by
  rintro ⟨a, rfl⟩ ⟨b, rfl⟩; exact ⟨a - b, by simp⟩

theorem IsReal.mul {x y : EReal} : IsReal x → IsReal y → IsReal (x * y) := by
  rintro ⟨a, rfl⟩ ⟨b, rfl⟩; exact ⟨a * b, by simp⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

theorem IsReal.toReal {x : EReal} (h : IsReal x) : ((x.toReal : ℝ) : EReal) = x := by
  obtain ⟨a, rfl⟩ := h; simp

theorem sub_self_of {x : EReal} (h : IsReal x) : x - x = 0 := by
  obtain ⟨a, rfl⟩ := h; rw [← EReal.coe_sub, _root_.sub_self, EReal.coe_zero]

theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_coe (a : ℝ) : Ideal.exp (a : EReal) = ((Real.exp a : ℝ) : EReal) := rfl

theorem exp_bot : Ideal.exp ⊥ = 0 := rfl

theorem rsqrt_coe {a : ℝ} (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (by linarith), if_neg (by linarith)]

theorem IsReal.cos {x : EReal} : IsReal x → IsReal (Ideal.cos x) := by rintro ⟨a, rfl⟩; exact ⟨Real.cos a, rfl⟩

theorem IsReal.sin {x : EReal} : IsReal x → IsReal (Ideal.sin x) := by rintro ⟨a, rfl⟩; exact ⟨Real.sin a, rfl⟩

theorem IsReal.pow {x y : EReal} : IsReal x → IsReal y → IsReal (Ideal.pow x y) := by
  rintro ⟨a, rfl⟩ ⟨b, rfl⟩; exact ⟨Real.rpow a b, rfl⟩

/-! ## The programs' constants -/

theorem ofBits_eps : ∃ e : ℝ, 0 < e ∧ Ideal.ofBits .f32 0x358637BD#32 = (e : EReal) := by
  refine ⟨8796093 / 2 ^ 43, by positivity, ?_⟩
  simp [Ideal.ofBits, Ideal.ieee]; norm_num; rw [← EReal.coe_mul]; norm_num

theorem ofBits_1024 : Ideal.ofBits .f32 0x44800000#32 = ((1024 : ℝ) : EReal) := by
  simp [Ideal.ofBits, Ideal.ieee]; norm_num; rw [← EReal.coe_mul]; norm_num

theorem ofBits_64 : Ideal.ofBits .f32 0x42800000#32 = ((64 : ℝ) : EReal) := by
  simp [Ideal.ofBits, Ideal.ieee]; norm_num; rw [← EReal.coe_mul]; norm_num

theorem ofBits_inv64 : Ideal.ofBits .f32 0x3C800000#32 = (((1 : ℝ) / 64 : ℝ) : EReal) := by
  simp [Ideal.ofBits, Ideal.ieee]; norm_num; rw [← EReal.coe_mul]; norm_num

theorem ofBits_eighth : Ideal.ofBits .f32 0x3E000000#32 = (((1 : ℝ) / 8 : ℝ) : EReal) := by
  simp [Ideal.ofBits, Ideal.ieee]; norm_num; rw [← EReal.coe_mul]; norm_num

theorem ofBits_neg_inf : Ideal.ofBits .f32 0xFF800000#32 = ⊥ := by
  simp [Ideal.ofBits, Ideal.ieee]

theorem ofBits_32 : Ideal.ofBits .f32 0x42000000#32 = ((32 : ℝ) : EReal) := by
  simp [Ideal.ofBits, Ideal.ieee]; norm_num; rw [← EReal.coe_mul]; norm_num

theorem ofBits_10000 : Ideal.ofBits .f32 0x461C4000#32 = ((10000 : ℝ) : EReal) := by
  simp [Ideal.ofBits, Ideal.ieee]; norm_num; rw [← EReal.coe_mul]; norm_num

/-! ## Root-mean-square factors -/

/-- The factor `1 / √(mean of squares + ε)` of a finite row is finite. -/
theorem IsReal.rms {ι : Type*} [Fintype ι] {x : ι → EReal} (hx : ∀ i, IsReal (x i)) {n : ℝ} (hn : 0 < n) :
    IsReal (Ideal.rsqrt (Ideal.div (∑ i, x i * x i) (n : EReal) + Ideal.ofBits .f32 0x358637BD#32)) := by
  obtain ⟨e, he, hE⟩ := ofBits_eps
  choose r hr using hx
  have hs : ∑ i, x i * x i = ((∑ i, r i * r i : ℝ) : EReal) := by
    rw [coe_sum]; exact Finset.sum_congr rfl fun i _ => by rw [hr i, EReal.coe_mul]
  rw [hE, hs, div_coe _ hn.ne', ← EReal.coe_add, rsqrt_coe]
  · exact ⟨_, rfl⟩
  · have : 0 ≤ ∑ i, r i * r i := Finset.sum_nonneg fun i _ => mul_self_nonneg _
    positivity

/-! ## Attention with a sink -/

section Attend

variable {ι : Type*} [Fintype ι] (M : ι → Prop) [DecidablePred M] (s v : ι → EReal) (z : EReal)

/-- The weight of attention over the places where `M` holds, scores `s`, values `v`, sink `z`: the plain quotient. -/
def attend : EReal :=
  (((∑ i ∈ Finset.univ.filter M, Real.exp (s i).toReal * (v i).toReal)
    / (∑ i ∈ Finset.univ.filter M, Real.exp (s i).toReal + Real.exp z.toReal) : ℝ) : EReal)

/-- The scores with `-∞` at the places left out. -/
def masked (i : ι) : EReal := if M i then s i else ⊥

/-- The maximum of the masked scores and the sink. -/
def peak : EReal := max (Finset.univ.fold max ⊥ (masked M s)) z

variable {M s v z}

theorem peak_real (hs : ∀ i, M i → IsReal (s i)) (hz : IsReal z) : IsReal (peak M s z) := by
  have key : ∀ t : Finset ι, IsReal (max (t.fold max ⊥ (masked M s)) z) := by
    classical
    intro t
    induction t using Finset.induction_on with
    | empty => rw [Finset.fold_empty, max_eq_right bot_le]; exact hz
    | insert a t ha ih =>
      rw [Finset.fold_insert ha, max_assoc]
      unfold masked at *
      by_cases hM : M a
      · rw [if_pos hM]
        rcases max_choice (s a) (max (t.fold max ⊥ fun i => if M i then s i else ⊥) z) with h | h <;> rw [h]
        · exact hs a hM
        · exact ih
      · rw [if_neg hM, max_eq_right bot_le]; exact ih
  exact key _

theorem weight_eq {m : ℝ} (hs : ∀ i, M i → IsReal (s i)) (i : ι) :
    Ideal.exp (masked M s i - (m : EReal)) = ((if M i then Real.exp ((s i).toReal) * Real.exp (-m) else 0 : ℝ) : EReal) := by
  unfold masked
  by_cases hM : M i
  · rw [if_pos hM, if_pos hM]
    obtain ⟨a, ha⟩ := hs i hM
    rw [ha, ← EReal.coe_sub, exp_coe, EReal.toReal_coe, ← Real.exp_add, sub_eq_add_neg]
  · rw [if_neg hM, if_neg hM, EReal.bot_sub, exp_bot, EReal.coe_zero]

theorem den_eq {m : ℝ} (hs : ∀ i, M i → IsReal (s i)) (hz : IsReal z) :
    (∑ i, Ideal.exp (masked M s i - (m : EReal))) + Ideal.exp (z - (m : EReal))
      = (((∑ i ∈ Finset.univ.filter M, Real.exp (s i).toReal + Real.exp z.toReal) * Real.exp (-m) : ℝ) : EReal) := by
  obtain ⟨a, rfl⟩ := hz
  rw [Finset.sum_congr rfl fun i _ => weight_eq hs i, ← coe_sum, ← EReal.coe_sub, exp_coe, ← EReal.coe_add,
    EReal.toReal_coe, add_mul, Finset.sum_mul, Finset.sum_filter, sub_eq_add_neg, Real.exp_add]

theorem den_pos : 0 < ∑ i ∈ Finset.univ.filter M, Real.exp (s i).toReal + Real.exp z.toReal :=
  add_pos_of_nonneg_of_pos (Finset.sum_nonneg fun _ _ => (Real.exp_pos _).le) (Real.exp_pos _)

/-- Attention divided after the sum over the values. -/
theorem attend_late (hs : ∀ i, M i → IsReal (s i)) (hv : ∀ i, M i → IsReal (v i)) (hz : IsReal z) :
    (∑ i, Ideal.exp (masked M s i - peak M s z) * v i)
      * Ideal.div 1 ((∑ i, Ideal.exp (masked M s i - peak M s z)) + Ideal.exp (z - peak M s z)) = attend M s v z := by
  obtain ⟨m, hm⟩ := peak_real hs hz
  rw [hm, den_eq hs hz, show (1 : EReal) = ((1 : ℝ) : EReal) from rfl,
    div_coe _ (mul_pos den_pos (Real.exp_pos _)).ne']
  have hn : ∑ i, Ideal.exp (masked M s i - (m : EReal)) * v i
      = (((∑ i ∈ Finset.univ.filter M, Real.exp (s i).toReal * (v i).toReal) * Real.exp (-m) : ℝ) : EReal) := by
    rw [Finset.sum_filter, Finset.sum_mul, coe_sum]
    refine Finset.sum_congr rfl fun i _ => ?_
    rw [weight_eq hs i]
    by_cases hM : M i
    · rw [if_pos hM, if_pos hM]
      obtain ⟨b, hb⟩ := hv i hM
      rw [hb, ← EReal.coe_mul, EReal.toReal_coe]
      congr 1; ring
    · rw [if_neg hM, if_neg hM, zero_mul, EReal.coe_zero, zero_mul]
  rw [hn, ← EReal.coe_mul]
  unfold attend
  congr 1
  have h1 := (den_pos (M := M) (s := s) (z := z)).ne'
  have h2 := (Real.exp_pos (-m)).ne'
  field_simp

/-- Attention with the weights divided first. -/
theorem attend_early (hs : ∀ i, M i → IsReal (s i)) (hv : ∀ i, M i → IsReal (v i)) (hz : IsReal z) :
    (∑ i, v i * Ideal.div (Ideal.exp (masked M s i - peak M s z))
      ((∑ i, Ideal.exp (masked M s i - peak M s z)) + Ideal.exp (z - peak M s z))) = attend M s v z := by
  obtain ⟨m, hm⟩ := peak_real hs hz
  rw [hm, den_eq hs hz]
  have h1 := (den_pos (M := M) (s := s) (z := z)).ne'
  have hp := (mul_pos (den_pos (M := M) (s := s) (z := z)) (Real.exp_pos (-m))).ne'
  unfold attend
  generalize (∑ i ∈ Finset.univ.filter M, Real.exp (s i).toReal + Real.exp z.toReal) = D at h1 hp ⊢
  rw [Finset.sum_div, Finset.sum_filter, coe_sum]
  refine Finset.sum_congr rfl fun i _ => ?_
  rw [weight_eq hs i, div_coe _ hp]
  by_cases hM : M i
  · rw [if_pos hM, if_pos hM]
    obtain ⟨b, hb⟩ := hv i hM
    rw [hb, ← EReal.coe_mul, EReal.toReal_coe]
    congr 1
    have h2 := (Real.exp_pos (-m)).ne'
    field_simp
  · rw [if_neg hM, if_neg hM, zero_div, EReal.coe_zero, mul_zero]

/-- Attention over two index types whose kept places correspond, with equal scores and values there. -/
theorem attend_congr {κ : Type*} [Fintype κ] {M' : κ → Prop} [DecidablePred M'] {s' v' : κ → EReal}
    (f : ι → κ) (hf : ∀ i, M i → M' (f i)) (inj : ∀ i j, M i → M j → f i = f j → i = j)
    (sur : ∀ k, M' k → ∃ i, M i ∧ f i = k) (es : ∀ i, M i → s i = s' (f i)) (ev : ∀ i, M i → v i = v' (f i)) :
    attend M s v z = attend M' s' v' z := by
  unfold attend
  have key : ∀ (g : ι → ℝ) (g' : κ → ℝ), (∀ i, M i → g i = g' (f i)) →
      ∑ i ∈ Finset.univ.filter M, g i = ∑ k ∈ Finset.univ.filter M', g' k := fun g g' h =>
    Finset.sum_bij (fun i _ => f i)
      (fun i hi => Finset.mem_filter.mpr ⟨Finset.mem_univ _, hf i (Finset.mem_filter.mp hi).2⟩)
      (fun i hi j hj e => inj i j (Finset.mem_filter.mp hi).2 (Finset.mem_filter.mp hj).2 e)
      (fun k hk => by
        obtain ⟨i, hi, e⟩ := sur k (Finset.mem_filter.mp hk).2
        exact ⟨i, Finset.mem_filter.mpr ⟨Finset.mem_univ _, hi⟩, e⟩)
      (fun i hi => h i (Finset.mem_filter.mp hi).2)
  rw [key _ (fun k => Real.exp (s' k).toReal * (v' k).toReal) fun i hi => by rw [es i hi, ev i hi],
    key _ (fun k => Real.exp (s' k).toReal) fun i hi => by rw [es i hi]]

end Attend

end Cert.Swa
-- ==== Proof.Swa.Block.lean ====
/-
  The pieces the attention body is made of, as vector functions: the head norm, the rotation of a slab of two
  heads, the attention of two heads over one window of keys, and the way the generated run spells each of them.
-/
module

public import proofs.«01_k».proof.Proof.Gen.KernelIdeal.Skeleton
public import proofs.«01_k».proof.Proof.Swa.Algebra

@[expose] public section

set_option maxRecDepth 16384

noncomputable section

namespace Cert.Swa

open Idealize.ShloMosaic Cert.KernelIdeal Cert.KernelIdeal.Gen

variable {F : FTy → Type} [FloatOps F]

/-- Rows divided by their root mean square and scaled by a gain. -/
def rowNorm (h : FVec F S256x1024 .f32) (g : FVec F S1x1024 .f32) : FVec F S256x1024 .bf16 :=
  truncf .bf16 (mulf (mulf h (broadcastTo S256x1024 (rsqrt (addf (divf
    (shapeCast S256x1 (multiReduction .add [1] S256 (mulf h h) 0x00000000#32 reduces_S256x1024_S256 (.inl rfl) rfl)
      shapeCasts_S256_S256x1)
    (broadcast S256x1 (Scalar.ofBits .f32 0x44800000#32))) (broadcast S256x1 (Scalar.ofBits .f32 0x358637BD#32))))
    broadcasts_S256x1_S256x1024)) (broadcastTo S256x1024 g broadcasts_S1x1024_S256x1024)) bitsLt_bf16_f32

/-- Four heads of 64 lanes, each divided by its own root mean square: the squares, split in two, summed per head by a
    block matrix. -/
def headNorm (x : FVec F S256x256 .f32) (bd : FVec F S256x256 .bf16) (g : FVec F S1x256 .f32) : FVec F S256x256 .f32 :=
  mulf (mulf x (rsqrt (addf (mulf (addf
    (matmul dot_S256x256_S256x256_S256x256_1_0_0_1_n_n none (truncf .bf16 (mulf x x) bitsLt_bf16_f32) bd
      (constant S256x256 .f32 0x00000000#32))
    (matmul dot_S256x256_S256x256_S256x256_1_0_0_1_n_n none
      (truncf .bf16 (subf (mulf x x) (extf .f32 (truncf .bf16 (mulf x x) bitsLt_bf16_f32) bitsLt_bf16_f32)) bitsLt_bf16_f32) bd
      (constant S256x256 .f32 0x00000000#32)))
    (broadcast S256x256 (Scalar.ofBits .f32 0x3C800000#32))) (broadcast S256x256 (Scalar.ofBits .f32 0x358637BD#32)))))
    (broadcastTo S256x256 g broadcasts_S1x256_S256x256)

/-- The rotation of a slab of two heads: each half of a head meets the other half. -/
def ropeSlab (x cs sn : FVec F S256x128 .f32) : FVec F S256x128 .f32 :=
  addf (mulf x cs) (mulf (select k0_pay8 (dynamicRotate 1 96#32 none x rotates_S256x128_d1)
    (dynamicRotate 1 32#32 none x rotates_S256x128_d1)) sn)

/-- Two windows of 256 rows, one above the other. -/
def stack (a b : Vec F S1x256x128 .bf16) : FVec F S512x128 .bf16 :=
  concatenate S512x128 0 [⟨S256x128, shapeCast S256x128 a shapeCasts_S1x256x128_S256x128⟩,
    ⟨S256x128, shapeCast S256x128 b shapeCasts_S1x256x128_S256x128⟩] concatenates_S256x128_S256x128_S512x128_d0

/-- One head's masked scores. -/
def pairScore (off : Fin 2 → ℕ) (hoff : S128x512.Slices off S128x256) (mk : IVec S128x256 1) (sc : FVec F S128x512 .f32) :
    FVec F S128x256 .f32 :=
  select mk (extractStridedSlice S128x256 off sc hoff) (broadcast S128x256 (Scalar.ofBits .f32 0xFF800000#32))

/-- One head's largest score, the sink among them. -/
def pairPeak (s : FVec F S128x256 .f32) (z : Elt F .f32) : FVec F S128x1 .f32 :=
  maximumf (shapeCast S128x1 (multiReduction .maximumf [1] S128 s 0xFF800000#32 reduces_S128x256_S128 (.inl rfl) rfl)
    shapeCasts_S128_S128x1) (broadcast S128x1 z)

/-- One head's weights before the division. -/
def pairExp (s : FVec F S128x256 .f32) (z : Elt F .f32) : FVec F S128x256 .f32 :=
  exp (subf s (broadcastTo S128x256 (pairPeak s z) broadcasts_S128x1_S128x256))

/-- The reciprocal of one head's total weight, the sink's included. -/
def pairInv (s : FVec F S128x256 .f32) (z : Elt F .f32) : FVec F S128x1 .f32 :=
  divf (broadcast S128x1 (Scalar.ofBits .f32 0x3F800000#32)) (addf
    (shapeCast S128x1 (multiReduction .add [1] S128 (pairExp s z) 0x00000000#32 reduces_S128x256_S128 (.inl rfl) rfl)
      shapeCasts_S128_S128x1)
    (exp (subf (broadcast S128x1 z) (pairPeak s z))))

/-- The gate `x / (1 + exp(-x))`. -/
def silu128 (g : FVec F S128x128 .f32) : FVec F S128x128 .f32 :=
  mulf g (divf (broadcast S128x128 (Scalar.ofBits .f32 0x3F800000#32))
    (addf (broadcast S128x128 (Scalar.ofBits .f32 0x3F800000#32))
      (exp (subf (broadcast S128x128 (Scalar.ofBits .f32 0x00000000#32)) g))))

/-- The scores of two heads against one window: the first head's 256 columns, then the second's. -/
def pairScores (kA kB : Vec F S1x256x128 .bf16) (q : Vec F S128x128 .bf16) : FVec F S128x512 .f32 :=
  matmul dot_S128x128_S512x128_S128x512_1_1_0_0_n_n none q (stack kA kB) (constant S128x512 .f32 0x00000000#32)

/-- The attention of two heads over one window, gated: the first head in lanes 0 to 63, the second in 64 to 127. -/
def pairAtt (mk : IVec S128x256 1) (kA kB vA vB : Vec F S1x256x128 .bf16) (q : Vec F S128x128 .bf16)
    (z0 z1 : Elt F .f32) (g : Vec F S128x128 .f32) : FVec F S128x128 .bf16 :=
  let s0 := pairScore ![0, 0] slices_S128x512_o0_0_S128x256 mk (pairScores kA kB q)
  let s1 := pairScore ![0, 256] slices_S128x512_o0_256_S128x256 mk (pairScores kA kB q)
  shapeCast S128x128 (truncf .bf16 (mulf (mulf
    (matmul dot_S128x512_S512x128_S128x128_1_0_0_1_n_n none
      (concatenate S128x512 1 [⟨S128x256, truncf .bf16 (pairExp s0 z0) bitsLt_bf16_f32⟩,
        ⟨S128x256, truncf .bf16 (pairExp s1 z1) bitsLt_bf16_f32⟩] concatenates_S128x256_S128x256_S128x512_d1)
      (stack vA vB) (constant S128x128 .f32 0x00000000#32))
    (select k0_pay98
      (broadcastTo S128x128 (shapeCast S128x1 (pairInv s0 z0) shapeCasts_S128x1_S128x1) broadcasts_S128x1_S128x128)
      (broadcastTo S128x128 (shapeCast S128x1 (pairInv s1 z1) shapeCasts_S128x1_S128x1) broadcasts_S128x1_S128x128)))
    (silu128 g)) bitsLt_bf16_f32) shapeCasts_S128x128_S128x128

/-! ## The tile's keys, values, queries and gate -/

/-- The tile's keys and values before the head norm: 256 columns of keys, then 256 of values. -/
def kvMat (h : Vec F S1x256x1024 .f32) (kvn : Vec F S1x1024 .f32) (wkv : Vec F S1024x512 .bf16) : FVec F S256x512 .f32 :=
  matmul dot_S256x1024_S1024x512_S256x512_1_0_0_1_n_n none
    (rowNorm (shapeCast S256x1024 h shapeCasts_S1x256x1024_S256x1024) (shapeCast S1x1024 kvn shapeCasts_S1x1024_S1x1024))
    (shapeCast S1024x512 wkv shapeCasts_S1024x512_S1024x512) (constant S256x512 .f32 0x00000000#32)

/-- The tile's values. -/
def vMat (h : Vec F S1x256x1024 .f32) (kvn : Vec F S1x1024 .f32) (wkv : Vec F S1024x512 .bf16) : FVec F S256x256 .f32 :=
  extractStridedSlice S256x256 ![0, 256] (kvMat h kvn wkv) slices_S256x512_o0_256_S256x256

/-- The tile's keys of two groups, head-normed and rotated. -/
def kSlab (off : Fin 2 → ℕ) (hoff : S256x256.Slices off S256x128) (h : Vec F S1x256x1024 .f32) (kvn : Vec F S1x1024 .f32)
    (wkv : Vec F S1024x512 .bf16) (kn : Vec F S1x256 .f32) (bd : Vec F S256x256 .bf16) (cs sn : Vec F S256x128 .f32) :
    FVec F S256x128 .f32 :=
  ropeSlab (extractStridedSlice S256x128 off
    (headNorm (extractStridedSlice S256x256 ![0, 0] (kvMat h kvn wkv) slices_S256x512_o0_0_S256x256)
      (shapeCast S256x256 bd shapeCasts_S256x256_S256x256) (shapeCast S1x256 kn shapeCasts_S1x256_S1x256)) hoff)
    (shapeCast S256x128 cs shapeCasts_S256x128_S256x128) (shapeCast S256x128 sn shapeCasts_S256x128_S256x128)

/-- A slab's lower group in lanes 0 to 63, zero above. -/
def topPiece (x : FVec F S256x128 .f32) : FVec F S1x256x128 .bf16 :=
  shapeCast S1x256x128 (truncf .bf16 (select k0_pay9 x (broadcast S256x128 (Scalar.ofBits .f32 0x00000000#32)))
    bitsLt_bf16_f32) shapeCasts_S256x128_S1x256x128

/-- A slab's upper group in lanes 64 to 127, zero below. -/
def botPiece (x : FVec F S256x128 .f32) : FVec F S1x256x128 .bf16 :=
  shapeCast S1x256x128 (truncf .bf16 (select k0_pay9 (broadcast S256x128 (Scalar.ofBits .f32 0x00000000#32)) x)
    bitsLt_bf16_f32) shapeCasts_S256x128_S1x256x128

/-- A slab with its two groups exchanged. -/
def swapHalves (x : FVec F S256x128 .f32) : FVec F S256x128 .f32 := dynamicRotate 1 64#32 none x rotates_S256x128_d1

/-- A slab of two heads' queries, head-normed with an eighth of the gain, and rotated. -/
def qSlab (off : Fin 2 → ℕ) (hoff : S256x256.Slices off S256x128) (h : Vec F S1x256x1024 .f32) (bn : Vec F S1x1024 .f32)
    (w : Vec F S1024x256 .bf16) (qn : Vec F S1x256 .f32) (bd : Vec F S256x256 .bf16) (cs sn : Vec F S256x128 .f32) :
    FVec F S256x128 .bf16 :=
  shapeCast S256x128 (truncf .bf16 (ropeSlab (extractStridedSlice S256x128 off
    (headNorm (matmul dot_S256x1024_S1024x256_S256x256_1_0_0_1_n_n none
        (rowNorm (shapeCast S256x1024 h shapeCasts_S1x256x1024_S256x1024) (shapeCast S1x1024 bn shapeCasts_S1x1024_S1x1024))
        (shapeCast S1024x256 w shapeCasts_S1024x256_S1024x256) (constant S256x256 .f32 0x00000000#32))
      (shapeCast S256x256 bd shapeCasts_S256x256_S256x256)
      (mulf (shapeCast S1x256 qn shapeCasts_S1x256_S1x256) (broadcast S1x256 (Scalar.ofBits .f32 0x3E000000#32)))) hoff)
    (shapeCast S256x128 cs shapeCasts_S256x128_S256x128) (shapeCast S256x128 sn shapeCasts_S256x128_S256x128))
    bitsLt_bf16_f32) shapeCasts_S256x128_S256x128

/-- The tile's gate. -/
def gateMat (h : Vec F S1x256x1024 .f32) (bn : Vec F S1x1024 .f32) (w : Vec F S1024x2048 .bf16) : FVec F S256x2048 .f32 :=
  shapeCast S256x2048 (matmul dot_S256x1024_S1024x2048_S256x2048_1_0_0_1_n_n none
    (rowNorm (shapeCast S256x1024 h shapeCasts_S1x256x1024_S256x1024) (shapeCast S1x1024 bn shapeCasts_S1x1024_S1x1024))
    (shapeCast S1024x2048 w shapeCasts_S1024x2048_S1024x2048) (constant S256x2048 .f32 0x00000000#32))
    shapeCasts_S256x2048_S256x2048

/-- The tile's result from its gated attention. -/
def outMat (h : Vec F S1x256x1024 .f32) (og : Vec F S256x2048 .bf16) (w : Vec F S2048x1024 .bf16) : FVec F S1x256x1024 .f32 :=
  shapeCast S1x256x1024 (addf (matmul dot_S256x2048_S2048x1024_S256x1024_1_0_0_1_n_n none og
    (shapeCast S2048x1024 w shapeCasts_S2048x1024_S2048x1024) (constant S256x1024 .f32 0x00000000#32))
    (shapeCast S256x1024 h shapeCasts_S1x256x1024_S256x1024)) shapeCasts_S256x1024_S1x256x1024

/-- The last 128 rows of the tile's keys, all four groups. -/
def keyCache (h : Vec F S1x256x1024 .f32) (kvn : Vec F S1x1024 .f32) (wkv : Vec F S1024x512 .bf16) (kn : Vec F S1x256 .f32)
    (bd : Vec F S256x256 .bf16) (cs sn : Vec F S256x128 .f32) : FVec F S1x128x256 .f32 :=
  shapeCast S1x128x256 (extractStridedSlice S128x256 ![128, 0] (concatenate S256x256 1
    [⟨S256x128, kSlab ![0, 0] slices_S256x256_o0_0_S256x128 h kvn wkv kn bd cs sn⟩,
      ⟨S256x128, kSlab ![0, 128] slices_S256x256_o0_128_S256x128 h kvn wkv kn bd cs sn⟩]
    concatenates_S256x128_S256x128_S256x256_d1) slices_S256x256_o128_0_S128x256) shapeCasts_S128x256_S1x128x256

/-- The last 128 rows of the tile's values, all four groups. -/
def valCache (h : Vec F S1x256x1024 .f32) (kvn : Vec F S1x1024 .f32) (wkv : Vec F S1024x512 .bf16) : FVec F S1x128x256 .f32 :=
  shapeCast S1x128x256 (extractStridedSlice S128x256 ![128, 0] (vMat h kvn wkv) slices_S256x256_o128_0_S128x256)
    shapeCasts_S128x256_S1x128x256

end Cert.Swa
-- ==== Proof.Swa.Pairs.lean ====
/-
  The two-head attentions of the run, one by one: whatever payloads the run spells one with, it is the same function
  of its window's keys and values, its queries, its two sinks and its gate.
-/
module

public import proofs.«01_k».proof.Proof.Swa.Block

@[expose] public section

set_option maxRecDepth 16384

noncomputable section

namespace Cert.Swa

open Idealize.ShloMosaic Cert.KernelIdeal Cert.KernelIdeal.Gen

variable {F : FTy → Type} [FloatOps F]
variable (mk : IVec S128x256 1) (kA kB vA vB : Vec F S1x256x128 .bf16) (q : Vec F S128x128 .bf16)
  (z0 z1 : Elt F .f32) (g : Vec F S128x128 .f32)

/-- The two heads of columns 0 to 127, rows 0 to 127. -/
theorem pair_0_0 :
    k0_pay110 k0_pay98 (k0_pay101 vA vB) z1 (k0_pay106 mk kA kB q z0) (k0_pay107 mk kA kB q z0) (k0_pay108 mk kA kB q) (k0_pay109 mk kA kB q) g
      = pairAtt mk kA kB vA vB q z0 z1 g := rfl

/-- The two heads of columns 128 to 255, rows 0 to 127. -/
theorem pair_0_1 :
    k0_pay116 (k0_pay114 k0_pay98 mk (k0_pay101 vA vB) z0 z1 (k0_pay111 (k0_pay100 kA kB) q) (k0_pay112 (k0_pay100 kA kB) q) k0_pay113) g (k0_pay115 g) (FloatOps.ofBits (F := F) FTy.f32 1065353216#32)
      = pairAtt mk kA kB vA vB q z0 z1 g := rfl

/-- The two heads of columns 256 to 383, rows 0 to 127. -/
theorem pair_0_2 :
    k0_pay127 k0_pay98 (k0_pay101 vA vB) z1 (k0_pay121 mk (k0_pay100 kA kB) q z0) (k0_pay122 mk (k0_pay100 kA kB) q z0) (k0_pay124 mk (k0_pay100 kA kB) q z1) (k0_pay125 mk (k0_pay100 kA kB) q z1) (k0_pay126 mk (k0_pay100 kA kB) q z1) g
      = pairAtt mk kA kB vA vB q z0 z1 g := rfl

/-- The two heads of columns 384 to 511, rows 0 to 127. -/
theorem pair_0_3 :
    k0_pay133 (k0_pay132 k0_pay98 mk (k0_pay101 vA vB) z0 z1 (k0_pay128 (k0_pay100 kA kB) q) (k0_pay130 mk (k0_pay100 kA kB) q z0) (k0_pay131 mk (k0_pay100 kA kB) q z0) g)
      = pairAtt mk kA kB vA vB q z0 z1 g := rfl

/-- The two heads of columns 512 to 639, rows 0 to 127. -/
theorem pair_0_4 :
    k0_pay142 k0_pay98 mk (k0_pay135 vA vB) z1 (k0_pay136 kA kB q) (k0_pay140 mk kA kB q z0) (k0_pay141 mk kA kB q z0) g
      = pairAtt mk kA kB vA vB q z0 z1 g := rfl

/-- The two heads of columns 640 to 767, rows 0 to 127. -/
theorem pair_0_5 :
    k0_pay144 (k0_pay143 k0_pay98 mk (k0_pay134 kA kB) (k0_pay135 vA vB) q z0 z1) g
      = pairAtt mk kA kB vA vB q z0 z1 g := rfl

/-- The two heads of columns 768 to 895, rows 0 to 127. -/
theorem pair_0_6 :
    k0_pay154 k0_pay98 (k0_pay135 vA vB) z1 (k0_pay149 mk (k0_pay134 kA kB) q z0) (k0_pay150 mk (k0_pay134 kA kB) q z0) (k0_pay151 mk (k0_pay134 kA kB) q) (k0_pay152 mk (k0_pay134 kA kB) q) (k0_pay153 z1) g
      = pairAtt mk kA kB vA vB q z0 z1 g := rfl

/-- The two heads of columns 896 to 1023, rows 0 to 127. -/
theorem pair_0_7 :
    k0_pay159 (k0_pay157 k0_pay98 mk (k0_pay135 vA vB) z0 z1 (k0_pay155 (k0_pay134 kA kB) q) (k0_pay156 mk (k0_pay134 kA kB) q)) g (k0_pay158 g)
      = pairAtt mk kA kB vA vB q z0 z1 g := rfl

/-- The two heads of columns 1024 to 1151, rows 0 to 127. -/
theorem pair_0_8 :
    k0_pay168 k0_pay98 mk (k0_pay161 vA vB) z1 (k0_pay162 kA kB q) (k0_pay165 mk kA kB q z0) (k0_pay166 mk kA kB q z0) (k0_pay167 mk kA kB q z0) g
      = pairAtt mk kA kB vA vB q z0 z1 g := rfl

/-- The two heads of columns 1152 to 1279, rows 0 to 127. -/
theorem pair_0_9 :
    k0_pay179 k0_pay98 (k0_pay176 mk (k0_pay160 kA kB) q z1) (k0_pay177 mk (k0_pay160 kA kB) (k0_pay161 vA vB) q z0 z1) (k0_pay178 mk (k0_pay160 kA kB) q z0) g
      = pairAtt mk kA kB vA vB q z0 z1 g := rfl

/-- The two heads of columns 1280 to 1407, rows 0 to 127. -/
theorem pair_0_10 :
    k0_pay187 k0_pay98 mk (k0_pay161 vA vB) z1 (k0_pay184 mk (k0_pay160 kA kB) q z0) (k0_pay185 mk (k0_pay160 kA kB) q z0) (k0_pay186 (k0_pay160 kA kB) q) (FloatOps.ofBits (F := F) FTy.f32 4286578688#32) g
      = pairAtt mk kA kB vA vB q z0 z1 g := rfl

/-- The two heads of columns 1408 to 1535, rows 0 to 127. -/
theorem pair_0_11 :
    k0_pay189 (k0_pay188 k0_pay98 mk (k0_pay160 kA kB) (k0_pay161 vA vB) q z0 z1 (constant (F := F) S128x512 FTy.f32 0#32)) g (FloatOps.ofBits (F := F) FTy.f32 0#32)
      = pairAtt mk kA kB vA vB q z0 z1 g := rfl

/-- The two heads of columns 1536 to 1663, rows 0 to 127. -/
theorem pair_0_12 :
    k0_pay197 (k0_pay196 k0_pay98 mk (k0_pay191 vA vB) z0 z1 (k0_pay192 kA kB q) (k0_pay194 mk kA kB q z0) (k0_pay195 mk kA kB q z0) g)
      = pairAtt mk kA kB vA vB q z0 z1 g := rfl

/-- The two heads of columns 1664 to 1791, rows 0 to 127. -/
theorem pair_0_13 :
    k0_pay210 k0_pay98 (k0_pay191 vA vB) (k0_pay202 mk (k0_pay190 kA kB) q z0) (k0_pay203 mk (k0_pay190 kA kB) q z0) (k0_pay207 mk (k0_pay190 kA kB) q z1) (k0_pay208 mk (k0_pay190 kA kB) q z1) k0_pay209 g
      = pairAtt mk kA kB vA vB q z0 z1 g := rfl

/-- The two heads of columns 1792 to 1919, rows 0 to 127. -/
theorem pair_0_14 :
    k0_pay216 k0_pay98 mk (k0_pay191 vA vB) z1 (k0_pay211 (k0_pay190 kA kB) q) (k0_pay214 mk (k0_pay190 kA kB) q z0) (k0_pay215 mk (k0_pay190 kA kB) q z0) g
      = pairAtt mk kA kB vA vB q z0 z1 g := rfl

/-- The two heads of columns 1920 to 2047, rows 0 to 127. -/
theorem pair_0_15 :
    k0_pay227 k0_pay98 (k0_pay224 mk (k0_pay190 kA kB) (k0_pay191 vA vB) q z0 z1) (k0_pay225 mk (k0_pay190 kA kB) q z0) (k0_pay226 mk (k0_pay190 kA kB) q z1) g
      = pairAtt mk kA kB vA vB q z0 z1 g := rfl

/-- The two heads of columns 0 to 127, rows 128 to 255. -/
theorem pair_1_0 :
    k0_pay241 k0_pay98 (k0_pay238 mk (k0_pay229 kA kB) (k0_pay230 vA vB) q z0 z1) (k0_pay239 mk (k0_pay229 kA kB) q z0) (k0_pay240 mk (k0_pay229 kA kB) q z1) g
      = pairAtt mk kA kB vA vB q z0 z1 g := rfl

/-- The two heads of columns 128 to 255, rows 128 to 255. -/
theorem pair_1_1 :
    k0_pay249 k0_pay98 (k0_pay230 vA vB) z1 (k0_pay246 mk (k0_pay229 kA kB) q z0) (k0_pay247 mk (k0_pay229 kA kB) q z0) (k0_pay248 mk (k0_pay229 kA kB) q) g
      = pairAtt mk kA kB vA vB q z0 z1 g := rfl

/-- The two heads of columns 256 to 383, rows 128 to 255. -/
theorem pair_1_2 :
    k0_pay254 (k0_pay252 k0_pay98 mk (k0_pay230 vA vB) z0 z1 (k0_pay250 (k0_pay229 kA kB) q) (k0_pay251 (k0_pay229 kA kB) q)) g (k0_pay253 g)
      = pairAtt mk kA kB vA vB q z0 z1 g := rfl

/-- The two heads of columns 384 to 511, rows 128 to 255. -/
theorem pair_1_3 :
    k0_pay264 k0_pay98 (k0_pay230 vA vB) z1 (k0_pay259 mk (k0_pay229 kA kB) q z0) (k0_pay260 mk (k0_pay229 kA kB) q z0) (k0_pay262 mk (k0_pay229 kA kB) q z1) (k0_pay263 mk (k0_pay229 kA kB) q z1) g
      = pairAtt mk kA kB vA vB q z0 z1 g := rfl

/-- The two heads of columns 512 to 639, rows 128 to 255. -/
theorem pair_1_4 :
    k0_pay278 k0_pay98 (k0_pay267 (k0_pay266 vA) vB) (k0_pay272 mk (k0_pay265 kA kB) q z0) (k0_pay276 mk (k0_pay265 kA kB) q z1) (k0_pay277 mk (k0_pay265 kA kB) q z0 z1) g
      = pairAtt mk kA kB vA vB q z0 z1 g := rfl

/-- The two heads of columns 640 to 767, rows 128 to 255. -/
theorem pair_1_5 :
    k0_pay285 k0_pay98 mk (k0_pay267 (k0_pay266 vA) vB) z1 (k0_pay279 (k0_pay265 kA kB) q) (k0_pay283 mk (k0_pay265 kA kB) q z0) (k0_pay284 mk (k0_pay265 kA kB) q z0) (FloatOps.ofBits (F := F) FTy.f32 1065353216#32) g
      = pairAtt mk kA kB vA vB q z0 z1 g := rfl

/-- The two heads of columns 768 to 895, rows 128 to 255. -/
theorem pair_1_6 :
    k0_pay287 (k0_pay286 k0_pay98 mk (k0_pay265 kA kB) (k0_pay267 (k0_pay266 vA) vB) q z0 z1) g
      = pairAtt mk kA kB vA vB q z0 z1 g := rfl

/-- The two heads of columns 896 to 1023, rows 128 to 255. -/
theorem pair_1_7 :
    k0_pay296 k0_pay98 (k0_pay267 (k0_pay266 vA) vB) z1 (k0_pay292 mk (k0_pay265 kA kB) q z0) (k0_pay293 mk (k0_pay265 kA kB) q z0) (k0_pay294 mk (k0_pay265 kA kB) q) (k0_pay295 mk (k0_pay265 kA kB) q) g
      = pairAtt mk kA kB vA vB q z0 z1 g := rfl

/-- The two heads of columns 1024 to 1151, rows 128 to 255. -/
theorem pair_1_8 :
    k0_pay310 k0_pay98 (k0_pay298 vA vB) (k0_pay303 mk (k0_pay297 kA kB) q z0) (k0_pay304 mk (k0_pay297 kA kB) q z0) (k0_pay307 mk (k0_pay297 kA kB) q z1) (k0_pay308 mk (k0_pay297 kA kB) q z1) (k0_pay309 mk (k0_pay297 kA kB) q z1) g
      = pairAtt mk kA kB vA vB q z0 z1 g := rfl

/-- The two heads of columns 1152 to 1279, rows 128 to 255. -/
theorem pair_1_9 :
    k0_pay317 (k0_pay316 k0_pay98 mk (k0_pay298 vA vB) z0 z1 (k0_pay311 (k0_pay297 kA kB) q) (k0_pay313 mk (k0_pay297 kA kB) q z0) (k0_pay314 mk (k0_pay297 kA kB) q z0) (k0_pay315 mk (k0_pay297 kA kB) q z0) g)
      = pairAtt mk kA kB vA vB q z0 z1 g := rfl

/-- The two heads of columns 1280 to 1407, rows 128 to 255. -/
theorem pair_1_10 :
    k0_pay328 k0_pay98 (k0_pay322 mk (k0_pay297 kA kB) q z0) (k0_pay326 mk (k0_pay297 kA kB) q z1) (k0_pay327 mk (k0_pay297 kA kB) (k0_pay298 vA vB) q z0 z1) g
      = pairAtt mk kA kB vA vB q z0 z1 g := rfl

/-- The two heads of columns 1408 to 1535, rows 128 to 255. -/
theorem pair_1_11 :
    k0_pay335 k0_pay98 mk (k0_pay298 vA vB) z1 (k0_pay329 (k0_pay297 kA kB) q) (k0_pay333 mk (k0_pay297 kA kB) q z0) (k0_pay334 mk (k0_pay297 kA kB) q z0) g
      = pairAtt mk kA kB vA vB q z0 z1 g := rfl

/-- The two heads of columns 1536 to 1663, rows 128 to 255. -/
theorem pair_1_12 :
    k0_pay348 k0_pay98 (k0_pay338 vA vB) z1 (k0_pay343 mk (k0_pay336 kA) kB q z0) (k0_pay344 mk (k0_pay336 kA) kB q z0) (k0_pay346 mk (k0_pay336 kA) kB q z1) (k0_pay347 mk (k0_pay336 kA) kB q z1) g
      = pairAtt mk kA kB vA vB q z0 z1 g := rfl

/-- The two heads of columns 1664 to 1791, rows 128 to 255. -/
theorem pair_1_13 :
    k0_pay354 (k0_pay352 k0_pay98 mk (k0_pay338 vA vB) z0 z1 (k0_pay349 (k0_pay337 (k0_pay336 kA) kB) q) (k0_pay350 mk (k0_pay337 (k0_pay336 kA) kB) q) (k0_pay351 mk (k0_pay337 (k0_pay336 kA) kB) q z0)) (k0_pay353 g)
      = pairAtt mk kA kB vA vB q z0 z1 g := rfl

/-- The two heads of columns 1792 to 1919, rows 128 to 255. -/
theorem pair_1_14 :
    k0_pay366 k0_pay98 (k0_pay338 vA vB) (k0_pay359 mk (k0_pay337 (k0_pay336 kA) kB) q z0) (k0_pay360 mk (k0_pay337 (k0_pay336 kA) kB) q z0) (k0_pay364 mk (k0_pay337 (k0_pay336 kA) kB) q z1) (k0_pay365 mk (k0_pay337 (k0_pay336 kA) kB) q z1) g
      = pairAtt mk kA kB vA vB q z0 z1 g := rfl

/-- The two heads of columns 1920 to 2047, rows 128 to 255. -/
theorem pair_1_15 :
    k0_pay373 k0_pay98 mk (k0_pay338 vA vB) z1 (k0_pay367 (k0_pay337 (k0_pay336 kA) kB) q) (k0_pay370 mk (k0_pay337 (k0_pay336 kA) kB) q z0) (k0_pay371 mk (k0_pay337 (k0_pay336 kA) kB) q z0) (k0_pay372 mk (k0_pay337 (k0_pay336 kA) kB) q z0) g
      = pairAtt mk kA kB vA vB q z0 z1 g := rfl

end Cert.Swa
-- ==== Proof.Swa.Stores.lean ====
/-
  The stores of the run into its key, value, query and gate buffers: whatever payloads the run spells one with, the
  stored value is one of the tile's functions.
-/
module

public import proofs.«01_k».proof.Proof.Swa.Block
public import Idealize.ShloMosaic.Lib.Pipeline.Value

@[expose] public section

set_option maxRecDepth 16384

noncomputable section

namespace Cert.Swa

open Idealize.ShloMosaic Cert.KernelIdeal Cert.KernelIdeal.Gen

variable {F : FTy → Type} [FloatOps F]
variable (h : Vec F S1x256x1024 .f32) (kvn bn : Vec F S1x1024 .f32) (wkv : Vec F S1024x512 .bf16)
  (kn qn : Vec F S1x256 .f32) (bd : Vec F S256x256 .bf16) (cs sn : Vec F S256x128 .f32) (wq : Vec F S1024x256 .bf16)
  (wg : Vec F S1024x2048 .bf16) (og : Vec F S256x2048 .bf16) (wout : Vec F S2048x1024 .bf16)

/-- The stored keys of group 0, lower lanes. -/
theorem kTop_0 :
    k0_pay24 k0_pay9 (k0_pay16 (k0_pay5 h) (k0_pay6 cs) (k0_pay7 sn) k0_pay8 (k0_pay10 bd) (k0_pay11 kvn) (k0_pay12 h) wkv kn)
      = topPiece (kSlab ![0, 0] slices_S256x256_o0_0_S256x128 h kvn wkv kn bd cs sn) := rfl

/-- The stored keys of group 1, lower lanes. -/
theorem kTop_1 :
    k0_pay32 (k0_pay31 k0_pay9 (k0_pay16 (k0_pay5 h) (k0_pay6 cs) (k0_pay7 sn) k0_pay8 (k0_pay10 bd) (k0_pay11 kvn) (k0_pay12 h) wkv kn))
      = topPiece (swapHalves (kSlab ![0, 0] slices_S256x256_o0_0_S256x128 h kvn wkv kn bd cs sn)) := rfl

/-- The stored keys of group 2, lower lanes. -/
theorem kTop_2 :
    k0_pay39 k0_pay9 (k0_pay20 (k0_pay6 cs) (k0_pay7 sn) k0_pay8 (k0_pay17 (k0_pay5 h) (k0_pay10 bd) (k0_pay11 kvn) (k0_pay12 h) wkv kn) (k0_pay18 (k0_pay5 h) (k0_pay10 bd) (k0_pay11 kvn) (k0_pay12 h) wkv kn) (k0_pay19 (k0_pay5 h) (k0_pay10 bd) (k0_pay11 kvn) (k0_pay12 h) wkv kn))
      = topPiece (kSlab ![0, 128] slices_S256x256_o0_128_S256x128 h kvn wkv kn bd cs sn) := rfl

/-- The stored keys of group 3, lower lanes. -/
theorem kTop_3 :
    k0_pay47 k0_pay9 (k0_pay20 (k0_pay6 cs) (k0_pay7 sn) k0_pay8 (k0_pay17 (k0_pay5 h) (k0_pay10 bd) (k0_pay11 kvn) (k0_pay12 h) wkv kn) (k0_pay18 (k0_pay5 h) (k0_pay10 bd) (k0_pay11 kvn) (k0_pay12 h) wkv kn) (k0_pay19 (k0_pay5 h) (k0_pay10 bd) (k0_pay11 kvn) (k0_pay12 h) wkv kn))
      = topPiece (swapHalves (kSlab ![0, 128] slices_S256x256_o0_128_S256x128 h kvn wkv kn bd cs sn)) := rfl

/-- The stored keys of group 0, upper lanes. -/
theorem kBot_0 :
    k0_pay25 k0_pay9 (k0_pay16 (k0_pay5 h) (k0_pay6 cs) (k0_pay7 sn) k0_pay8 (k0_pay10 bd) (k0_pay11 kvn) (k0_pay12 h) wkv kn)
      = botPiece (swapHalves (kSlab ![0, 0] slices_S256x256_o0_0_S256x128 h kvn wkv kn bd cs sn)) := rfl

/-- The stored keys of group 1, upper lanes. -/
theorem kBot_1 :
    k0_pay33 k0_pay9 (k0_pay16 (k0_pay5 h) (k0_pay6 cs) (k0_pay7 sn) k0_pay8 (k0_pay10 bd) (k0_pay11 kvn) (k0_pay12 h) wkv kn) (k0_pay30 (F := F))
      = botPiece (kSlab ![0, 0] slices_S256x256_o0_0_S256x128 h kvn wkv kn bd cs sn) := rfl

/-- The stored keys of group 2, upper lanes. -/
theorem kBot_2 :
    k0_pay41 (k0_pay40 k0_pay9 (k0_pay20 (k0_pay6 cs) (k0_pay7 sn) k0_pay8 (k0_pay17 (k0_pay5 h) (k0_pay10 bd) (k0_pay11 kvn) (k0_pay12 h) wkv kn) (k0_pay18 (k0_pay5 h) (k0_pay10 bd) (k0_pay11 kvn) (k0_pay12 h) wkv kn) (k0_pay19 (k0_pay5 h) (k0_pay10 bd) (k0_pay11 kvn) (k0_pay12 h) wkv kn)))
      = botPiece (swapHalves (kSlab ![0, 128] slices_S256x256_o0_128_S256x128 h kvn wkv kn bd cs sn)) := rfl

/-- The stored keys of group 3, upper lanes. -/
theorem kBot_3 :
    k0_pay48 k0_pay9 (k0_pay20 (k0_pay6 cs) (k0_pay7 sn) k0_pay8 (k0_pay17 (k0_pay5 h) (k0_pay10 bd) (k0_pay11 kvn) (k0_pay12 h) wkv kn) (k0_pay18 (k0_pay5 h) (k0_pay10 bd) (k0_pay11 kvn) (k0_pay12 h) wkv kn) (k0_pay19 (k0_pay5 h) (k0_pay10 bd) (k0_pay11 kvn) (k0_pay12 h) wkv kn))
      = botPiece (kSlab ![0, 128] slices_S256x256_o0_128_S256x128 h kvn wkv kn bd cs sn) := rfl

/-- The stored values of group 0, lower lanes. -/
theorem vTop_0 :
    k0_pay28 k0_pay9 (k0_pay15 (k0_pay5 h) (k0_pay11 kvn) (k0_pay12 h) wkv)
      = topPiece (extractStridedSlice S256x128 ![0, 0] (vMat h kvn wkv) slices_S256x256_o0_0_S256x128) := rfl

/-- The stored values of group 1, lower lanes. -/
theorem vTop_1 :
    k0_pay36 k0_pay9 (k0_pay15 (k0_pay5 h) (k0_pay11 kvn) (k0_pay12 h) wkv)
      = topPiece (swapHalves (extractStridedSlice S256x128 ![0, 0] (vMat h kvn wkv) slices_S256x256_o0_0_S256x128)) := rfl

/-- The stored values of group 2, lower lanes. -/
theorem vTop_2 :
    k0_pay44 k0_pay9 (k0_pay15 (k0_pay5 h) (k0_pay11 kvn) (k0_pay12 h) wkv)
      = topPiece (extractStridedSlice S256x128 ![0, 128] (vMat h kvn wkv) slices_S256x256_o0_128_S256x128) := rfl

/-- The stored values of group 3, lower lanes. -/
theorem vTop_3 :
    k0_pay53 (k0_pay52 k0_pay9 (k0_pay15 (k0_pay5 h) (k0_pay11 kvn) (k0_pay12 h) wkv))
      = topPiece (swapHalves (extractStridedSlice S256x128 ![0, 128] (vMat h kvn wkv) slices_S256x256_o0_128_S256x128)) := rfl

/-- The stored values of group 0, upper lanes. -/
theorem vBot_0 :
    k0_pay29 k0_pay9 (k0_pay15 (k0_pay5 h) (k0_pay11 kvn) (k0_pay12 h) wkv)
      = botPiece (swapHalves (extractStridedSlice S256x128 ![0, 0] (vMat h kvn wkv) slices_S256x256_o0_0_S256x128)) := rfl

/-- The stored values of group 1, upper lanes. -/
theorem vBot_1 :
    k0_pay37 k0_pay9 (k0_pay15 (k0_pay5 h) (k0_pay11 kvn) (k0_pay12 h) wkv)
      = botPiece (extractStridedSlice S256x128 ![0, 0] (vMat h kvn wkv) slices_S256x256_o0_0_S256x128) := rfl

/-- The stored values of group 2, upper lanes. -/
theorem vBot_2 :
    k0_pay45 k0_pay9 (k0_pay15 (k0_pay5 h) (k0_pay11 kvn) (k0_pay12 h) wkv)
      = botPiece (swapHalves (extractStridedSlice S256x128 ![0, 128] (vMat h kvn wkv) slices_S256x256_o0_128_S256x128)) := rfl

/-- The stored values of group 3, upper lanes. -/
theorem vBot_3 :
    k0_pay54 (k0_pay51 k0_pay9 (k0_pay15 (k0_pay5 h) (k0_pay11 kvn) (k0_pay12 h) wkv))
      = botPiece (extractStridedSlice S256x128 ![0, 128] (vMat h kvn wkv) slices_S256x256_o0_128_S256x128) := rfl

/-- The stored queries of columns 0 to 127. -/
theorem q_0 :
    k0_pay60 (k0_pay6 cs) (k0_pay7 sn) k0_pay8 (k0_pay56 qn) (k0_pay57 (k0_pay5 h) bn wq) (k0_pay58 (k0_pay5 h) (k0_pay10 bd) bn wq)
      = qSlab ![0, 0] slices_S256x256_o0_0_S256x128 h bn wq qn bd cs sn := rfl

/-- The stored queries of columns 128 to 255. -/
theorem q_1 :
    k0_pay61 (k0_pay6 cs) (k0_pay7 sn) k0_pay8 (k0_pay56 qn) (k0_pay57 (k0_pay5 h) bn wq) (k0_pay58 (k0_pay5 h) (k0_pay10 bd) bn wq)
      = qSlab ![0, 128] slices_S256x256_o0_128_S256x128 h bn wq qn bd cs sn := rfl

/-- The stored queries of columns 256 to 383. -/
theorem q_2 :
    k0_pay65 (k0_pay6 cs) (k0_pay7 sn) k0_pay8 (k0_pay62 (k0_pay10 bd) (k0_pay55 (k0_pay5 h) bn) wq) (k0_pay63 (k0_pay56 qn))
      = qSlab ![0, 0] slices_S256x256_o0_0_S256x128 h bn wq qn bd cs sn := rfl

/-- The stored queries of columns 384 to 511. -/
theorem q_3 :
    k0_pay66 (k0_pay6 cs) (k0_pay7 sn) k0_pay8 (k0_pay62 (k0_pay10 bd) (k0_pay55 (k0_pay5 h) bn) wq) (k0_pay63 (k0_pay56 qn))
      = qSlab ![0, 128] slices_S256x256_o0_128_S256x128 h bn wq qn bd cs sn := rfl

/-- The stored queries of columns 512 to 639. -/
theorem q_4 :
    k0_pay69 (k0_pay6 cs) (k0_pay7 sn) k0_pay8 (k0_pay68 (k0_pay10 bd) (k0_pay55 (k0_pay5 h) bn) (k0_pay56 qn) wq)
      = qSlab ![0, 0] slices_S256x256_o0_0_S256x128 h bn wq qn bd cs sn := rfl

/-- The stored queries of columns 640 to 767. -/
theorem q_5 :
    k0_pay70 (k0_pay6 cs) (k0_pay7 sn) k0_pay8 (k0_pay67 (k0_pay10 bd) (k0_pay55 (k0_pay5 h) bn) (k0_pay56 qn) wq)
      = qSlab ![0, 128] slices_S256x256_o0_128_S256x128 h bn wq qn bd cs sn := rfl

/-- The stored queries of columns 768 to 895. -/
theorem q_6 :
    k0_pay74 (k0_pay6 cs) (k0_pay7 sn) k0_pay8 (k0_pay72 (k0_pay10 bd) (k0_pay55 (k0_pay5 h) bn) (k0_pay56 qn) wq) (k0_pay73 (k0_pay10 bd) (k0_pay55 (k0_pay5 h) bn) (k0_pay56 qn) wq)
      = qSlab ![0, 0] slices_S256x256_o0_0_S256x128 h bn wq qn bd cs sn := rfl

/-- The stored queries of columns 896 to 1023. -/
theorem q_7 :
    k0_pay75 (k0_pay6 cs) (k0_pay7 sn) k0_pay8 (k0_pay71 (k0_pay10 bd) (k0_pay55 (k0_pay5 h) bn) (k0_pay56 qn) wq)
      = qSlab ![0, 128] slices_S256x256_o0_128_S256x128 h bn wq qn bd cs sn := rfl

/-- The stored queries of columns 1024 to 1151. -/
theorem q_8 :
    k0_pay80 (k0_pay6 cs) (k0_pay7 sn) k0_pay8 (k0_pay77 (k0_pay10 bd) (k0_pay55 (k0_pay5 h) bn) (k0_pay56 qn) wq) (k0_pay78 (k0_pay10 bd) (k0_pay55 (k0_pay5 h) bn) (k0_pay56 qn) wq) (k0_pay79 (k0_pay10 bd) (k0_pay55 (k0_pay5 h) bn) (k0_pay56 qn) wq)
      = qSlab ![0, 0] slices_S256x256_o0_0_S256x128 h bn wq qn bd cs sn := rfl

/-- The stored queries of columns 1152 to 1279. -/
theorem q_9 :
    k0_pay81 (k0_pay6 cs) (k0_pay7 sn) k0_pay8 (k0_pay76 (k0_pay10 bd) (k0_pay55 (k0_pay5 h) bn) (k0_pay56 qn) wq)
      = qSlab ![0, 128] slices_S256x256_o0_128_S256x128 h bn wq qn bd cs sn := rfl

/-- The stored queries of columns 1280 to 1407. -/
theorem q_10 :
    k0_pay86 (k0_pay7 sn) (k0_pay84 k0_pay8 (k0_pay10 bd) (k0_pay55 (k0_pay5 h) bn) (k0_pay56 qn) wq) (k0_pay85 (k0_pay6 cs) (k0_pay10 bd) (k0_pay55 (k0_pay5 h) bn) (k0_pay56 qn) wq)
      = qSlab ![0, 0] slices_S256x256_o0_0_S256x128 h bn wq qn bd cs sn := rfl

/-- The stored queries of columns 1408 to 1535. -/
theorem q_11 :
    k0_pay87 (k0_pay6 cs) (k0_pay7 sn) k0_pay8 (k0_pay82 (k0_pay10 bd) (k0_pay55 (k0_pay5 h) bn) (k0_pay56 qn) wq)
      = qSlab ![0, 128] slices_S256x256_o0_128_S256x128 h bn wq qn bd cs sn := rfl

/-- The stored queries of columns 1536 to 1663. -/
theorem q_12 :
    k0_pay90 (k0_pay89 (k0_pay6 cs) (k0_pay7 sn) k0_pay8 (k0_pay10 bd) (k0_pay55 (k0_pay5 h) bn) (k0_pay56 qn) wq)
      = qSlab ![0, 0] slices_S256x256_o0_0_S256x128 h bn wq qn bd cs sn := rfl

/-- The stored queries of columns 1664 to 1791. -/
theorem q_13 :
    k0_pay91 (k0_pay6 cs) (k0_pay7 sn) k0_pay8 (k0_pay88 (k0_pay10 bd) (k0_pay55 (k0_pay5 h) bn) (k0_pay56 qn) wq)
      = qSlab ![0, 128] slices_S256x256_o0_128_S256x128 h bn wq qn bd cs sn := rfl

/-- The stored queries of columns 1792 to 1919. -/
theorem q_14 :
    k0_pay94 (k0_pay93 (k0_pay6 cs) (k0_pay7 sn) k0_pay8 (k0_pay10 bd) (k0_pay55 (k0_pay5 h) bn) (k0_pay56 qn) wq)
      = qSlab ![0, 0] slices_S256x256_o0_0_S256x128 h bn wq qn bd cs sn := rfl

/-- The stored queries of columns 1920 to 2047. -/
theorem q_15 :
    k0_pay95 (k0_pay6 cs) (k0_pay7 sn) k0_pay8 (k0_pay92 (k0_pay10 bd) (k0_pay55 (k0_pay5 h) bn) (k0_pay56 qn) wq)
      = qSlab ![0, 128] slices_S256x256_o0_128_S256x128 h bn wq qn bd cs sn := rfl

/-- The stored gate. -/
theorem gate_eq :
    k0_pay96 (k0_pay55 (k0_pay5 h) bn) wg
      = gateMat h bn wg := rfl

/-- The stored result. -/
theorem out_eq :
    k0_pay378 (k0_pay5 h) og wout
      = outMat h og wout := rfl

/-- The first group buffer's move of rows is no change of shape. -/
theorem move_0 (x : Vec F S4x128x128 .bf16) : k0_pay374 x = x := shapeCast_self x _

/-- The second group buffer's move of rows is no change of shape. -/
theorem move_1 (x : Vec F S4x128x128 .bf16) : k0_pay375 x = x := shapeCast_self x _

/-- The third group buffer's move of rows is no change of shape. -/
theorem move_2 (x : Vec F S4x128x128 .bf16) : k0_pay376 x = x := shapeCast_self x _

/-- The fourth group buffer's move of rows is no change of shape. -/
theorem move_3 (x : Vec F S4x128x128 .bf16) : k0_pay377 x = x := shapeCast_self x _

end Cert.Swa
-- ==== Proof.Swa.Reads.lean ====
/-
  What the run's loads read: its buffers after their stores, as functions of the stored pieces, and loads as windows
  of those functions.
-/
module

public import proofs.«01_k».proof.Proof.Swa.Block
public import Idealize.ShloMosaic.Lib.Pipeline.ReadBack
public import Idealize.ShloMosaic.Lib.Pipeline.Value
public import Idealize.ShloMosaic.Lib.Pipeline.ValueKit.Tiles
public import Idealize.ShloMosaic.Lib.VecWindow
public import Idealize.ShloMosaic.Lib.WritesUnit
public import Idealize.ShloMosaic.Lib.Ring

@[expose] public section

set_option maxRecDepth 16384

noncomputable section

namespace Cert.Swa

open Idealize.ShloMosaic Cert.KernelIdeal Cert.KernelIdeal.Gen

variable {F : FTy → Type} [FloatOps F]

/-- A group buffer: rows 128 to 383 from the tile's four pieces, the rows above from what was there before. -/
def buf4 (p : Fin 4 → Vec F S1x256x128 .bf16) (base : Vec F S4x384x128 .bf16) : Vec F S4x384x128 .bf16 := fun y =>
  if h : 128 ≤ (y (1 : Fin 3)).val then
    p (y (0 : Fin 3)) (ix3 0 ⟨(y (1 : Fin 3)).val - 128, by have : (y (1 : Fin 3)).val < 384 := (y (1 : Fin 3)).isLt; omega⟩ (y (2 : Fin 3)))
  else base y

/-- The query buffer: sixteen slabs of 128 columns. -/
def buf16 (p : Fin 16 → Vec F S256x128 .bf16) : Vec F S256x2048 .bf16 := fun y =>
  p ⟨(y (1 : Fin 2)).val / 128, by have : (y (1 : Fin 2)).val < 2048 := (y (1 : Fin 2)).isLt; omega⟩
    (ix2 (y (0 : Fin 2)) ⟨(y (1 : Fin 2)).val % 128, Nat.mod_lt _ (by norm_num)⟩)

section

variable {κ : Kind} {sp : Space}

/-- A group buffer read after the tile's four stores. -/
theorem read4 (v : View sig κ sp S4x384x128 .bf16) (f : v.ty.Contents (Elt F)) (p0 p1 p2 p3 : Vec F S1x256x128 .bf16) (i3 i2 i1 i0) :
    v.read (Elt F) (v.writes (Elt F) f [⟨Rect.unit ![3, 128, 0] S1x256x128.size i3, p3⟩, ⟨Rect.unit ![2, 128, 0] S1x256x128.size i2, p2⟩,
      ⟨Rect.unit ![1, 128, 0] S1x256x128.size i1, p1⟩, ⟨Rect.unit ![0, 128, 0] S1x256x128.size i0, p0⟩])
      = buf4 ![p0, p1, p2, p3] (v.read (Elt F) f) := by
  funext y
  have h0 : (y (0 : Fin 3)).val < 4 := (y (0 : Fin 3)).isLt
  have h1 : (y (1 : Fin 3)).val < 384 := (y (1 : Fin 3)).isLt
  have h2 : (y (2 : Fin 3)).val < 128 := (y (2 : Fin 3)).isLt
  unfold buf4
  by_cases hy : 128 ≤ (y (1 : Fin 3)).val
  · rw [dif_pos hy]
    have hc : (y (0 : Fin 3)).val = 0 ∨ (y (0 : Fin 3)).val = 1 ∨ (y (0 : Fin 3)).val = 2 ∨ (y (0 : Fin 3)).val = 3 := by omega
    rcases hc with e | e | e | e
    · rw [View.read_writes_cons_unit_of_not_mem v _ i3 p3 _ y rfl (0 : Fin 3) (.inl (by show _ < 3; omega)),
        View.read_writes_cons_unit_of_not_mem v _ i2 p2 _ y rfl (0 : Fin 3) (.inl (by show _ < 2; omega)),
        View.read_writes_cons_unit_of_not_mem v _ i1 p1 _ y rfl (0 : Fin 3) (.inl (by show _ < 1; omega)),
        View.read_writes_cons_unit_of_mem v _ i0 p0 _ y
          (ix3 (0 : Fin 1) (⟨(y (1 : Fin 3)).val - 128, by omega⟩ : Fin 256) (⟨(y (2 : Fin 3)).val, h2⟩ : Fin 128)) rfl
          (by intro a; fin_cases a
              · show (y (0 : Fin 3)).val = 0 + 0; omega
              · show (y (1 : Fin 3)).val = 128 + ((y (1 : Fin 3)).val - 128); omega
              · show (y (2 : Fin 3)).val = 0 + (y (2 : Fin 3)).val; omega)]
      have e' : y (0 : Fin 3) = (0 : Fin 4) := Fin.ext e
      rw [e']; rfl
    · rw [View.read_writes_cons_unit_of_not_mem v _ i3 p3 _ y rfl (0 : Fin 3) (.inl (by show _ < 3; omega)),
        View.read_writes_cons_unit_of_not_mem v _ i2 p2 _ y rfl (0 : Fin 3) (.inl (by show _ < 2; omega)),
        View.read_writes_cons_unit_of_mem v _ i1 p1 _ y
          (ix3 (0 : Fin 1) (⟨(y (1 : Fin 3)).val - 128, by omega⟩ : Fin 256) (⟨(y (2 : Fin 3)).val, h2⟩ : Fin 128)) rfl
          (by intro a; fin_cases a
              · show (y (0 : Fin 3)).val = 1 + 0; omega
              · show (y (1 : Fin 3)).val = 128 + ((y (1 : Fin 3)).val - 128); omega
              · show (y (2 : Fin 3)).val = 0 + (y (2 : Fin 3)).val; omega)]
      have e' : y (0 : Fin 3) = (1 : Fin 4) := Fin.ext e
      rw [e']; rfl
    · rw [View.read_writes_cons_unit_of_not_mem v _ i3 p3 _ y rfl (0 : Fin 3) (.inl (by show _ < 3; omega)),
        View.read_writes_cons_unit_of_mem v _ i2 p2 _ y
          (ix3 (0 : Fin 1) (⟨(y (1 : Fin 3)).val - 128, by omega⟩ : Fin 256) (⟨(y (2 : Fin 3)).val, h2⟩ : Fin 128)) rfl
          (by intro a; fin_cases a
              · show (y (0 : Fin 3)).val = 2 + 0; omega
              · show (y (1 : Fin 3)).val = 128 + ((y (1 : Fin 3)).val - 128); omega
              · show (y (2 : Fin 3)).val = 0 + (y (2 : Fin 3)).val; omega)]
      have e' : y (0 : Fin 3) = (2 : Fin 4) := Fin.ext e
      rw [e']; rfl
    · rw [View.read_writes_cons_unit_of_mem v _ i3 p3 _ y
          (ix3 (0 : Fin 1) (⟨(y (1 : Fin 3)).val - 128, by omega⟩ : Fin 256) (⟨(y (2 : Fin 3)).val, h2⟩ : Fin 128)) rfl
          (by intro a; fin_cases a
              · show (y (0 : Fin 3)).val = 3 + 0; omega
              · show (y (1 : Fin 3)).val = 128 + ((y (1 : Fin 3)).val - 128); omega
              · show (y (2 : Fin 3)).val = 0 + (y (2 : Fin 3)).val; omega)]
      have e' : y (0 : Fin 3) = (3 : Fin 4) := Fin.ext e
      rw [e']; rfl
  · rw [dif_neg hy,
      View.read_writes_cons_unit_of_not_mem v _ i3 p3 _ y rfl (1 : Fin 3) (.inl (by show _ < 128; omega)),
      View.read_writes_cons_unit_of_not_mem v _ i2 p2 _ y rfl (1 : Fin 3) (.inl (by show _ < 128; omega)),
      View.read_writes_cons_unit_of_not_mem v _ i1 p1 _ y rfl (1 : Fin 3) (.inl (by show _ < 128; omega)),
      View.read_writes_cons_unit_of_not_mem v _ i0 p0 _ y rfl (1 : Fin 3) (.inl (by show _ < 128; omega))]
    rfl

/-- A load of a group buffer after the tile's stores, over what it held before. -/
theorem load4 (M : Memref sig κ sp S4x384x128 .bf16) (hM : M.IsWhole) (xs : Vec F S4x384x128 .bf16) (p0 p1 p2 p3 : Vec F S1x256x128 .bf16)
    (i3 i2 i1 i0) (r : Rect S4x384x128) :
    View.readAt (Elt F) M.view r.toLoadRect (M.view.writes (Elt F) (hM.unread xs)
      [⟨Rect.unit ![3, 128, 0] S1x256x128.size i3, p3⟩, ⟨Rect.unit ![2, 128, 0] S1x256x128.size i2, p2⟩,
        ⟨Rect.unit ![1, 128, 0] S1x256x128.size i1, p1⟩, ⟨Rect.unit ![0, 128, 0] S1x256x128.size i0, p0⟩])
      = View.ld (buf4 ![p0, p1, p2, p3] xs) r := by
  rw [View.readAt_eq_ld, read4, hM.read_unread]

/-- A load of rows 128 and on of a group buffer after the tile's stores: what was there before does not matter. -/
theorem load4_low (v : View sig κ sp S4x384x128 .bf16) (xs : Vec F S4x384x128 .bf16) (p0 p1 p2 p3 : Vec F S1x256x128 .bf16)
    (i3 i2 i1 i0) (off size : Fin 3 → ℕ) (inb) (ho : 128 ≤ off 1) :
    v.readCov [⟨Rect.unit ![3, 128, 0] S1x256x128.size i3, p3⟩, ⟨Rect.unit ![2, 128, 0] S1x256x128.size i2, p2⟩,
        ⟨Rect.unit ![1, 128, 0] S1x256x128.size i1, p1⟩, ⟨Rect.unit ![0, 128, 0] S1x256x128.size i0, p0⟩]
      (Rect.unit (s := S4x384x128) off size inb).toLoadRect
      = View.ld (buf4 ![p0, p1, p2, p3] xs) (Rect.unit (s := S4x384x128) off size inb) := by
  show v.readAt (Elt F) _ (v.writes (Elt F) v.junk _) = _
  rw [View.readAt_eq_ld, read4]
  funext j
  have hy : 128 ≤ ((Rect.unit (s := S4x384x128) off size inb).idx j (1 : Fin 3)).val := by
    rw [Rect.idx_unit_val]; omega
  rw [View.ld_apply, View.ld_apply]
  unfold buf4
  rw [dif_pos hy, dif_pos hy]

/-- A group buffer's top 128 rows, in a buffer of its own shape. -/
def padRows (z : Vec F S4x128x128 .bf16) : Vec F S4x384x128 .bf16 := fun y =>
  z (ix3 (y (0 : Fin 3)) ⟨(y (1 : Fin 3)).val % 128, Nat.mod_lt _ (by norm_num)⟩ (y (2 : Fin 3)))

/-- What a group buffer holds when the tile is done: its last 128 rows, moved to the top, where the next tile finds them. -/
def carried (B : Vec F S4x384x128 .bf16) : Vec F S4x384x128 .bf16 := fun y =>
  if h : (y (1 : Fin 3)).val < 128 then B (ix3 (y (0 : Fin 3)) ⟨(y (1 : Fin 3)).val + 256, by omega⟩ (y (2 : Fin 3))) else B y

/-- A store into the top 128 rows, read at one of them. -/
theorem read_top (v : View sig κ sp S4x384x128 .bf16) (f : v.ty.Contents (Elt F)) (z : Vec F S4x128x128 .bf16) (iz)
    (L : List (View.Piece (Elt F) S4x384x128 .bf16)) (y : S4x384x128.Idx) (hy : (y (1 : Fin 3)).val < 128) :
    v.read (Elt F) (v.writes (Elt F) f (⟨Rect.unit ![0, 0, 0] S4x128x128.size iz, z⟩ :: L)) y
      = z (ix3 (y (0 : Fin 3)) ⟨(y (1 : Fin 3)).val, hy⟩ (y (2 : Fin 3))) := by
  rw [View.read_writes_cons_unit_of_mem v _ iz z _ y (ix3 (y (0 : Fin 3)) ⟨(y (1 : Fin 3)).val, hy⟩ (y (2 : Fin 3))) rfl
    (by intro a; fin_cases a
        · exact (Nat.zero_add _).symm
        · exact (Nat.zero_add _).symm
        · exact (Nat.zero_add _).symm)]

/-- A load of a group buffer whose top rows were filled before the tile's stores. -/
theorem load4_fill (v : View sig κ sp S4x384x128 .bf16) (z : Vec F S4x128x128 .bf16) (p0 p1 p2 p3 : Vec F S1x256x128 .bf16)
    (i3 i2 i1 i0 iz) (r : Rect S4x384x128) :
    v.readCov [⟨Rect.unit ![3, 128, 0] S1x256x128.size i3, p3⟩, ⟨Rect.unit ![2, 128, 0] S1x256x128.size i2, p2⟩,
        ⟨Rect.unit ![1, 128, 0] S1x256x128.size i1, p1⟩, ⟨Rect.unit ![0, 128, 0] S1x256x128.size i0, p0⟩,
        ⟨Rect.unit ![0, 0, 0] S4x128x128.size iz, z⟩] r.toLoadRect
      = View.ld (buf4 ![p0, p1, p2, p3] (padRows z)) r := by
  have e : ∀ L : List (View.Piece (Elt F) S4x384x128 .bf16), v.writes (Elt F) v.junk (L ++ [⟨Rect.unit ![0, 0, 0] S4x128x128.size iz, z⟩])
      = v.writes (Elt F) (v.writes (Elt F) v.junk [⟨Rect.unit ![0, 0, 0] S4x128x128.size iz, z⟩]) L := fun L => by
    rw [View.writes_append]
  refine (congrArg (v.readAt (Elt F) r.toLoadRect) (e [⟨Rect.unit ![3, 128, 0] S1x256x128.size i3, p3⟩,
    ⟨Rect.unit ![2, 128, 0] S1x256x128.size i2, p2⟩, ⟨Rect.unit ![1, 128, 0] S1x256x128.size i1, p1⟩,
    ⟨Rect.unit ![0, 128, 0] S1x256x128.size i0, p0⟩])).trans ?_
  rw [View.readAt_eq_ld, read4]
  refine congrArg (fun B => View.ld B r) ?_
  funext y
  unfold buf4
  by_cases hy : 128 ≤ (y (1 : Fin 3)).val
  · rw [dif_pos hy, dif_pos hy]
  · rw [dif_neg hy, dif_neg hy, read_top v _ z iz [] y (by omega)]
    unfold padRows
    congr 2
    exact Fin.ext (Nat.mod_eq_of_lt (by omega)).symm

/-- A group buffer after the tile's stores and the move of its last 128 rows to the top. -/
theorem read_carry (v : View sig κ sp S4x384x128 .bf16) (f : v.ty.Contents (Elt F)) (xs : Vec F S4x384x128 .bf16)
    (p0 p1 p2 p3 : Vec F S1x256x128 .bf16) (ic i3 i2 i1 i0 b) :
    v.read (Elt F) (v.writes (Elt F) f [⟨Rect.unit ![0, 0, 0] S4x128x128.size ic,
        View.ld (buf4 ![p0, p1, p2, p3] xs) (Rect.unit (s := S4x384x128) ![0, 256, 0] S4x128x128.size b)⟩,
      ⟨Rect.unit ![3, 128, 0] S1x256x128.size i3, p3⟩, ⟨Rect.unit ![2, 128, 0] S1x256x128.size i2, p2⟩,
      ⟨Rect.unit ![1, 128, 0] S1x256x128.size i1, p1⟩, ⟨Rect.unit ![0, 128, 0] S1x256x128.size i0, p0⟩])
      = carried (buf4 ![p0, p1, p2, p3] xs) := by
  funext y
  unfold carried
  by_cases hy : (y (1 : Fin 3)).val < 128
  · rw [dif_pos hy, read_top v _ _ ic _ y hy]
    refine View.ld_unit_apply_of _ _ _ b _ _ fun a => ?_
    fin_cases a
    · exact (Nat.zero_add _).symm
    · exact Nat.add_comm _ _
    · exact (Nat.zero_add _).symm
  · rw [dif_neg hy, View.read_writes_cons_unit_of_not_mem v _ ic _ _ y rfl (1 : Fin 3) (.inr (by show 0 + 128 ≤ _; omega)), read4]
    unfold buf4
    rw [dif_pos (by omega : 128 ≤ (y (1 : Fin 3)).val), dif_pos (by omega : 128 ≤ (y (1 : Fin 3)).val)]

/-- The same where the top rows had been filled before. -/
theorem read_carry_fill (v : View sig κ sp S4x384x128 .bf16) (z : Vec F S4x128x128 .bf16) (xs : Vec F S4x384x128 .bf16)
    (p0 p1 p2 p3 : Vec F S1x256x128 .bf16) (ic i3 i2 i1 i0 iz b) :
    v.read (Elt F) (v.writes (Elt F) v.junk [⟨Rect.unit ![0, 0, 0] S4x128x128.size ic,
        View.ld (buf4 ![p0, p1, p2, p3] xs) (Rect.unit (s := S4x384x128) ![0, 256, 0] S4x128x128.size b)⟩,
      ⟨Rect.unit ![3, 128, 0] S1x256x128.size i3, p3⟩, ⟨Rect.unit ![2, 128, 0] S1x256x128.size i2, p2⟩,
      ⟨Rect.unit ![1, 128, 0] S1x256x128.size i1, p1⟩, ⟨Rect.unit ![0, 128, 0] S1x256x128.size i0, p0⟩,
      ⟨Rect.unit ![0, 0, 0] S4x128x128.size iz, z⟩])
      = carried (buf4 ![p0, p1, p2, p3] xs) := by
  have e : ∀ L : List (View.Piece (Elt F) S4x384x128 .bf16), v.writes (Elt F) v.junk (L ++ [⟨Rect.unit ![0, 0, 0] S4x128x128.size iz, z⟩])
      = v.writes (Elt F) (v.writes (Elt F) v.junk [⟨Rect.unit ![0, 0, 0] S4x128x128.size iz, z⟩]) L := fun L => by
    rw [View.writes_append]
  refine (congrArg (v.read (Elt F)) (e [⟨Rect.unit ![0, 0, 0] S4x128x128.size ic,
        View.ld (buf4 ![p0, p1, p2, p3] xs) (Rect.unit (s := S4x384x128) ![0, 256, 0] S4x128x128.size b)⟩,
      ⟨Rect.unit ![3, 128, 0] S1x256x128.size i3, p3⟩, ⟨Rect.unit ![2, 128, 0] S1x256x128.size i2, p2⟩,
      ⟨Rect.unit ![1, 128, 0] S1x256x128.size i1, p1⟩, ⟨Rect.unit ![0, 128, 0] S1x256x128.size i0, p0⟩])).trans ?_
  exact read_carry v _ xs p0 p1 p2 p3 ic i3 i2 i1 i0 b

/-- A load of a whole buffer. -/
theorem load_whole {S : Shape} {e : EltTy} (M : Memref sig κ sp S e) (hM : M.IsWhole) (X : Vec F S e) (off : Fin S.rank → ℕ)
    (inb) (h : off = fun _ => 0) :
    View.readAt (Elt F) M.view (Rect.unit off S.size inb).toLoadRect (hM.unread X) = X := by
  rw [View.readAt_eq_ld, hM.read_unread, View.ld_unit_zero h]

/-- A load of part of a buffer. -/
theorem load_part {S : Shape} {e : EltTy} (M : Memref sig κ sp S e) (hM : M.IsWhole) (X : Vec F S e) (r : Rect S) :
    View.readAt (Elt F) M.view r.toLoadRect (hM.unread X) = View.ld X r := by
  rw [View.readAt_eq_ld, hM.read_unread]

/-- A load of a buffer stored into once, whole. -/
theorem load_cov_whole {S : Shape} {e : EltTy} (v : View sig κ sp S e) (X : Vec F S e) (off : Fin S.rank → ℕ) (inb)
    (h : off = fun _ => 0) (r : Rect S) :
    v.readCov [⟨Rect.unit off S.size inb, X⟩] r.toLoadRect = View.ld X r := by
  rw [View.readCov_eq_canon', View.canon_unit_zero h]

/-- A load of a buffer stored into only. -/
theorem load_cov {S : Shape} {e : EltTy} (v : View sig κ sp S e) (L : List (View.Piece (Elt F) S e)) (r : Rect S) :
    v.readCov L r.toLoadRect = View.ld (View.canon L) r := by
  rw [View.readCov_eq_canon']

end

end Cert.Swa
-- ==== Proof.Swa.Tile.lean ====
/-
  One grid point of the attention body: the gated attention of a tile as one function of the tile's group buffers,
  queries, gate and sinks, and the thirty-two stores of it read back as that function.
-/
module

public import proofs.«01_k».proof.Proof.Swa.Stores
public import proofs.«01_k».proof.Proof.Swa.Reads

@[expose] public section

set_option maxRecDepth 16384

noncomputable section

namespace Cert.Swa

open Idealize.ShloMosaic Cert.KernelIdeal Cert.KernelIdeal.Gen

variable {F : FTy → Type} [FloatOps F]

/-- A window of 256 rows of one group of a buffer, from row `128 * i`. -/
def win (B : Vec F S4x384x128 .bf16) (g : Fin 4) (i : Fin 2) : Vec F S1x256x128 .bf16 := fun x =>
  B (ix3 g (⟨128 * i.val + (x (1 : Fin 3)).val, by have : (x (1 : Fin 3)).val < 256 := (x (1 : Fin 3)).isLt; omega⟩ : Fin 384) (x (2 : Fin 3)))

/-- A square of 128 rows and columns. -/
def win2 {e : EltTy} (B : Vec F S256x2048 e) (i : Fin 2) (k : Fin 16) : Vec F S128x128 e := fun x =>
  B (ix2 (⟨128 * i.val + (x (0 : Fin 2)).val, by have : (x (0 : Fin 2)).val < 128 := (x (0 : Fin 2)).isLt; omega⟩ : Fin 256)
    (⟨128 * k.val + (x (1 : Fin 2)).val, by have : (x (1 : Fin 2)).val < 128 := (x (1 : Fin 2)).isLt; omega⟩ : Fin 2048))

/-- The gated attention of the tile's rows `128 * i` on, columns `128 * k` on. -/
def tilePair (mk : Fin 2 → IVec S128x256 1) (KT KB VT VB : Vec F S4x384x128 .bf16) (Q : Vec F S256x2048 .bf16)
    (G : Vec F S256x2048 .f32) (zs : Vec F S32 .f32) (i : Fin 2) (k : Fin 16) : FVec F S128x128 .bf16 :=
  pairAtt (mk i) (win KT ⟨k.val / 4, by omega⟩ i) (win KB ⟨k.val / 4, by omega⟩ i) (win VT ⟨k.val / 4, by omega⟩ i)
    (win VB ⟨k.val / 4, by omega⟩ i) (win2 Q i k) (zs (ix1 (⟨2 * k.val, by omega⟩ : Fin 32)))
    (zs (ix1 (⟨2 * k.val + 1, by omega⟩ : Fin 32))) (win2 G i k)

/-- The tile's gated attention. -/
def tileOg (mk : Fin 2 → IVec S128x256 1) (KT KB VT VB : Vec F S4x384x128 .bf16) (Q : Vec F S256x2048 .bf16)
    (G : Vec F S256x2048 .f32) (zs : Vec F S32 .f32) : Vec F S256x2048 .bf16 := fun y =>
  tilePair mk KT KB VT VB Q G zs
    ⟨(y (0 : Fin 2)).val / 128, by have : (y (0 : Fin 2)).val < 256 := (y (0 : Fin 2)).isLt; omega⟩
    ⟨(y (1 : Fin 2)).val / 128, by have : (y (1 : Fin 2)).val < 2048 := (y (1 : Fin 2)).isLt; omega⟩
    (ix2 ⟨(y (0 : Fin 2)).val % 128, Nat.mod_lt _ (by norm_num)⟩ ⟨(y (1 : Fin 2)).val % 128, Nat.mod_lt _ (by norm_num)⟩)

section

variable (mk : Fin 2 → IVec S128x256 1) (KT KB VT VB : Vec F S4x384x128 .bf16) (Q : Vec F S256x2048 .bf16)
  (G : Vec F S256x2048 .f32) (zs : Vec F S32 .f32)

theorem ld_win (B : Vec F S4x384x128 .bf16) (g : Fin 4) (i : Fin 2) (g0 r0 : ℕ) (hg : g0 = g.val) (hr : r0 = 128 * i.val) (inb) :
    View.ld B (Rect.unit (s := S4x384x128) ![g0, r0, 0] S1x256x128.size inb) = win B g i := by
  funext x
  refine View.ld_unit_apply_of B _ _ inb x _ fun a => ?_
  have hx : (x (0 : Fin 3)).val < 1 := (x (0 : Fin 3)).isLt
  fin_cases a
  · show g.val = g0 + (x (0 : Fin 3)).val; omega
  · show 128 * i.val + (x (1 : Fin 3)).val = r0 + (x (1 : Fin 3)).val; omega
  · show (x (2 : Fin 3)).val = 0 + (x (2 : Fin 3)).val; omega

theorem ld_win2 {e : EltTy} (B : Vec F S256x2048 e) (i : Fin 2) (k : Fin 16) (r0 c0 : ℕ) (hr : r0 = 128 * i.val) (hc : c0 = 128 * k.val) (inb) :
    View.ld B (Rect.unit (s := S256x2048) ![r0, c0] S128x128.size inb) = win2 B i k := by
  funext x
  refine View.ld_unit_apply_of B _ _ inb x _ fun a => ?_
  fin_cases a
  · show 128 * i.val + (x (0 : Fin 2)).val = r0 + (x (0 : Fin 2)).val; omega
  · show 128 * k.val + (x (1 : Fin 2)).val = c0 + (x (1 : Fin 2)).val; omega

theorem ld_sink (zs : Vec F S32 .f32) (n : Fin 32) (n0 : ℕ) (hn : n0 = n.val) (inb) (j) :
    View.ld zs (Rect.unit (s := S32) ![n0] S1.size inb) j = zs (ix1 n) := by
  refine View.ld_unit_apply_of zs _ _ inb j _ fun a => ?_
  have hx : (j (0 : Fin 1)).val < 1 := (j (0 : Fin 1)).isLt
  fin_cases a
  show n.val = n0 + (j (0 : Fin 1)).val; omega

/-- The store of rows `128 * i` on, columns `128 * k` on, is the tile's gated attention there. -/
theorem og_piece (i : Fin 2) (k : Fin 16) (r0 c0 g0 n0 n1 : ℕ) (hr : r0 = 128 * i.val) (hc : c0 = 128 * k.val)
    (hg : g0 = k.val / 4) (h0 : n0 = 2 * k.val) (h1 : n1 = 2 * k.val + 1) (m : IVec S128x256 1) (hm : m = mk i)
    (b1 b2 b3 b4 b5 b6 b7 b8 b9 j0 j1) (x : (Rect.unit (s := S256x2048) ![r0, c0] S128x128.size b9).shape.Idx) :
    pairAtt m (View.ld KT (Rect.unit (s := S4x384x128) ![g0, r0, 0] S1x256x128.size b1))
      (View.ld KB (Rect.unit (s := S4x384x128) ![g0, r0, 0] S1x256x128.size b2))
      (View.ld VT (Rect.unit (s := S4x384x128) ![g0, r0, 0] S1x256x128.size b3))
      (View.ld VB (Rect.unit (s := S4x384x128) ![g0, r0, 0] S1x256x128.size b4))
      (View.ld Q (Rect.unit (s := S256x2048) ![r0, c0] S128x128.size b5))
      (View.ld zs (Rect.unit (s := S32) ![n0] S1.size b6) j0) (View.ld zs (Rect.unit (s := S32) ![n1] S1.size b7) j1)
      (View.ld G (Rect.unit (s := S256x2048) ![r0, c0] S128x128.size b8)) x
      = tileOg mk KT KB VT VB Q G zs ((Rect.unit (s := S256x2048) ![r0, c0] S128x128.size b9).emb x) := by
  have hx0 : (x (0 : Fin 2)).val < 128 := (x (0 : Fin 2)).isLt
  have hx1 : (x (1 : Fin 2)).val < 128 := (x (1 : Fin 2)).isLt
  rw [ld_win KT ⟨k.val / 4, by omega⟩ i g0 r0 hg hr, ld_win KB ⟨k.val / 4, by omega⟩ i g0 r0 hg hr,
    ld_win VT ⟨k.val / 4, by omega⟩ i g0 r0 hg hr, ld_win VB ⟨k.val / 4, by omega⟩ i g0 r0 hg hr,
    ld_win2 Q i k r0 c0 hr hc, ld_win2 G i k r0 c0 hr hc, ld_sink zs ⟨2 * k.val, by omega⟩ n0 h0,
    ld_sink zs ⟨2 * k.val + 1, by omega⟩ n1 h1, hm]
  have e0 : (((Rect.unit (s := S256x2048) ![r0, c0] S128x128.size b9).emb x) (0 : Fin 2)).val = r0 + (x (0 : Fin 2)).val :=
    Rect.idx_unit_val _ _ b9 x (0 : Fin 2)
  have e1 : (((Rect.unit (s := S256x2048) ![r0, c0] S128x128.size b9).emb x) (1 : Fin 2)).val = c0 + (x (1 : Fin 2)).val :=
    Rect.idx_unit_val _ _ b9 x (1 : Fin 2)
  show tilePair mk KT KB VT VB Q G zs i k x = _
  unfold tileOg
  congr 1
  · exact Fin.ext (by show i.val = _ / 128; rw [e0]; omega)
  · exact Fin.ext (by show k.val = _ / 128; rw [e1]; omega)
  · funext a
    fin_cases a
    · exact Fin.ext (by show (x (0 : Fin 2)).val = _ % 128; rw [e0]; omega)
    · exact Fin.ext (by show (x (1 : Fin 2)).val = _ % 128; rw [e1]; omega)

end

/-- The query buffer after its sixteen stores. -/
theorem canon16 (q0 q1 q2 q3 q4 q5 q6 q7 q8 q9 q10 q11 q12 q13 q14 q15 : Vec F S256x128 .bf16) (b0 b1 b2 b3 b4 b5 b6 b7 b8 b9 b10 b11 b12 b13 b14 b15) :
    View.canon (Val := Elt F) (s := S256x2048) (e := .bf16) [⟨Rect.unit ![0, 1920] S256x128.size b15, q15⟩, ⟨Rect.unit ![0, 1792] S256x128.size b14, q14⟩, ⟨Rect.unit ![0, 1664] S256x128.size b13, q13⟩, ⟨Rect.unit ![0, 1536] S256x128.size b12, q12⟩, ⟨Rect.unit ![0, 1408] S256x128.size b11, q11⟩, ⟨Rect.unit ![0, 1280] S256x128.size b10, q10⟩, ⟨Rect.unit ![0, 1152] S256x128.size b9, q9⟩, ⟨Rect.unit ![0, 1024] S256x128.size b8, q8⟩, ⟨Rect.unit ![0, 896] S256x128.size b7, q7⟩, ⟨Rect.unit ![0, 768] S256x128.size b6, q6⟩, ⟨Rect.unit ![0, 640] S256x128.size b5, q5⟩, ⟨Rect.unit ![0, 512] S256x128.size b4, q4⟩, ⟨Rect.unit ![0, 384] S256x128.size b3, q3⟩, ⟨Rect.unit ![0, 256] S256x128.size b2, q2⟩, ⟨Rect.unit ![0, 128] S256x128.size b1, q1⟩, ⟨Rect.unit ![0, 0] S256x128.size b0, q0⟩] = buf16 ![q0, q1, q2, q3, q4, q5, q6, q7, q8, q9, q10, q11, q12, q13, q14, q15] := by
  funext y
  refine View.canon_apply_of_pieces _ _ ?_ y ?_
  · have key : ∀ (k : Fin 16) (c0 : ℕ) (hc : c0 = 128 * k.val) (inb) (p : Fin 16 → Vec F S256x128 .bf16)
        (x : (Rect.unit (s := S256x2048) ![0, c0] S256x128.size inb).shape.Idx),
        p k x = buf16 p ((Rect.unit (s := S256x2048) ![0, c0] S256x128.size inb).emb x) := by
      intro k c0 hc inb p x
      have hx1 : (x (1 : Fin 2)).val < 128 := (x (1 : Fin 2)).isLt
      have e0 : (((Rect.unit (s := S256x2048) ![0, c0] S256x128.size inb).emb x) (0 : Fin 2)).val = 0 + (x (0 : Fin 2)).val :=
        Rect.idx_unit_val _ _ inb x (0 : Fin 2)
      have e1 : (((Rect.unit (s := S256x2048) ![0, c0] S256x128.size inb).emb x) (1 : Fin 2)).val = c0 + (x (1 : Fin 2)).val :=
        Rect.idx_unit_val _ _ inb x (1 : Fin 2)
      unfold buf16
      congr 1
      · congr 1; exact Fin.ext (by show k.val = _ / 128; rw [e1]; omega)
      · funext a
        fin_cases a
        · exact Fin.ext ((Nat.zero_add _).symm.trans e0.symm)
        · exact Fin.ext (by show (x (1 : Fin 2)).val = _ % 128; rw [e1]; omega)
    have hk := fun k c0 hc inb => key k c0 hc inb ![q0, q1, q2, q3, q4, q5, q6, q7, q8, q9, q10, q11, q12, q13, q14, q15]
    simp only [List.forall_mem_cons, List.not_mem_nil, false_imp_iff, implies_true, and_true]
    exact ⟨hk 15 1920 rfl _, hk 14 1792 rfl _, hk 13 1664 rfl _, hk 12 1536 rfl _, hk 11 1408 rfl _, hk 10 1280 rfl _, hk 9 1152 rfl _, hk 8 1024 rfl _, hk 7 896 rfl _, hk 6 768 rfl _, hk 5 640 rfl _, hk 4 512 rfl _, hk 3 384 rfl _, hk 2 256 rfl _, hk 1 128 rfl _, hk 0 0 rfl _⟩
  · exact View.cover_of_tiledL (s := S256x2048) _ S256x128.size (by sl_kernel_rfl) y

section

variable (mk : Fin 2 → IVec S128x256 1) (KT KB VT VB : Vec F S4x384x128 .bf16) (Q : Vec F S256x2048 .bf16)
  (G : Vec F S256x2048 .f32) (zs : Vec F S32 .f32)

theorem inb_og (i : Fin 2) (k : Fin 16) : ∀ a : Fin S256x2048.rank, (![128 * i.val, 128 * k.val] : Fin 2 → ℕ) a + S128x128.size a ≤ S256x2048.size a := by
  intro a
  fin_cases a
  · show 128 * i.val + 128 ≤ 256; omega
  · show 128 * k.val + 128 ≤ 2048; omega

theorem inb_win (g : Fin 4) (i : Fin 2) : ∀ a : Fin S4x384x128.rank, (![g.val, 128 * i.val, 0] : Fin 3 → ℕ) a + S1x256x128.size a ≤ S4x384x128.size a := by
  intro a
  fin_cases a
  · show g.val + 1 ≤ 4; omega
  · show 128 * i.val + 256 ≤ 384; omega
  · show 0 + 128 ≤ 128; omega

theorem inb_sink (n : Fin 32) : ∀ a : Fin S32.rank, (![n.val] : Fin 1 → ℕ) a + S1.size a ≤ S32.size a := by
  intro a
  fin_cases a
  show n.val + 1 ≤ 32; omega

/-- The store of rows `128 * i` on, columns `128 * k` on, as the run makes it: from its loads. -/
def ogPiece (i : Fin 2) (k : Fin 16) : View.Piece (Elt F) S256x2048 .bf16 :=
  ⟨Rect.unit (s := S256x2048) ![128 * i.val, 128 * k.val] S128x128.size (inb_og i k),
    pairAtt (mk i) (View.ld KT (Rect.unit (s := S4x384x128) ![k.val / 4, 128 * i.val, 0] S1x256x128.size (inb_win ⟨k.val / 4, by omega⟩ i)))
      (View.ld KB (Rect.unit (s := S4x384x128) ![k.val / 4, 128 * i.val, 0] S1x256x128.size (inb_win ⟨k.val / 4, by omega⟩ i)))
      (View.ld VT (Rect.unit (s := S4x384x128) ![k.val / 4, 128 * i.val, 0] S1x256x128.size (inb_win ⟨k.val / 4, by omega⟩ i)))
      (View.ld VB (Rect.unit (s := S4x384x128) ![k.val / 4, 128 * i.val, 0] S1x256x128.size (inb_win ⟨k.val / 4, by omega⟩ i)))
      (View.ld Q (Rect.unit (s := S256x2048) ![128 * i.val, 128 * k.val] S128x128.size (inb_og i k)))
      (View.ld zs (Rect.unit (s := S32) ![2 * k.val] S1.size (inb_sink ⟨2 * k.val, by omega⟩)) (Shape.Idx.first (s := S1) (by decide)))
      (View.ld zs (Rect.unit (s := S32) ![2 * k.val + 1] S1.size (inb_sink ⟨2 * k.val + 1, by omega⟩)) (Shape.Idx.first (s := S1) (by decide)))
      (View.ld G (Rect.unit (s := S256x2048) ![128 * i.val, 128 * k.val] S128x128.size (inb_og i k)))⟩

/-- The thirty-two stores, the last first. -/
def ogPieces : List (View.Piece (Elt F) S256x2048 .bf16) :=
  ([15, 14, 13, 12, 11, 10, 9, 8, 7, 6, 5, 4, 3, 2, 1, 0] : List (Fin 16)).map (ogPiece mk KT KB VT VB Q G zs 1)
    ++ ([15, 14, 13, 12, 11, 10, 9, 8, 7, 6, 5, 4, 3, 2, 1, 0] : List (Fin 16)).map (ogPiece mk KT KB VT VB Q G zs 0)

/-- Together they leave the tile's gated attention. -/
theorem og_canon : View.canon (ogPieces mk KT KB VT VB Q G zs) = tileOg mk KT KB VT VB Q G zs := by
  funext y
  refine View.canon_apply_of_pieces _ _ ?_ y ?_
  · intro p hp
    have hp' : ∃ i k, p = ogPiece mk KT KB VT VB Q G zs i k := by
      rcases List.mem_append.mp hp with h | h
      · obtain ⟨k, _, e⟩ := List.mem_map.mp h
        exact ⟨1, k, e.symm⟩
      · obtain ⟨k, _, e⟩ := List.mem_map.mp h
        exact ⟨0, k, e.symm⟩
    obtain ⟨i, k, rfl⟩ := hp'
    intro x
    exact og_piece mk KT KB VT VB Q G zs i k _ _ _ _ _ rfl rfl rfl rfl rfl _ rfl
      _ _ _ _ _ _ _ _ (inb_og i k) _ _ x
  · have hy0 : (y (0 : Fin 2)).val < 256 := (y (0 : Fin 2)).isLt
    have hy1 : (y (1 : Fin 2)).val < 2048 := (y (1 : Fin 2)).isLt
    exact View.cover_of_tiledL (s := S256x2048) (ogPieces mk KT KB VT VB Q G zs) S128x128.size (by sl_kernel_rfl) y

end

/-- The four stores of the tile's keys, lower lanes. -/
def kTops (h : Vec F S1x256x1024 .f32) (kvn : Vec F S1x1024 .f32) (wkv : Vec F S1024x512 .bf16) (kn : Vec F S1x256 .f32)
    (bd : Vec F S256x256 .bf16) (cs sn : Vec F S256x128 .f32) : Fin 4 → Vec F S1x256x128 .bf16 :=
  ![topPiece (kSlab ![0, 0] slices_S256x256_o0_0_S256x128 h kvn wkv kn bd cs sn),
    topPiece (swapHalves (kSlab ![0, 0] slices_S256x256_o0_0_S256x128 h kvn wkv kn bd cs sn)),
    topPiece (kSlab ![0, 128] slices_S256x256_o0_128_S256x128 h kvn wkv kn bd cs sn),
    topPiece (swapHalves (kSlab ![0, 128] slices_S256x256_o0_128_S256x128 h kvn wkv kn bd cs sn))]

/-- The four stores of the tile's keys, upper lanes. -/
def kBots (h : Vec F S1x256x1024 .f32) (kvn : Vec F S1x1024 .f32) (wkv : Vec F S1024x512 .bf16) (kn : Vec F S1x256 .f32)
    (bd : Vec F S256x256 .bf16) (cs sn : Vec F S256x128 .f32) : Fin 4 → Vec F S1x256x128 .bf16 :=
  ![botPiece (swapHalves (kSlab ![0, 0] slices_S256x256_o0_0_S256x128 h kvn wkv kn bd cs sn)),
    botPiece (kSlab ![0, 0] slices_S256x256_o0_0_S256x128 h kvn wkv kn bd cs sn),
    botPiece (swapHalves (kSlab ![0, 128] slices_S256x256_o0_128_S256x128 h kvn wkv kn bd cs sn)),
    botPiece (kSlab ![0, 128] slices_S256x256_o0_128_S256x128 h kvn wkv kn bd cs sn)]

/-- The four stores of the tile's values, lower lanes. -/
def vTops (h : Vec F S1x256x1024 .f32) (kvn : Vec F S1x1024 .f32) (wkv : Vec F S1024x512 .bf16) : Fin 4 → Vec F S1x256x128 .bf16 :=
  ![topPiece (extractStridedSlice S256x128 ![0, 0] (vMat h kvn wkv) slices_S256x256_o0_0_S256x128),
    topPiece (swapHalves (extractStridedSlice S256x128 ![0, 0] (vMat h kvn wkv) slices_S256x256_o0_0_S256x128)),
    topPiece (extractStridedSlice S256x128 ![0, 128] (vMat h kvn wkv) slices_S256x256_o0_128_S256x128),
    topPiece (swapHalves (extractStridedSlice S256x128 ![0, 128] (vMat h kvn wkv) slices_S256x256_o0_128_S256x128))]

/-- The four stores of the tile's values, upper lanes. -/
def vBots (h : Vec F S1x256x1024 .f32) (kvn : Vec F S1x1024 .f32) (wkv : Vec F S1024x512 .bf16) : Fin 4 → Vec F S1x256x128 .bf16 :=
  ![botPiece (swapHalves (extractStridedSlice S256x128 ![0, 0] (vMat h kvn wkv) slices_S256x256_o0_0_S256x128)),
    botPiece (extractStridedSlice S256x128 ![0, 0] (vMat h kvn wkv) slices_S256x256_o0_0_S256x128),
    botPiece (swapHalves (extractStridedSlice S256x128 ![0, 128] (vMat h kvn wkv) slices_S256x256_o0_128_S256x128)),
    botPiece (extractStridedSlice S256x128 ![0, 128] (vMat h kvn wkv) slices_S256x256_o0_128_S256x128)]

section

variable (h : Vec F S1x256x1024 .f32) (kvn : Vec F S1x1024 .f32) (wkv : Vec F S1024x512 .bf16) (kn : Vec F S1x256 .f32)
    (bd : Vec F S256x256 .bf16) (cs sn : Vec F S256x128 .f32)

theorem kTops_eq :
    ![topPiece (kSlab ![0, 0] slices_S256x256_o0_0_S256x128 h kvn wkv kn bd cs sn),
      topPiece (swapHalves (kSlab ![0, 0] slices_S256x256_o0_0_S256x128 h kvn wkv kn bd cs sn)),
      topPiece (kSlab ![0, 128] slices_S256x256_o0_128_S256x128 h kvn wkv kn bd cs sn),
      topPiece (swapHalves (kSlab ![0, 128] slices_S256x256_o0_128_S256x128 h kvn wkv kn bd cs sn))]
      = kTops h kvn wkv kn bd cs sn := rfl

theorem kBots_eq :
    ![botPiece (swapHalves (kSlab ![0, 0] slices_S256x256_o0_0_S256x128 h kvn wkv kn bd cs sn)),
      botPiece (kSlab ![0, 0] slices_S256x256_o0_0_S256x128 h kvn wkv kn bd cs sn),
      botPiece (swapHalves (kSlab ![0, 128] slices_S256x256_o0_128_S256x128 h kvn wkv kn bd cs sn)),
      botPiece (kSlab ![0, 128] slices_S256x256_o0_128_S256x128 h kvn wkv kn bd cs sn)]
      = kBots h kvn wkv kn bd cs sn := rfl

theorem vTops_eq :
    ![topPiece (extractStridedSlice S256x128 ![0, 0] (vMat h kvn wkv) slices_S256x256_o0_0_S256x128),
      topPiece (swapHalves (extractStridedSlice S256x128 ![0, 0] (vMat h kvn wkv) slices_S256x256_o0_0_S256x128)),
      topPiece (extractStridedSlice S256x128 ![0, 128] (vMat h kvn wkv) slices_S256x256_o0_128_S256x128),
      topPiece (swapHalves (extractStridedSlice S256x128 ![0, 128] (vMat h kvn wkv) slices_S256x256_o0_128_S256x128))]
      = vTops h kvn wkv := rfl

theorem vBots_eq :
    ![botPiece (swapHalves (extractStridedSlice S256x128 ![0, 0] (vMat h kvn wkv) slices_S256x256_o0_0_S256x128)),
      botPiece (extractStridedSlice S256x128 ![0, 0] (vMat h kvn wkv) slices_S256x256_o0_0_S256x128),
      botPiece (swapHalves (extractStridedSlice S256x128 ![0, 128] (vMat h kvn wkv) slices_S256x256_o0_128_S256x128)),
      botPiece (extractStridedSlice S256x128 ![0, 128] (vMat h kvn wkv) slices_S256x256_o0_128_S256x128)]
      = vBots h kvn wkv := rfl

end

/-- A run of 256 columns of the query weights. -/
def wqCols (wq : Vec F S1024x2048 .bf16) (n : Fin 8) : Vec F S1024x256 .bf16 := fun x =>
  wq (ix2 (x (0 : Fin 2)) (⟨256 * n.val + (x (1 : Fin 2)).val, by have : (x (1 : Fin 2)).val < 256 := (x (1 : Fin 2)).isLt; omega⟩ : Fin 2048))

theorem ld_wq (wq : Vec F S1024x2048 .bf16) (n : Fin 8) (c0 : ℕ) (hc : c0 = 256 * n.val) (inb) :
    View.ld wq (Rect.unit (s := S1024x2048) ![0, c0] S1024x256.size inb) = wqCols wq n := by
  funext x
  refine View.ld_unit_apply_of wq _ _ inb x _ fun a => ?_
  fin_cases a
  · show (x (0 : Fin 2)).val = 0 + (x (0 : Fin 2)).val; omega
  · show 256 * n.val + (x (1 : Fin 2)).val = c0 + (x (1 : Fin 2)).val; omega

/-- The sixteen stores of the tile's queries. -/
def qSlabs (h : Vec F S1x256x1024 .f32) (bn : Vec F S1x1024 .f32) (wq : Vec F S1024x2048 .bf16) (qn : Vec F S1x256 .f32)
    (bd : Vec F S256x256 .bf16) (cs sn : Vec F S256x128 .f32) : Fin 16 → Vec F S256x128 .bf16 := fun k =>
  if k.val % 2 = 0 then
    qSlab ![0, 0] slices_S256x256_o0_0_S256x128 h bn (wqCols wq ⟨k.val / 2, by omega⟩) qn bd cs sn
  else qSlab ![0, 128] slices_S256x256_o0_128_S256x128 h bn (wqCols wq ⟨k.val / 2, by omega⟩) qn bd cs sn

theorem qSlabs_eq (h : Vec F S1x256x1024 .f32) (bn : Vec F S1x1024 .f32) (wq : Vec F S1024x2048 .bf16) (qn : Vec F S1x256 .f32)
    (bd : Vec F S256x256 .bf16) (cs sn : Vec F S256x128 .f32) :
    ![qSlab ![0, 0] slices_S256x256_o0_0_S256x128 h bn (wqCols wq 0) qn bd cs sn,
      qSlab ![0, 128] slices_S256x256_o0_128_S256x128 h bn (wqCols wq 0) qn bd cs sn,
      qSlab ![0, 0] slices_S256x256_o0_0_S256x128 h bn (wqCols wq 1) qn bd cs sn,
      qSlab ![0, 128] slices_S256x256_o0_128_S256x128 h bn (wqCols wq 1) qn bd cs sn,
      qSlab ![0, 0] slices_S256x256_o0_0_S256x128 h bn (wqCols wq 2) qn bd cs sn,
      qSlab ![0, 128] slices_S256x256_o0_128_S256x128 h bn (wqCols wq 2) qn bd cs sn,
      qSlab ![0, 0] slices_S256x256_o0_0_S256x128 h bn (wqCols wq 3) qn bd cs sn,
      qSlab ![0, 128] slices_S256x256_o0_128_S256x128 h bn (wqCols wq 3) qn bd cs sn,
      qSlab ![0, 0] slices_S256x256_o0_0_S256x128 h bn (wqCols wq 4) qn bd cs sn,
      qSlab ![0, 128] slices_S256x256_o0_128_S256x128 h bn (wqCols wq 4) qn bd cs sn,
      qSlab ![0, 0] slices_S256x256_o0_0_S256x128 h bn (wqCols wq 5) qn bd cs sn,
      qSlab ![0, 128] slices_S256x256_o0_128_S256x128 h bn (wqCols wq 5) qn bd cs sn,
      qSlab ![0, 0] slices_S256x256_o0_0_S256x128 h bn (wqCols wq 6) qn bd cs sn,
      qSlab ![0, 128] slices_S256x256_o0_128_S256x128 h bn (wqCols wq 6) qn bd cs sn,
      qSlab ![0, 0] slices_S256x256_o0_0_S256x128 h bn (wqCols wq 7) qn bd cs sn,
      qSlab ![0, 128] slices_S256x256_o0_128_S256x128 h bn (wqCols wq 7) qn bd cs sn] = qSlabs h bn wq qn bd cs sn := by
  funext k
  fin_cases k <;> rfl

/-- The masks of the tile's upper and lower 128 rows. -/
def tileMask (l : BitVec 32) : Fin 2 → IVec S128x256 1 :=
  ![k0_pay99 l, k0_pay228 l (iota .tc S128x256 32 [1] iota_S128x256_d1_w32) k0_pay97]

/-- The tile's result. -/
def tileOut (l : BitVec 32) (x0 : Vec F S1x256x1024 .f32) (x1 : Vec F S1x1024 .f32) (x2 : Vec F S1024x512 .bf16)
    (x3 : Vec F S1x256 .f32) (x4 : Vec F S256x256 .bf16) (x5 x6 : Vec F S256x128 .f32) (x7 : Vec F S1x1024 .f32)
    (x8 x9 : Vec F S1024x2048 .bf16) (x10 : Vec F S1x256 .f32) (x11 : Vec F S32 .f32) (x12 : Vec F S2048x1024 .bf16)
    (xs0 xs1 xs2 xs3 : Vec F S4x384x128 .bf16) : Vec F S1x256x1024 .f32 :=
  outMat x0 (tileOg (tileMask l) (buf4 (kTops x0 x1 x2 x3 x4 x5 x6) xs0) (buf4 (kBots x0 x1 x2 x3 x4 x5 x6) xs1)
    (buf4 (vTops x0 x1 x2) xs2) (buf4 (vBots x0 x1 x2) xs3) (buf16 (qSlabs x0 x7 x8 x10 x4 x5 x6)) (gateMat x0 x7 x9) x11) x12

theorem hz1 : (![0] : Fin 1 → ℕ) = fun _ => 0 := by decide
theorem hz2 : (![0, 0] : Fin 2 → ℕ) = fun _ => 0 := by decide
theorem hz3 : (![0, 0, 0] : Fin 3 → ℕ) = fun _ => 0 := by decide

end Cert.Swa
-- ==== Proof.Swa.CaseFirst.lean ====
/-
  The first tile of a batch row: what the run leaves in the result's block and in the four group buffers.
-/
module

public import proofs.«01_k».proof.Proof.Gen.KernelIdeal.Frame
public import proofs.«01_k».proof.Proof.Swa.Pairs
public import proofs.«01_k».proof.Proof.Swa.Tile

@[expose] public section

set_option maxRecDepth 16384

noncomputable section

namespace Cert.Swa

open Idealize.ShloMosaic Idealize.ShloMosaic.TcCoe Idealize.ShloMosaic.Tactic Cert.KernelIdeal Cert.KernelIdeal.Gen

variable {F : FTy → Type} [FloatOps F]

variable (c : Dev nD) (i : grid0.Coords) (arg2 : Memref sig .tc .vmem S1x256x1024 .f32) (harg2 : arg2.IsWhole)
  (arg3 : Memref sig .tc .vmem S1x1024 .f32) (harg3 : arg3.IsWhole) (arg4 : Memref sig .tc .vmem S1024x512 .bf16)
  (harg4 : arg4.IsWhole) (arg5 : Memref sig .tc .vmem S1x256 .f32) (harg5 : arg5.IsWhole)
  (arg6 : Memref sig .tc .vmem S256x256 .bf16) (harg6 : arg6.IsWhole) (arg7 : Memref sig .tc .vmem S256x128 .f32)
  (harg7 : arg7.IsWhole) (arg8 : Memref sig .tc .vmem S256x128 .f32) (harg8 : arg8.IsWhole)
  (arg9 : Memref sig .tc .vmem S1x1024 .f32) (harg9 : arg9.IsWhole) (arg10 : Memref sig .tc .vmem S1024x2048 .bf16)
  (harg10 : arg10.IsWhole) (arg11 : Memref sig .tc .vmem S1024x2048 .bf16) (harg11 : arg11.IsWhole)
  (arg12 : Memref sig .tc .vmem S1x256 .f32) (harg12 : arg12.IsWhole) (arg13 : Memref sig .tc .smem S32 .f32)
  (harg13 : arg13.IsWhole) (arg14 : Memref sig .tc .vmem S2048x1024 .bf16) (harg14 : arg14.IsWhole)
  (arg15 : Memref sig .tc .vmem S1x256x1024 .f32) (harg15 : arg15.IsWhole) (arg16 : Memref sig .tc .vmem S1x128x256 .f32)
  (harg16 : arg16.IsWhole) (arg17 : Memref sig .tc .vmem S1x128x256 .f32) (harg17 : arg17.IsWhole)
  (arg18 : Memref sig .tc .vmem S4x384x128 .bf16) (harg18 : arg18.IsWhole) (arg19 : Memref sig .tc .vmem S4x384x128 .bf16)
  (harg19 : arg19.IsWhole) (arg20 : Memref sig .tc .vmem S4x384x128 .bf16) (harg20 : arg20.IsWhole)
  (arg21 : Memref sig .tc .vmem S4x384x128 .bf16) (harg21 : arg21.IsWhole) (arg22 : Memref sig .tc .vmem S256x2048 .bf16)
  (harg22 : arg22.IsWhole) (arg23 : Memref sig .tc .vmem S256x2048 .f32) (harg23 : arg23.IsWhole)
  (arg24 : Memref sig .tc .vmem S256x2048 .bf16) (harg24 : arg24.IsWhole) (hc0 : cond0_0 i) (hc1 : ¬cond0_1 i)
  (x0 : Vec F S1x256x1024 .f32) (x1 : Vec F S1x1024 .f32) (x2 : Vec F S1024x512 .bf16) (x3 : Vec F S1x256 .f32)
  (x4 : Vec F S256x256 .bf16) (x5 : Vec F S256x128 .f32) (x6 : Vec F S256x128 .f32) (x7 : Vec F S1x1024 .f32)
  (x8 : Vec F S1024x2048 .bf16) (x9 : Vec F S1024x2048 .bf16) (x10 : Vec F S1x256 .f32) (x11 : Vec F S32 .f32)
  (x12 : Vec F S2048x1024 .bf16)

set_option maxHeartbeats 4000000 in
/-- The result's block. -/
theorem out_first :
    out0_A_13 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12
      = tileOut (BitVec.ofNat 32 (i 1).val) x0 x1 x2 x3 x4 x5 x6 x7 x8 x9 x10 x11 x12
        (padRows k0_pay1) (padRows k0_pay2) (padRows k0_pay3) (padRows k0_pay4) := by
  unfold out0_A_13 kernelRun0_A
  dsimp only
  sl_unfold_words
  rw [View.read_writes_junk_eq_canon]
  simp only [fun b => load_whole arg2 harg2 x0 ![0, 0, 0] b hz3,
      fun b => load_whole arg3 harg3 x1 ![0, 0] b hz2,
      fun b => load_whole arg4 harg4 x2 ![0, 0] b hz2,
      fun b => load_whole arg5 harg5 x3 ![0, 0] b hz2,
      fun b => load_whole arg6 harg6 x4 ![0, 0] b hz2,
      fun b => load_whole arg7 harg7 x5 ![0, 0] b hz2,
      fun b => load_whole arg8 harg8 x6 ![0, 0] b hz2,
      fun b => load_whole arg9 harg9 x7 ![0, 0] b hz2,
      fun b => load_whole arg11 harg11 x9 ![0, 0] b hz2,
      fun b => load_whole arg12 harg12 x10 ![0, 0] b hz2,
      fun b => load_whole arg14 harg14 x12 ![0, 0] b hz2,
      load_part arg13 harg13 x11,
      load_part arg10 harg10 x8,
      load4_fill arg18.view k0_pay1,
      load4_fill arg19.view k0_pay2,
      load4_fill arg20.view k0_pay3,
      load4_fill arg21.view k0_pay4,
      load_cov arg22.view,
      fun X b r => load_cov_whole arg23.view X ![0, 0] b hz2 r,
      load_cov arg24.view]
  simp only [kTop_0, kTop_1, kTop_2, kTop_3, kBot_0, kBot_1, kBot_2, kBot_3, vTop_0, vTop_1, vTop_2, vTop_3, vBot_0, vBot_1, vBot_2, vBot_3, q_0, q_1, q_2, q_3, q_4, q_5, q_6, q_7, q_8, q_9, q_10, q_11, q_12, q_13, q_14, q_15, gate_eq, out_eq, pair_0_0, pair_0_1, pair_0_2, pair_0_3, pair_0_4, pair_0_5, pair_0_6, pair_0_7, pair_0_8, pair_0_9, pair_0_10, pair_0_11, pair_0_12, pair_0_13, pair_0_14, pair_0_15, pair_1_0, pair_1_1, pair_1_2, pair_1_3, pair_1_4, pair_1_5, pair_1_6, pair_1_7, pair_1_8, pair_1_9, pair_1_10, pair_1_11, pair_1_12, pair_1_13, pair_1_14, pair_1_15]
  simp only [ld_wq x8 0 0 rfl, ld_wq x8 1 256 rfl, ld_wq x8 2 512 rfl, ld_wq x8 3 768 rfl, ld_wq x8 4 1024 rfl, ld_wq x8 5 1280 rfl, ld_wq x8 6 1536 rfl, ld_wq x8 7 1792 rfl]
  rw [canon16, qSlabs_eq]
  refine (View.canon_unit_zero (S := S1x256x1024) hz3 _ _).trans ?_
  refine congrArg (fun og => outMat x0 og x12) ?_
  refine (View.ld_unit_zero (S := S256x2048) hz2 _ _).trans ?_
  rw [kTops_eq, kBots_eq, vTops_eq, vBots_eq]
  generalize buf4 (kTops x0 x1 x2 x3 x4 x5 x6) (padRows k0_pay1) = KT
  generalize buf4 (kBots x0 x1 x2 x3 x4 x5 x6) (padRows k0_pay2) = KB
  generalize buf4 (vTops x0 x1 x2) (padRows k0_pay3) = VT
  generalize buf4 (vBots x0 x1 x2) (padRows k0_pay4) = VB
  generalize buf16 (qSlabs x0 x7 x8 x10 x4 x5 x6) = Q
  generalize gateMat x0 x7 x9 = G
  exact og_canon (tileMask (BitVec.ofNat 32 (i 1).val)) KT KB VT VB Q G x11

set_option maxHeartbeats 4000000 in
/-- The keys' lower lanes, as the next tile finds them. -/
theorem ktop_first :
    sout0_A_0 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12
      = carried (buf4 (kTops x0 x1 x2 x3 x4 x5 x6) (padRows k0_pay1)) := by
  unfold sout0_A_0 kernelRun0_A
  dsimp only
  sl_unfold_words
  simp only [fun b => load_whole arg2 harg2 x0 ![0, 0, 0] b hz3,
    fun b => load_whole arg3 harg3 x1 ![0, 0] b hz2,
    fun b => load_whole arg4 harg4 x2 ![0, 0] b hz2,
    fun b => load_whole arg5 harg5 x3 ![0, 0] b hz2,
    fun b => load_whole arg6 harg6 x4 ![0, 0] b hz2,
    fun b => load_whole arg7 harg7 x5 ![0, 0] b hz2,
    fun b => load_whole arg8 harg8 x6 ![0, 0] b hz2,
    load4_fill arg18.view k0_pay1]
  simp only [kTop_0, kTop_1, kTop_2, kTop_3, move_0]
  rw [← kTops_eq]
  exact read_carry_fill (F := F) _ _ _ _ _ _ _ _ _ _ _ _ _ _

set_option maxHeartbeats 4000000 in
/-- The keys' upper lanes, as the next tile finds them. -/
theorem kbot_first :
    sout0_A_1 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12
      = carried (buf4 (kBots x0 x1 x2 x3 x4 x5 x6) (padRows k0_pay2)) := by
  unfold sout0_A_1 kernelRun0_A
  dsimp only
  sl_unfold_words
  simp only [fun b => load_whole arg2 harg2 x0 ![0, 0, 0] b hz3,
    fun b => load_whole arg3 harg3 x1 ![0, 0] b hz2,
    fun b => load_whole arg4 harg4 x2 ![0, 0] b hz2,
    fun b => load_whole arg5 harg5 x3 ![0, 0] b hz2,
    fun b => load_whole arg6 harg6 x4 ![0, 0] b hz2,
    fun b => load_whole arg7 harg7 x5 ![0, 0] b hz2,
    fun b => load_whole arg8 harg8 x6 ![0, 0] b hz2,
    load4_fill arg19.view k0_pay2]
  simp only [kBot_0, kBot_1, kBot_2, kBot_3, move_1]
  rw [← kBots_eq]
  exact read_carry_fill (F := F) _ _ _ _ _ _ _ _ _ _ _ _ _ _

set_option maxHeartbeats 4000000 in
/-- The values' lower lanes, as the next tile finds them. -/
theorem vtop_first :
    sout0_A_2 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12
      = carried (buf4 (vTops x0 x1 x2) (padRows k0_pay3)) := by
  unfold sout0_A_2 kernelRun0_A
  dsimp only
  sl_unfold_words
  simp only [fun b => load_whole arg2 harg2 x0 ![0, 0, 0] b hz3,
    fun b => load_whole arg3 harg3 x1 ![0, 0] b hz2,
    fun b => load_whole arg4 harg4 x2 ![0, 0] b hz2,
    load4_fill arg20.view k0_pay3]
  simp only [vTop_0, vTop_1, vTop_2, vTop_3, move_2]
  rw [← vTops_eq]
  exact read_carry_fill (F := F) _ _ _ _ _ _ _ _ _ _ _ _ _ _

set_option maxHeartbeats 4000000 in
/-- The values' upper lanes, as the next tile finds them. -/
theorem vbot_first :
    sout0_A_3 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12
      = carried (buf4 (vBots x0 x1 x2) (padRows k0_pay4)) := by
  unfold sout0_A_3 kernelRun0_A
  dsimp only
  sl_unfold_words
  simp only [fun b => load_whole arg2 harg2 x0 ![0, 0, 0] b hz3,
    fun b => load_whole arg3 harg3 x1 ![0, 0] b hz2,
    fun b => load_whole arg4 harg4 x2 ![0, 0] b hz2,
    load4_fill arg21.view k0_pay4]
  simp only [vBot_0, vBot_1, vBot_2, vBot_3, move_3]
  rw [← vBots_eq]
  exact read_carry_fill (F := F) _ _ _ _ _ _ _ _ _ _ _ _ _ _

end Cert.Swa
-- ==== Proof.Swa.CaseMiddle.lean ====
/-
  The tile that is neither first nor last: what the run leaves in the result's block and in the four group buffers.
-/
module

public import proofs.«01_k».proof.Proof.Gen.KernelIdeal.Frame
public import proofs.«01_k».proof.Proof.Swa.Pairs
public import proofs.«01_k».proof.Proof.Swa.Tile

@[expose] public section

set_option maxRecDepth 16384

noncomputable section

namespace Cert.Swa

open Idealize.ShloMosaic Idealize.ShloMosaic.TcCoe Idealize.ShloMosaic.Tactic Cert.KernelIdeal Cert.KernelIdeal.Gen

variable {F : FTy → Type} [FloatOps F]

variable (c : Dev nD) (i : grid0.Coords) (arg2 : Memref sig .tc .vmem S1x256x1024 .f32) (harg2 : arg2.IsWhole)
  (arg3 : Memref sig .tc .vmem S1x1024 .f32) (harg3 : arg3.IsWhole) (arg4 : Memref sig .tc .vmem S1024x512 .bf16)
  (harg4 : arg4.IsWhole) (arg5 : Memref sig .tc .vmem S1x256 .f32) (harg5 : arg5.IsWhole)
  (arg6 : Memref sig .tc .vmem S256x256 .bf16) (harg6 : arg6.IsWhole) (arg7 : Memref sig .tc .vmem S256x128 .f32)
  (harg7 : arg7.IsWhole) (arg8 : Memref sig .tc .vmem S256x128 .f32) (harg8 : arg8.IsWhole)
  (arg9 : Memref sig .tc .vmem S1x1024 .f32) (harg9 : arg9.IsWhole) (arg10 : Memref sig .tc .vmem S1024x2048 .bf16)
  (harg10 : arg10.IsWhole) (arg11 : Memref sig .tc .vmem S1024x2048 .bf16) (harg11 : arg11.IsWhole)
  (arg12 : Memref sig .tc .vmem S1x256 .f32) (harg12 : arg12.IsWhole) (arg13 : Memref sig .tc .smem S32 .f32)
  (harg13 : arg13.IsWhole) (arg14 : Memref sig .tc .vmem S2048x1024 .bf16) (harg14 : arg14.IsWhole)
  (arg15 : Memref sig .tc .vmem S1x256x1024 .f32) (harg15 : arg15.IsWhole) (arg16 : Memref sig .tc .vmem S1x128x256 .f32)
  (harg16 : arg16.IsWhole) (arg17 : Memref sig .tc .vmem S1x128x256 .f32) (harg17 : arg17.IsWhole)
  (arg18 : Memref sig .tc .vmem S4x384x128 .bf16) (harg18 : arg18.IsWhole) (arg19 : Memref sig .tc .vmem S4x384x128 .bf16)
  (harg19 : arg19.IsWhole) (arg20 : Memref sig .tc .vmem S4x384x128 .bf16) (harg20 : arg20.IsWhole)
  (arg21 : Memref sig .tc .vmem S4x384x128 .bf16) (harg21 : arg21.IsWhole) (arg22 : Memref sig .tc .vmem S256x2048 .bf16)
  (harg22 : arg22.IsWhole) (arg23 : Memref sig .tc .vmem S256x2048 .f32) (harg23 : arg23.IsWhole)
  (arg24 : Memref sig .tc .vmem S256x2048 .bf16) (harg24 : arg24.IsWhole) (hc0 : ¬cond0_0 i) (hc1 : ¬cond0_1 i)
  (x0 : Vec F S1x256x1024 .f32) (x1 : Vec F S1x1024 .f32) (x2 : Vec F S1024x512 .bf16) (x3 : Vec F S1x256 .f32)
  (x4 : Vec F S256x256 .bf16) (x5 : Vec F S256x128 .f32) (x6 : Vec F S256x128 .f32) (x7 : Vec F S1x1024 .f32)
  (x8 : Vec F S1024x2048 .bf16) (x9 : Vec F S1024x2048 .bf16) (x10 : Vec F S1x256 .f32) (x11 : Vec F S32 .f32)
  (x12 : Vec F S2048x1024 .bf16) (xs0 : Vec F S4x384x128 .bf16) (xs1 : Vec F S4x384x128 .bf16)
  (xs2 : Vec F S4x384x128 .bf16) (xs3 : Vec F S4x384x128 .bf16)

set_option maxHeartbeats 4000000 in
/-- The result's block. -/
theorem out_middle :
    out0_B_13 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12 xs0 xs1 xs2 xs3
      = tileOut (BitVec.ofNat 32 (i 1).val) x0 x1 x2 x3 x4 x5 x6 x7 x8 x9 x10 x11 x12
        xs0 xs1 xs2 xs3 := by
  unfold out0_B_13 kernelRun0_B
  dsimp only
  sl_unfold_words
  rw [View.read_writes_junk_eq_canon]
  simp only [fun b => load_whole arg2 harg2 x0 ![0, 0, 0] b hz3,
      fun b => load_whole arg3 harg3 x1 ![0, 0] b hz2,
      fun b => load_whole arg4 harg4 x2 ![0, 0] b hz2,
      fun b => load_whole arg5 harg5 x3 ![0, 0] b hz2,
      fun b => load_whole arg6 harg6 x4 ![0, 0] b hz2,
      fun b => load_whole arg7 harg7 x5 ![0, 0] b hz2,
      fun b => load_whole arg8 harg8 x6 ![0, 0] b hz2,
      fun b => load_whole arg9 harg9 x7 ![0, 0] b hz2,
      fun b => load_whole arg11 harg11 x9 ![0, 0] b hz2,
      fun b => load_whole arg12 harg12 x10 ![0, 0] b hz2,
      fun b => load_whole arg14 harg14 x12 ![0, 0] b hz2,
      load_part arg13 harg13 x11,
      load_part arg10 harg10 x8,
      load4 arg18 harg18 xs0,
      load4 arg19 harg19 xs1,
      load4 arg20 harg20 xs2,
      load4 arg21 harg21 xs3,
      fun p0 p1 p2 p3 a3 a2 a1 a0 g size b => load4_low arg18.view xs0 p0 p1 p2 p3 a3 a2 a1 a0 ![g, 128, 0] size b (le_refl 128),
      fun p0 p1 p2 p3 a3 a2 a1 a0 size b => load4_low arg18.view xs0 p0 p1 p2 p3 a3 a2 a1 a0 ![0, 256, 0] size b (by decide : (128 : ℕ) ≤ 256),
      fun p0 p1 p2 p3 a3 a2 a1 a0 g size b => load4_low arg19.view xs1 p0 p1 p2 p3 a3 a2 a1 a0 ![g, 128, 0] size b (le_refl 128),
      fun p0 p1 p2 p3 a3 a2 a1 a0 size b => load4_low arg19.view xs1 p0 p1 p2 p3 a3 a2 a1 a0 ![0, 256, 0] size b (by decide : (128 : ℕ) ≤ 256),
      fun p0 p1 p2 p3 a3 a2 a1 a0 g size b => load4_low arg20.view xs2 p0 p1 p2 p3 a3 a2 a1 a0 ![g, 128, 0] size b (le_refl 128),
      fun p0 p1 p2 p3 a3 a2 a1 a0 size b => load4_low arg20.view xs2 p0 p1 p2 p3 a3 a2 a1 a0 ![0, 256, 0] size b (by decide : (128 : ℕ) ≤ 256),
      fun p0 p1 p2 p3 a3 a2 a1 a0 g size b => load4_low arg21.view xs3 p0 p1 p2 p3 a3 a2 a1 a0 ![g, 128, 0] size b (le_refl 128),
      fun p0 p1 p2 p3 a3 a2 a1 a0 size b => load4_low arg21.view xs3 p0 p1 p2 p3 a3 a2 a1 a0 ![0, 256, 0] size b (by decide : (128 : ℕ) ≤ 256),
      load_cov arg22.view,
      fun X b r => load_cov_whole arg23.view X ![0, 0] b hz2 r,
      load_cov arg24.view]
  simp only [kTop_0, kTop_1, kTop_2, kTop_3, kBot_0, kBot_1, kBot_2, kBot_3, vTop_0, vTop_1, vTop_2, vTop_3, vBot_0, vBot_1, vBot_2, vBot_3, q_0, q_1, q_2, q_3, q_4, q_5, q_6, q_7, q_8, q_9, q_10, q_11, q_12, q_13, q_14, q_15, gate_eq, out_eq, pair_0_0, pair_0_1, pair_0_2, pair_0_3, pair_0_4, pair_0_5, pair_0_6, pair_0_7, pair_0_8, pair_0_9, pair_0_10, pair_0_11, pair_0_12, pair_0_13, pair_0_14, pair_0_15, pair_1_0, pair_1_1, pair_1_2, pair_1_3, pair_1_4, pair_1_5, pair_1_6, pair_1_7, pair_1_8, pair_1_9, pair_1_10, pair_1_11, pair_1_12, pair_1_13, pair_1_14, pair_1_15]
  simp only [ld_wq x8 0 0 rfl, ld_wq x8 1 256 rfl, ld_wq x8 2 512 rfl, ld_wq x8 3 768 rfl, ld_wq x8 4 1024 rfl, ld_wq x8 5 1280 rfl, ld_wq x8 6 1536 rfl, ld_wq x8 7 1792 rfl]
  rw [canon16, qSlabs_eq]
  refine (View.canon_unit_zero (S := S1x256x1024) hz3 _ _).trans ?_
  refine congrArg (fun og => outMat x0 og x12) ?_
  refine (View.ld_unit_zero (S := S256x2048) hz2 _ _).trans ?_
  rw [kTops_eq, kBots_eq, vTops_eq, vBots_eq]
  generalize buf4 (kTops x0 x1 x2 x3 x4 x5 x6) xs0 = KT
  generalize buf4 (kBots x0 x1 x2 x3 x4 x5 x6) xs1 = KB
  generalize buf4 (vTops x0 x1 x2) xs2 = VT
  generalize buf4 (vBots x0 x1 x2) xs3 = VB
  generalize buf16 (qSlabs x0 x7 x8 x10 x4 x5 x6) = Q
  generalize gateMat x0 x7 x9 = G
  exact og_canon (tileMask (BitVec.ofNat 32 (i 1).val)) KT KB VT VB Q G x11

set_option maxHeartbeats 4000000 in
/-- The keys' lower lanes, as the next tile finds them. -/
theorem ktop_middle :
    sout0_B_0 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12 xs0 xs1 xs2 xs3
      = carried (buf4 (kTops x0 x1 x2 x3 x4 x5 x6) xs0) := by
  unfold sout0_B_0 kernelRun0_B
  dsimp only
  sl_unfold_words
  simp only [fun b => load_whole arg2 harg2 x0 ![0, 0, 0] b hz3,
    fun b => load_whole arg3 harg3 x1 ![0, 0] b hz2,
    fun b => load_whole arg4 harg4 x2 ![0, 0] b hz2,
    fun b => load_whole arg5 harg5 x3 ![0, 0] b hz2,
    fun b => load_whole arg6 harg6 x4 ![0, 0] b hz2,
    fun b => load_whole arg7 harg7 x5 ![0, 0] b hz2,
    fun b => load_whole arg8 harg8 x6 ![0, 0] b hz2,
    fun p0 p1 p2 p3 a3 a2 a1 a0 size b => load4_low arg18.view xs0 p0 p1 p2 p3 a3 a2 a1 a0 ![0, 256, 0] size b (by decide : (128 : ℕ) ≤ 256)]
  simp only [kTop_0, kTop_1, kTop_2, kTop_3, move_0]
  rw [← kTops_eq]
  exact read_carry (F := F) _ _ _ _ _ _ _ _ _ _ _ _ _

set_option maxHeartbeats 4000000 in
/-- The keys' upper lanes, as the next tile finds them. -/
theorem kbot_middle :
    sout0_B_1 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12 xs0 xs1 xs2 xs3
      = carried (buf4 (kBots x0 x1 x2 x3 x4 x5 x6) xs1) := by
  unfold sout0_B_1 kernelRun0_B
  dsimp only
  sl_unfold_words
  simp only [fun b => load_whole arg2 harg2 x0 ![0, 0, 0] b hz3,
    fun b => load_whole arg3 harg3 x1 ![0, 0] b hz2,
    fun b => load_whole arg4 harg4 x2 ![0, 0] b hz2,
    fun b => load_whole arg5 harg5 x3 ![0, 0] b hz2,
    fun b => load_whole arg6 harg6 x4 ![0, 0] b hz2,
    fun b => load_whole arg7 harg7 x5 ![0, 0] b hz2,
    fun b => load_whole arg8 harg8 x6 ![0, 0] b hz2,
    fun p0 p1 p2 p3 a3 a2 a1 a0 size b => load4_low arg19.view xs1 p0 p1 p2 p3 a3 a2 a1 a0 ![0, 256, 0] size b (by decide : (128 : ℕ) ≤ 256)]
  simp only [kBot_0, kBot_1, kBot_2, kBot_3, move_1]
  rw [← kBots_eq]
  exact read_carry (F := F) _ _ _ _ _ _ _ _ _ _ _ _ _

set_option maxHeartbeats 4000000 in
/-- The values' lower lanes, as the next tile finds them. -/
theorem vtop_middle :
    sout0_B_2 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12 xs0 xs1 xs2 xs3
      = carried (buf4 (vTops x0 x1 x2) xs2) := by
  unfold sout0_B_2 kernelRun0_B
  dsimp only
  sl_unfold_words
  simp only [fun b => load_whole arg2 harg2 x0 ![0, 0, 0] b hz3,
    fun b => load_whole arg3 harg3 x1 ![0, 0] b hz2,
    fun b => load_whole arg4 harg4 x2 ![0, 0] b hz2,
    fun p0 p1 p2 p3 a3 a2 a1 a0 size b => load4_low arg20.view xs2 p0 p1 p2 p3 a3 a2 a1 a0 ![0, 256, 0] size b (by decide : (128 : ℕ) ≤ 256)]
  simp only [vTop_0, vTop_1, vTop_2, vTop_3, move_2]
  rw [← vTops_eq]
  exact read_carry (F := F) _ _ _ _ _ _ _ _ _ _ _ _ _

set_option maxHeartbeats 4000000 in
/-- The values' upper lanes, as the next tile finds them. -/
theorem vbot_middle :
    sout0_B_3 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12 xs0 xs1 xs2 xs3
      = carried (buf4 (vBots x0 x1 x2) xs3) := by
  unfold sout0_B_3 kernelRun0_B
  dsimp only
  sl_unfold_words
  simp only [fun b => load_whole arg2 harg2 x0 ![0, 0, 0] b hz3,
    fun b => load_whole arg3 harg3 x1 ![0, 0] b hz2,
    fun b => load_whole arg4 harg4 x2 ![0, 0] b hz2,
    fun p0 p1 p2 p3 a3 a2 a1 a0 size b => load4_low arg21.view xs3 p0 p1 p2 p3 a3 a2 a1 a0 ![0, 256, 0] size b (by decide : (128 : ℕ) ≤ 256)]
  simp only [vBot_0, vBot_1, vBot_2, vBot_3, move_3]
  rw [← vBots_eq]
  exact read_carry (F := F) _ _ _ _ _ _ _ _ _ _ _ _ _

end Cert.Swa
-- ==== Proof.Swa.CaseLast.lean ====
/-
  The last tile of a batch row: what the run leaves in the result's block, in the two caches and in the four group buffers.
-/
module

public import proofs.«01_k».proof.Proof.Gen.KernelIdeal.Frame
public import proofs.«01_k».proof.Proof.Swa.Pairs
public import proofs.«01_k».proof.Proof.Swa.Tile

@[expose] public section

set_option maxRecDepth 16384

noncomputable section

namespace Cert.Swa

open Idealize.ShloMosaic Idealize.ShloMosaic.TcCoe Idealize.ShloMosaic.Tactic Cert.KernelIdeal Cert.KernelIdeal.Gen

variable {F : FTy → Type} [FloatOps F]

variable (c : Dev nD) (i : grid0.Coords) (arg2 : Memref sig .tc .vmem S1x256x1024 .f32) (harg2 : arg2.IsWhole)
  (arg3 : Memref sig .tc .vmem S1x1024 .f32) (harg3 : arg3.IsWhole) (arg4 : Memref sig .tc .vmem S1024x512 .bf16)
  (harg4 : arg4.IsWhole) (arg5 : Memref sig .tc .vmem S1x256 .f32) (harg5 : arg5.IsWhole)
  (arg6 : Memref sig .tc .vmem S256x256 .bf16) (harg6 : arg6.IsWhole) (arg7 : Memref sig .tc .vmem S256x128 .f32)
  (harg7 : arg7.IsWhole) (arg8 : Memref sig .tc .vmem S256x128 .f32) (harg8 : arg8.IsWhole)
  (arg9 : Memref sig .tc .vmem S1x1024 .f32) (harg9 : arg9.IsWhole) (arg10 : Memref sig .tc .vmem S1024x2048 .bf16)
  (harg10 : arg10.IsWhole) (arg11 : Memref sig .tc .vmem S1024x2048 .bf16) (harg11 : arg11.IsWhole)
  (arg12 : Memref sig .tc .vmem S1x256 .f32) (harg12 : arg12.IsWhole) (arg13 : Memref sig .tc .smem S32 .f32)
  (harg13 : arg13.IsWhole) (arg14 : Memref sig .tc .vmem S2048x1024 .bf16) (harg14 : arg14.IsWhole)
  (arg15 : Memref sig .tc .vmem S1x256x1024 .f32) (harg15 : arg15.IsWhole) (arg16 : Memref sig .tc .vmem S1x128x256 .f32)
  (harg16 : arg16.IsWhole) (arg17 : Memref sig .tc .vmem S1x128x256 .f32) (harg17 : arg17.IsWhole)
  (arg18 : Memref sig .tc .vmem S4x384x128 .bf16) (harg18 : arg18.IsWhole) (arg19 : Memref sig .tc .vmem S4x384x128 .bf16)
  (harg19 : arg19.IsWhole) (arg20 : Memref sig .tc .vmem S4x384x128 .bf16) (harg20 : arg20.IsWhole)
  (arg21 : Memref sig .tc .vmem S4x384x128 .bf16) (harg21 : arg21.IsWhole) (arg22 : Memref sig .tc .vmem S256x2048 .bf16)
  (harg22 : arg22.IsWhole) (arg23 : Memref sig .tc .vmem S256x2048 .f32) (harg23 : arg23.IsWhole)
  (arg24 : Memref sig .tc .vmem S256x2048 .bf16) (harg24 : arg24.IsWhole) (hc0 : ¬cond0_0 i) (hc1 : cond0_1 i)
  (x0 : Vec F S1x256x1024 .f32) (x1 : Vec F S1x1024 .f32) (x2 : Vec F S1024x512 .bf16) (x3 : Vec F S1x256 .f32)
  (x4 : Vec F S256x256 .bf16) (x5 : Vec F S256x128 .f32) (x6 : Vec F S256x128 .f32) (x7 : Vec F S1x1024 .f32)
  (x8 : Vec F S1024x2048 .bf16) (x9 : Vec F S1024x2048 .bf16) (x10 : Vec F S1x256 .f32) (x11 : Vec F S32 .f32)
  (x12 : Vec F S2048x1024 .bf16) (xs0 : Vec F S4x384x128 .bf16) (xs1 : Vec F S4x384x128 .bf16)
  (xs2 : Vec F S4x384x128 .bf16) (xs3 : Vec F S4x384x128 .bf16)

set_option maxHeartbeats 4000000 in
/-- The result's block. -/
theorem out_last :
    out0_C_13 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12 xs0 xs1 xs2 xs3
      = tileOut (BitVec.ofNat 32 (i 1).val) x0 x1 x2 x3 x4 x5 x6 x7 x8 x9 x10 x11 x12
        xs0 xs1 xs2 xs3 := by
  unfold out0_C_13 kernelRun0_C
  dsimp only
  sl_unfold_words
  rw [View.read_writes_junk_eq_canon]
  simp only [fun b => load_whole arg2 harg2 x0 ![0, 0, 0] b hz3,
      fun b => load_whole arg3 harg3 x1 ![0, 0] b hz2,
      fun b => load_whole arg4 harg4 x2 ![0, 0] b hz2,
      fun b => load_whole arg5 harg5 x3 ![0, 0] b hz2,
      fun b => load_whole arg6 harg6 x4 ![0, 0] b hz2,
      fun b => load_whole arg7 harg7 x5 ![0, 0] b hz2,
      fun b => load_whole arg8 harg8 x6 ![0, 0] b hz2,
      fun b => load_whole arg9 harg9 x7 ![0, 0] b hz2,
      fun b => load_whole arg11 harg11 x9 ![0, 0] b hz2,
      fun b => load_whole arg12 harg12 x10 ![0, 0] b hz2,
      fun b => load_whole arg14 harg14 x12 ![0, 0] b hz2,
      load_part arg13 harg13 x11,
      load_part arg10 harg10 x8,
      load4 arg18 harg18 xs0,
      load4 arg19 harg19 xs1,
      load4 arg20 harg20 xs2,
      load4 arg21 harg21 xs3,
      fun p0 p1 p2 p3 a3 a2 a1 a0 g size b => load4_low arg18.view xs0 p0 p1 p2 p3 a3 a2 a1 a0 ![g, 128, 0] size b (le_refl 128),
      fun p0 p1 p2 p3 a3 a2 a1 a0 size b => load4_low arg18.view xs0 p0 p1 p2 p3 a3 a2 a1 a0 ![0, 256, 0] size b (by decide : (128 : ℕ) ≤ 256),
      fun p0 p1 p2 p3 a3 a2 a1 a0 g size b => load4_low arg19.view xs1 p0 p1 p2 p3 a3 a2 a1 a0 ![g, 128, 0] size b (le_refl 128),
      fun p0 p1 p2 p3 a3 a2 a1 a0 size b => load4_low arg19.view xs1 p0 p1 p2 p3 a3 a2 a1 a0 ![0, 256, 0] size b (by decide : (128 : ℕ) ≤ 256),
      fun p0 p1 p2 p3 a3 a2 a1 a0 g size b => load4_low arg20.view xs2 p0 p1 p2 p3 a3 a2 a1 a0 ![g, 128, 0] size b (le_refl 128),
      fun p0 p1 p2 p3 a3 a2 a1 a0 size b => load4_low arg20.view xs2 p0 p1 p2 p3 a3 a2 a1 a0 ![0, 256, 0] size b (by decide : (128 : ℕ) ≤ 256),
      fun p0 p1 p2 p3 a3 a2 a1 a0 g size b => load4_low arg21.view xs3 p0 p1 p2 p3 a3 a2 a1 a0 ![g, 128, 0] size b (le_refl 128),
      fun p0 p1 p2 p3 a3 a2 a1 a0 size b => load4_low arg21.view xs3 p0 p1 p2 p3 a3 a2 a1 a0 ![0, 256, 0] size b (by decide : (128 : ℕ) ≤ 256),
      load_cov arg22.view,
      fun X b r => load_cov_whole arg23.view X ![0, 0] b hz2 r,
      load_cov arg24.view]
  simp only [kTop_0, kTop_1, kTop_2, kTop_3, kBot_0, kBot_1, kBot_2, kBot_3, vTop_0, vTop_1, vTop_2, vTop_3, vBot_0, vBot_1, vBot_2, vBot_3, q_0, q_1, q_2, q_3, q_4, q_5, q_6, q_7, q_8, q_9, q_10, q_11, q_12, q_13, q_14, q_15, gate_eq, out_eq, pair_0_0, pair_0_1, pair_0_2, pair_0_3, pair_0_4, pair_0_5, pair_0_6, pair_0_7, pair_0_8, pair_0_9, pair_0_10, pair_0_11, pair_0_12, pair_0_13, pair_0_14, pair_0_15, pair_1_0, pair_1_1, pair_1_2, pair_1_3, pair_1_4, pair_1_5, pair_1_6, pair_1_7, pair_1_8, pair_1_9, pair_1_10, pair_1_11, pair_1_12, pair_1_13, pair_1_14, pair_1_15]
  simp only [ld_wq x8 0 0 rfl, ld_wq x8 1 256 rfl, ld_wq x8 2 512 rfl, ld_wq x8 3 768 rfl, ld_wq x8 4 1024 rfl, ld_wq x8 5 1280 rfl, ld_wq x8 6 1536 rfl, ld_wq x8 7 1792 rfl]
  rw [canon16, qSlabs_eq]
  refine (View.canon_unit_zero (S := S1x256x1024) hz3 _ _).trans ?_
  refine congrArg (fun og => outMat x0 og x12) ?_
  refine (View.ld_unit_zero (S := S256x2048) hz2 _ _).trans ?_
  rw [kTops_eq, kBots_eq, vTops_eq, vBots_eq]
  generalize buf4 (kTops x0 x1 x2 x3 x4 x5 x6) xs0 = KT
  generalize buf4 (kBots x0 x1 x2 x3 x4 x5 x6) xs1 = KB
  generalize buf4 (vTops x0 x1 x2) xs2 = VT
  generalize buf4 (vBots x0 x1 x2) xs3 = VB
  generalize buf16 (qSlabs x0 x7 x8 x10 x4 x5 x6) = Q
  generalize gateMat x0 x7 x9 = G
  exact og_canon (tileMask (BitVec.ofNat 32 (i 1).val)) KT KB VT VB Q G x11

set_option maxHeartbeats 4000000 in
/-- The keys' lower lanes, as the next tile finds them. -/
theorem ktop_last :
    sout0_C_0 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12 xs0 xs1 xs2 xs3
      = carried (buf4 (kTops x0 x1 x2 x3 x4 x5 x6) xs0) := by
  unfold sout0_C_0 kernelRun0_C
  dsimp only
  sl_unfold_words
  simp only [fun b => load_whole arg2 harg2 x0 ![0, 0, 0] b hz3,
    fun b => load_whole arg3 harg3 x1 ![0, 0] b hz2,
    fun b => load_whole arg4 harg4 x2 ![0, 0] b hz2,
    fun b => load_whole arg5 harg5 x3 ![0, 0] b hz2,
    fun b => load_whole arg6 harg6 x4 ![0, 0] b hz2,
    fun b => load_whole arg7 harg7 x5 ![0, 0] b hz2,
    fun b => load_whole arg8 harg8 x6 ![0, 0] b hz2,
    fun p0 p1 p2 p3 a3 a2 a1 a0 size b => load4_low arg18.view xs0 p0 p1 p2 p3 a3 a2 a1 a0 ![0, 256, 0] size b (by decide : (128 : ℕ) ≤ 256)]
  simp only [kTop_0, kTop_1, kTop_2, kTop_3, move_0]
  rw [← kTops_eq]
  exact read_carry (F := F) _ _ _ _ _ _ _ _ _ _ _ _ _

set_option maxHeartbeats 4000000 in
/-- The keys' upper lanes, as the next tile finds them. -/
theorem kbot_last :
    sout0_C_1 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12 xs0 xs1 xs2 xs3
      = carried (buf4 (kBots x0 x1 x2 x3 x4 x5 x6) xs1) := by
  unfold sout0_C_1 kernelRun0_C
  dsimp only
  sl_unfold_words
  simp only [fun b => load_whole arg2 harg2 x0 ![0, 0, 0] b hz3,
    fun b => load_whole arg3 harg3 x1 ![0, 0] b hz2,
    fun b => load_whole arg4 harg4 x2 ![0, 0] b hz2,
    fun b => load_whole arg5 harg5 x3 ![0, 0] b hz2,
    fun b => load_whole arg6 harg6 x4 ![0, 0] b hz2,
    fun b => load_whole arg7 harg7 x5 ![0, 0] b hz2,
    fun b => load_whole arg8 harg8 x6 ![0, 0] b hz2,
    fun p0 p1 p2 p3 a3 a2 a1 a0 size b => load4_low arg19.view xs1 p0 p1 p2 p3 a3 a2 a1 a0 ![0, 256, 0] size b (by decide : (128 : ℕ) ≤ 256)]
  simp only [kBot_0, kBot_1, kBot_2, kBot_3, move_1]
  rw [← kBots_eq]
  exact read_carry (F := F) _ _ _ _ _ _ _ _ _ _ _ _ _

set_option maxHeartbeats 4000000 in
/-- The values' lower lanes, as the next tile finds them. -/
theorem vtop_last :
    sout0_C_2 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12 xs0 xs1 xs2 xs3
      = carried (buf4 (vTops x0 x1 x2) xs2) := by
  unfold sout0_C_2 kernelRun0_C
  dsimp only
  sl_unfold_words
  simp only [fun b => load_whole arg2 harg2 x0 ![0, 0, 0] b hz3,
    fun b => load_whole arg3 harg3 x1 ![0, 0] b hz2,
    fun b => load_whole arg4 harg4 x2 ![0, 0] b hz2,
    fun p0 p1 p2 p3 a3 a2 a1 a0 size b => load4_low arg20.view xs2 p0 p1 p2 p3 a3 a2 a1 a0 ![0, 256, 0] size b (by decide : (128 : ℕ) ≤ 256)]
  simp only [vTop_0, vTop_1, vTop_2, vTop_3, move_2]
  rw [← vTops_eq]
  exact read_carry (F := F) _ _ _ _ _ _ _ _ _ _ _ _ _

set_option maxHeartbeats 4000000 in
/-- The values' upper lanes, as the next tile finds them. -/
theorem vbot_last :
    sout0_C_3 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12 xs0 xs1 xs2 xs3
      = carried (buf4 (vBots x0 x1 x2) xs3) := by
  unfold sout0_C_3 kernelRun0_C
  dsimp only
  sl_unfold_words
  simp only [fun b => load_whole arg2 harg2 x0 ![0, 0, 0] b hz3,
    fun b => load_whole arg3 harg3 x1 ![0, 0] b hz2,
    fun b => load_whole arg4 harg4 x2 ![0, 0] b hz2,
    fun p0 p1 p2 p3 a3 a2 a1 a0 size b => load4_low arg21.view xs3 p0 p1 p2 p3 a3 a2 a1 a0 ![0, 256, 0] size b (by decide : (128 : ℕ) ≤ 256)]
  simp only [vBot_0, vBot_1, vBot_2, vBot_3, move_3]
  rw [← vBots_eq]
  exact read_carry (F := F) _ _ _ _ _ _ _ _ _ _ _ _ _

set_option maxHeartbeats 4000000 in
/-- The key cache. -/
theorem kcache_last :
    out0_C_14 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12 xs0 xs1 xs2 xs3
      = keyCache x0 x1 x2 x3 x4 x5 x6 := by
  unfold out0_C_14 kernelRun0_C
  dsimp only
  sl_unfold_words
  rw [View.read_writes_junk_eq_canon]
  simp only [fun b => load_whole arg2 harg2 x0 ![0, 0, 0] b hz3,
    fun b => load_whole arg3 harg3 x1 ![0, 0] b hz2,
    fun b => load_whole arg4 harg4 x2 ![0, 0] b hz2,
    fun b => load_whole arg5 harg5 x3 ![0, 0] b hz2,
    fun b => load_whole arg6 harg6 x4 ![0, 0] b hz2,
    fun b => load_whole arg7 harg7 x5 ![0, 0] b hz2,
    fun b => load_whole arg8 harg8 x6 ![0, 0] b hz2]
  refine (View.canon_unit_zero (S := S1x128x256) hz3 _ _).trans ?_
  rfl

set_option maxHeartbeats 4000000 in
/-- The value cache. -/
theorem vcache_last :
    out0_C_15 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 hc0 hc1 x0 x1 x2 x3 x4 x5 x6 x7 x8 x9 x10 x11
      x12 xs0 xs1 xs2 xs3
      = valCache x0 x1 x2 := by
  unfold out0_C_15 kernelRun0_C
  dsimp only
  sl_unfold_words
  rw [View.read_writes_junk_eq_canon]
  simp only [fun b => load_whole arg2 harg2 x0 ![0, 0, 0] b hz3,
    fun b => load_whole arg3 harg3 x1 ![0, 0] b hz2,
    fun b => load_whole arg4 harg4 x2 ![0, 0] b hz2]
  refine (View.canon_unit_zero (S := S1x128x256) hz3 _ _).trans ?_
  rfl

end Cert.Swa
-- ==== Proof.Swa.Spec.lean ====
/-
  The layer's functions of one position, over the extended reals: norms, projections, rotations. Both programs are read
  as these.
-/
module

public import proofs.«01_k».proof.Proof.Swa.Algebra

@[expose] public section

noncomputable section

namespace Cert.Swa

open Idealize.ShloMosaic

/-- A row divided by the root of its mean square plus a small constant, times a gain; `n` is the row's length. -/
def normed {ι : Type} [Fintype ι] (n : EReal) (x g : ι → EReal) (c : ι) : EReal :=
  x c * Ideal.rsqrt (Ideal.div (∑ k, x k * x k) n + Ideal.ofBits .f32 0x358637BD#32) * g c

/-- A row of 1024 normed. -/
def rowN (x g : Fin 1024 → EReal) : Fin 1024 → EReal := normed (Ideal.ofBits .f32 0x44800000#32) x g

/-- A head's 64 lanes normed. -/
def headN (x g : Fin 64 → EReal) : Fin 64 → EReal := normed (Ideal.ofBits .f32 0x42800000#32) x g

/-- A row times a column. -/
def proj (u w : Fin 1024 → EReal) : EReal := ∑ k, u k * w k

/-- The rotation of a head: lanes `d` and `d + 32` turn by the angle of `d`. -/
def turn (cs sn : Fin 32 → EReal) (x : Fin 64 → EReal) (d : Fin 64) : EReal :=
  if h : d.val < 32 then x d * cs ⟨d.val, h⟩ - x ⟨d.val + 32, by omega⟩ * sn ⟨d.val, h⟩
  else x d * cs ⟨d.val - 32, by omega⟩ + x ⟨d.val - 32, by omega⟩ * sn ⟨d.val - 32, by omega⟩

/-- The gate. -/
def silu (x : EReal) : EReal := x * Ideal.div 1 (1 + Ideal.exp (-x))

theorem normed_real {ι : Type} [Fintype ι] {n : ℝ} (hn : 0 < n) {x g : ι → EReal} (hx : ∀ k, IsReal (x k)) (hg : ∀ k, IsReal (g k)) (c : ι) :
    IsReal (normed (n : EReal) x g c) := ((hx c).mul (IsReal.rms hx hn)).mul (hg c)

theorem rowN_real {x g : Fin 1024 → EReal} (hx : ∀ k, IsReal (x k)) (hg : ∀ k, IsReal (g k)) (c : Fin 1024) : IsReal (rowN x g c) := by
  unfold rowN; rw [ofBits_1024]; exact normed_real (by norm_num) hx hg c

theorem headN_real {x g : Fin 64 → EReal} (hx : ∀ k, IsReal (x k)) (hg : ∀ k, IsReal (g k)) (c : Fin 64) : IsReal (headN x g c) := by
  unfold headN; rw [ofBits_64]; exact normed_real (by norm_num) hx hg c

theorem proj_real {u w : Fin 1024 → EReal} (hu : ∀ k, IsReal (u k)) (hw : ∀ k, IsReal (w k)) : IsReal (proj u w) :=
  IsReal.sum _ fun k _ => (hu k).mul (hw k)

theorem turn_real {cs sn : Fin 32 → EReal} {x : Fin 64 → EReal} (hc : ∀ k, IsReal (cs k)) (hs : ∀ k, IsReal (sn k))
    (hx : ∀ k, IsReal (x k)) (d : Fin 64) : IsReal (turn cs sn x d) := by
  unfold turn
  split
  · exact ((hx _).mul (hc _)).sub ((hx _).mul (hs _))
  · exact ((hx _).mul (hc _)).add ((hx _).mul (hs _))

/-- An eighth of the gain gives an eighth of the normed and turned head. -/
theorem turn_eighth {cs sn : Fin 32 → EReal} {x g : Fin 64 → EReal} (hc : ∀ k, IsReal (cs k)) (hs : ∀ k, IsReal (sn k))
    (hx : ∀ k, IsReal (x k)) (hg : ∀ k, IsReal (g k)) {e : EReal} (he : IsReal e) (d : Fin 64) :
    turn cs sn (headN x fun k => g k * e) d = turn cs sn (headN x g) d * e := by
  have h1 : ∀ k, headN x (fun k => g k * e) k = headN x g k * e := fun k => (mul_assoc _ _ _).symm
  have hr := headN_real hx hg
  choose r hr using hr
  choose a ha using hc
  choose b hb using hs
  obtain ⟨e, rfl⟩ := he
  unfold turn
  simp only [h1, hr, ha, hb]
  split
  · rw [← EReal.coe_mul, ← EReal.coe_mul, ← EReal.coe_mul, ← EReal.coe_mul, ← EReal.coe_mul, ← EReal.coe_mul, ← EReal.coe_sub,
      ← EReal.coe_sub, ← EReal.coe_mul]
    congr 1; ring
  · rw [← EReal.coe_mul, ← EReal.coe_mul, ← EReal.coe_mul, ← EReal.coe_mul, ← EReal.coe_mul, ← EReal.coe_mul, ← EReal.coe_add,
      ← EReal.coe_add, ← EReal.coe_mul]
    congr 1; ring

/-- A factor leaves a finite sum of finite products. -/
theorem sum_eighth {ι : Type} [Fintype ι] {q k : ι → EReal} (hq : ∀ i, IsReal (q i)) (hk : ∀ i, IsReal (k i)) {e : EReal} (he : IsReal e) :
    ∑ i, q i * e * k i = (∑ i, k i * q i) * e := by
  choose a ha using hq
  choose b hb using hk
  obtain ⟨e, rfl⟩ := he
  simp only [ha, hb, ← EReal.coe_mul, ← coe_sum]
  congr 1
  rw [Finset.sum_mul]
  exact Finset.sum_congr rfl fun i _ => by ring

end Cert.Swa
-- ==== Proof.Swa.Entries.lean ====
/-
  The tile's functions at an index, over the extended reals.
-/
module

public import proofs.«01_k».proof.Proof.Swa.Spec
public import proofs.«01_k».proof.Proof.Swa.Tile
public import Idealize.ShloMosaic.Lib.Pointwise

@[expose] public section

set_option maxRecDepth 16384

noncomputable section

namespace Cert.Swa

open Idealize.ShloMosaic Cert.KernelIdeal Cert.KernelIdeal.Gen

/-! ## Masks -/

theorem pick {α : Type} (p : Prop) [Decidable p] (a b : α) : Scalar.select (if p then 1#1 else 0#1) a b = if p then a else b := by
  unfold Scalar.select
  by_cases h : p
  · rw [if_pos h, if_pos h]; exact if_pos rfl
  · rw [if_neg h, if_neg h]; exact if_neg (by decide)

theorem firstHalf_apply (r : Fin 256) (c : Fin 128) : k0_pay8 (ix2 r c) = if c.val % 64 < 32 then 1#1 else 0#1 := by
  pointwise [k0_pay8]
  revert c
  decide +kernel

theorem low_apply (r : Fin 256) (c : Fin 128) : k0_pay9 (ix2 r c) = if c.val < 64 then 1#1 else 0#1 := by
  pointwise [k0_pay9]
  revert c
  decide +kernel

theorem low128_apply (r : Fin 128) (c : Fin 128) : k0_pay98 (ix2 r c) = if c.val < 64 then 1#1 else 0#1 := by
  pointwise [k0_pay98]
  revert c
  decide +kernel

theorem sge_eq (x y : BitVec 32) : IntOp.cmpi .sge x y = if y.toInt ≤ x.toInt then 1#1 else 0#1 := by
  show BitVec.ofBool (y.sle x) = _
  rw [BitVec.sle_eq_decide]
  by_cases h : y.toInt ≤ x.toInt
  · rw [if_pos h, decide_eq_true h]; rfl
  · rw [if_neg h, decide_eq_false h]; rfl

theorem sle_eq (x y : BitVec 32) : IntOp.cmpi .sle x y = if x.toInt ≤ y.toInt then 1#1 else 0#1 := by
  show BitVec.ofBool (x.sle y) = _
  rw [BitVec.sle_eq_decide]
  by_cases h : x.toInt ≤ y.toInt
  · rw [if_pos h, decide_eq_true h]; rfl
  · rw [if_neg h, decide_eq_false h]; rfl

theorem and_eq (p q : Prop) [Decidable p] [Decidable q] :
    IntOp.andi (if p then 1#1 else 0#1) (if q then 1#1 else 0#1) = if p ∧ q then 1#1 else 0#1 := by
  by_cases h : p <;> by_cases h' : q <;> simp [h, h', IntOp.andi]

theorem toInt_small (n : ℕ) (h : n < 2 ^ 31) : (BitVec.ofNat 32 n).toInt = n := by
  have e : (BitVec.ofNat 32 n).toNat = n := by rw [BitVec.toNat_ofNat]; omega
  rw [BitVec.toInt_eq_toNat_cond, e]
  split <;> omega

theorem toInt_diff (a b : ℕ) (ha : a < 2 ^ 30) (hb : b < 2 ^ 30) :
    (IntOp.subi (BitVec.ofNat 32 a) (BitVec.ofNat 32 b)).toInt = (a : ℤ) - b := by
  show (BitVec.ofNat 32 a - BitVec.ofNat 32 b).toInt = _
  rw [BitVec.toInt_sub, toInt_small a (by omega), toInt_small b (by omega), Int.bmod_def]
  split <;> omega

/-- The first tile of a row begins at the row's first position, so the 128 columns before it are left out. -/
theorem firstCol_0 (l : Fin 32) :
    (Scalar.select (Scalar.cmpi CmpIPredicate.sgt (Scalar.addi (Scalar.muli (BitVec.ofNat 32 l.val) 256#32) 0#32) 0#32) 0#32 128#32).toInt
      = if l.val = 0 then 128 else 0 := by
  revert l; decide +kernel

theorem firstCol_1 (l : Fin 32) :
    (Scalar.select (Scalar.cmpi CmpIPredicate.sgt (Scalar.addi (Scalar.muli (BitVec.ofNat 32 l.val) 256#32) 128#32) 0#32) 0#32 128#32).toInt
      = 0 := by
  revert l; decide +kernel

/-- The mask of a row: the column within 128 of it, and at a position of the sequence. -/
theorem tileMask_apply (l : Fin 32) (i : Fin 2) (r : Fin 128) (c : Fin 256) :
    tileMask (BitVec.ofNat 32 l.val) i (ix2 r c)
      = if (r.val ≤ c.val ∧ c.val ≤ r.val + 128) ∧ 128 ≤ 256 * l.val + 128 * i.val + c.val then 1#1 else 0#1 := by
  have h0 : (0#32).toInt = 0 := by decide
  have h1 : (128#32).toInt = 128 := by decide
  have hd := toInt_diff c.val r.val (by omega) (by omega)
  have hc := toInt_small c.val (by omega)
  fin_cases i
  · show k0_pay99 _ _ = _
    pointwise [k0_pay99, k0_pay97]
    rw [sge_eq, sle_eq, sge_eq, and_eq, and_eq, firstCol_0, hd, hc, h0, h1]
    refine if_congr ?_ rfl rfl
    split <;> constructor <;> intro h <;> omega
  · show k0_pay228 _ _ _ _ = _
    pointwise [k0_pay228, k0_pay97]
    rw [sge_eq, sle_eq, sge_eq, and_eq, and_eq, firstCol_1, hd, hc, h0, h1]
    refine if_congr ?_ rfl rfl
    constructor <;> intro h <;> omega

/-! ## Norms, rotations, group halves -/

theorem rowNorm_apply (h : FVec Ideal S256x1024 .f32) (g : FVec Ideal S1x1024 .f32) (r : Fin 256) (c : Fin 1024) :
    rowNorm h g (ix2 r c) = rowN (fun k => h (ix2 r k)) (fun k => g (ix2 (0 : Fin 1) k)) c := by
  pointwise [rowNorm]
  rfl

/-- The sum over 256 lanes against a block matrix is the sum over the lane's own 64. -/
theorem sum_block (f : Fin 256 → EReal) (b : Fin 256 → EReal) (c : Fin 256)
    (hb : ∀ k : Fin 256, b k = if k.val / 64 = c.val / 64 then 1 else 0) :
    ∑ k, f k * b k = ∑ d : Fin 64, f ⟨64 * (c.val / 64) + d.val, by omega⟩ := by
  classical
  have e : ∀ k : Fin 256, f k * b k = if k.val / 64 = c.val / 64 then f k else 0 := by
    intro k; rw [hb]; split <;> simp
  rw [Finset.sum_congr rfl fun k _ => e k, ← Finset.sum_filter]
  symm
  refine Finset.sum_bij (fun d _ => (⟨64 * (c.val / 64) + d.val, by omega⟩ : Fin 256)) ?_ ?_ ?_ ?_
  · intro d _; rw [Finset.mem_filter]; exact ⟨Finset.mem_univ _, by dsimp only; omega⟩
  · intro a _ b _ h; rw [Fin.mk.injEq] at h; exact Fin.ext (by omega)
  · intro k hk
    have := (Finset.mem_filter.mp hk).2
    exact ⟨⟨k.val % 64, by omega⟩, Finset.mem_univ _, Fin.ext (by dsimp only; omega)⟩
  · intro d _; rfl

theorem mul_inv64 {s : EReal} (hs : IsReal s) : s * Ideal.ofBits .f32 0x3C800000#32 = Ideal.div s (Ideal.ofBits .f32 0x42800000#32) := by
  obtain ⟨a, rfl⟩ := hs
  rw [ofBits_inv64, ofBits_64, div_coe _ (by norm_num), ← EReal.coe_mul]
  congr 1; ring

/-- Four heads normed at once: each lane by its own head. -/
theorem headNorm_apply (x : FVec Ideal S256x256 .f32) (bd : FVec Ideal S256x256 .bf16) (g : FVec Ideal S1x256 .f32) (r c : Fin 256)
    (hx : ∀ k : Fin 256, IsReal (x (ix2 r k)))
    (hb : ∀ k : Fin 256, bd (ix2 k c) = if k.val / 64 = c.val / 64 then (1 : EReal) else 0) :
    headNorm x bd g (ix2 r c) = headN (fun d => x (ix2 r (⟨64 * (c.val / 64) + d.val, by omega⟩ : Fin 256)))
      (fun d => g (ix2 (0 : Fin 1) (⟨64 * (c.val / 64) + d.val, by omega⟩ : Fin 256))) ⟨c.val % 64, Nat.mod_lt _ (by norm_num)⟩ := by
  have ec : (⟨64 * (c.val / 64) + c.val % 64, by omega⟩ : Fin 256) = c := Fin.ext (Nat.div_add_mod _ _)
  have hz : ∑ k : Fin 256, (x (ix2 r k) * x (ix2 r k) - x (ix2 r k) * x (ix2 r k)) * bd (ix2 k c) = 0 :=
    Finset.sum_eq_zero fun k _ => by rw [sub_self_of ((hx k).mul (hx k)), zero_mul]
  pointwise [headNorm]
  rw [sum_block (fun k => x (ix2 r k) * x (ix2 r k)) _ c hb, hz, add_zero,
    mul_inv64 (IsReal.sum _ fun d _ => (hx _).mul (hx _))]
  unfold headN normed
  dsimp only
  rw [ec]

/-- The rotation of a slab of two heads. -/
theorem ropeSlab_apply (x cs sn : FVec Ideal S256x128 .f32) (r : Fin 256) (c : Fin 128) (C S : Fin 32 → EReal)
    (hC : cs (ix2 r c) = C ⟨c.val % 32, Nat.mod_lt _ (by norm_num)⟩)
    (hS : sn (ix2 r c) = if c.val % 64 < 32 then - S ⟨c.val % 32, Nat.mod_lt _ (by norm_num)⟩ else S ⟨c.val % 32, Nat.mod_lt _ (by norm_num)⟩) :
    ropeSlab x cs sn (ix2 r c) = turn C S (fun d => x (ix2 r (⟨64 * (c.val / 64) + d.val, by omega⟩ : Fin 128))) ⟨c.val % 64, Nat.mod_lt _ (by norm_num)⟩ := by
  have ec : (⟨64 * (c.val / 64) + c.val % 64, by omega⟩ : Fin 128) = c := Fin.ext (Nat.div_add_mod _ _)
  have e : ropeSlab x cs sn (ix2 r c) = x (ix2 r c) * cs (ix2 r c) + Scalar.select (k0_pay8 (ix2 r c))
      (x (ix2 r ⟨(c.val + 128 - 96) % 128, Nat.mod_lt _ (by norm_num)⟩)) (x (ix2 r ⟨(c.val + 128 - 32) % 128, Nat.mod_lt _ (by norm_num)⟩))
        * sn (ix2 r c) := by
    pointwise [ropeSlab]
  rw [e, firstHalf_apply, pick, hC, hS]
  unfold turn
  dsimp only
  rw [ec]
  by_cases h : c.val % 64 < 32
  · rw [if_pos h, if_pos h, dif_pos h, mul_neg, ← sub_eq_add_neg]
    have e1 : (⟨(c.val + 128 - 96) % 128, Nat.mod_lt _ (by norm_num)⟩ : Fin 128) = ⟨64 * (c.val / 64) + (c.val % 64 + 32), by omega⟩ :=
      Fin.ext (by dsimp only; omega)
    have e2 : (⟨c.val % 32, Nat.mod_lt _ (by norm_num)⟩ : Fin 32) = ⟨c.val % 64, h⟩ := Fin.ext (by dsimp only; omega)
    rw [e1, e2]
  · rw [if_neg h, if_neg h, dif_neg h]
    have e1 : (⟨(c.val + 128 - 32) % 128, Nat.mod_lt _ (by norm_num)⟩ : Fin 128) = ⟨64 * (c.val / 64) + (c.val % 64 - 32), by omega⟩ :=
      Fin.ext (by dsimp only; omega)
    have e2 : (⟨c.val % 32, Nat.mod_lt _ (by norm_num)⟩ : Fin 32) = ⟨c.val % 64 - 32, by omega⟩ := Fin.ext (by dsimp only; omega)
    rw [e1, e2]

theorem topPiece_apply (x : FVec Ideal S256x128 .f32) (r : Fin 256) (c : Fin 128) :
    topPiece x (ix3 (0 : Fin 1) r c) = if c.val < 64 then x (ix2 r c) else 0 := by
  have e : topPiece x (ix3 (0 : Fin 1) r c) = Scalar.select (k0_pay9 (ix2 r c)) (x (ix2 r c)) 0 := by
    pointwise [topPiece]
  rw [e, low_apply, pick]

theorem botPiece_apply (x : FVec Ideal S256x128 .f32) (r : Fin 256) (c : Fin 128) :
    botPiece x (ix3 (0 : Fin 1) r c) = if c.val < 64 then 0 else x (ix2 r c) := by
  have e : botPiece x (ix3 (0 : Fin 1) r c) = Scalar.select (k0_pay9 (ix2 r c)) 0 (x (ix2 r c)) := by
    pointwise [botPiece]
  rw [e, low_apply, pick]

theorem swapHalves_apply (x : FVec Ideal S256x128 .f32) (r : Fin 256) (c : Fin 128) :
    swapHalves x (ix2 r c) = x (ix2 r ⟨(c.val + 64) % 128, Nat.mod_lt _ (by norm_num)⟩) := by
  pointwise [swapHalves]
  rfl

end Cert.Swa
-- ==== Proof.Swa.Rows.lean ====
/-
  The layer as functions of a row and a position in it, and the tile's keys, values, queries, gate and caches as those.
-/
module

public import proofs.«01_k».proof.Proof.Swa.Entries

@[expose] public section

set_option maxRecDepth 16384

noncomputable section

namespace Cert.Swa

open Idealize.ShloMosaic Cert.KernelIdeal Cert.KernelIdeal.Gen

/-- The layer's inputs: the residual stream, the gains, the weights, the sinks, and the cosines and sines of the positions. -/
structure Layer where
  h : Fin 4 → Fin 8192 → Fin 1024 → EReal
  kvn : Fin 1024 → EReal
  bn : Fin 1024 → EReal
  wk : Fin 1024 → Fin 256 → EReal
  wv : Fin 1024 → Fin 256 → EReal
  wq : Fin 1024 → Fin 2048 → EReal
  wg : Fin 1024 → Fin 2048 → EReal
  kn : Fin 64 → EReal
  qn : Fin 64 → EReal
  zs : Fin 32 → EReal
  wo : Fin 2048 → Fin 1024 → EReal
  cs : Fin 8192 → Fin 32 → EReal
  sn : Fin 8192 → Fin 32 → EReal

/-- All the inputs, but for the output projection, are finite. -/
structure Layer.Finite (L : Layer) : Prop where
  h : ∀ b p k, IsReal (L.h b p k)
  kvn : ∀ k, IsReal (L.kvn k)
  bn : ∀ k, IsReal (L.bn k)
  wk : ∀ k c, IsReal (L.wk k c)
  wv : ∀ k c, IsReal (L.wv k c)
  wq : ∀ k c, IsReal (L.wq k c)
  wg : ∀ k c, IsReal (L.wg k c)
  kn : ∀ k, IsReal (L.kn k)
  qn : ∀ k, IsReal (L.qn k)
  zs : ∀ n, IsReal (L.zs n)
  cs : ∀ p k, IsReal (L.cs p k)
  sn : ∀ p k, IsReal (L.sn p k)

namespace Layer

variable (L : Layer) (b : Fin 4) (p : Fin 8192)

/-- The row normed for the keys and values. -/
def kvRow : Fin 1024 → EReal := rowN (L.h b p) L.kvn
/-- The row normed for the queries and the gate. -/
def qRow : Fin 1024 → EReal := rowN (L.h b p) L.bn
/-- Lane `e` of group or head `g`. -/
abbrev lane {n : ℕ} (g : Fin n) (e : Fin 64) : Fin (64 * n) := ⟨64 * g.val + e.val, by omega⟩
/-- The key of a position: group `g`, lane `d`. -/
def key (g : Fin 4) (d : Fin 64) : EReal :=
  turn (L.cs p) (L.sn p) (headN (fun e => proj (L.kvRow b p) fun k => L.wk k (lane g e)) L.kn) d
/-- The value of a position. -/
def val (g : Fin 4) (d : Fin 64) : EReal := proj (L.kvRow b p) fun k => L.wv k (lane g d)
/-- The query of a position: head `n`, lane `d`. -/
def query (n : Fin 32) (d : Fin 64) : EReal :=
  turn (L.cs p) (L.sn p) (headN (fun e => proj (L.qRow b p) fun k => L.wq k (lane n e)) L.qn) d
/-- The gate of a position. -/
def gate (c : Fin 2048) : EReal := proj (L.qRow b p) fun k => L.wg k c
/-- A head attends to its own position and the 128 before. -/
def att (n : Fin 32) (d : Fin 64) : EReal :=
  attend (fun j : Fin 8192 => j.val ≤ p.val ∧ p.val ≤ j.val + 128)
    (fun j => (∑ e, L.key b j ⟨n.val / 8, by omega⟩ e * L.query b p n e) * Ideal.ofBits .f32 0x3E000000#32)
    (fun j => L.val b j ⟨n.val / 8, by omega⟩ d) (L.zs n)
/-- The layer's result. -/
def out (c : Fin 1024) : EReal :=
  L.h b p c + ∑ j : Fin 2048, L.att b p ⟨j.val / 64, by omega⟩ ⟨j.val % 64, Nat.mod_lt _ (by norm_num)⟩ * silu (L.gate b p j) * L.wo j c

variable {L} (F : L.Finite)
include F

theorem Finite.kvRow (k : Fin 1024) : IsReal (L.kvRow b p k) := rowN_real (F.h b p) F.kvn k
theorem Finite.qRow (k : Fin 1024) : IsReal (L.qRow b p k) := rowN_real (F.h b p) F.bn k
theorem Finite.key (g : Fin 4) (d : Fin 64) : IsReal (L.key b p g d) :=
  turn_real (F.cs p) (F.sn p) (headN_real (fun _ => proj_real (F.kvRow b p) fun _ => F.wk _ _) F.kn) d
theorem Finite.val (g : Fin 4) (d : Fin 64) : IsReal (L.val b p g d) := proj_real (F.kvRow b p) fun _ => F.wv _ _
theorem Finite.query (n : Fin 32) (d : Fin 64) : IsReal (L.query b p n d) :=
  turn_real (F.cs p) (F.sn p) (headN_real (fun _ => proj_real (F.qRow b p) fun _ => F.wq _ _) F.qn) d

end Layer

/-- The position of row `r` of tile `l`. -/
def at256 (l : Fin 32) (r : Fin 256) : Fin 8192 := ⟨256 * l.val + r.val, by omega⟩

/-- A tile's operands are the layer's inputs. -/
structure TileOf (L : Layer) (b : Fin 4) (l : Fin 32) (x0 : Vec Ideal S1x256x1024 .f32) (x1 : Vec Ideal S1x1024 .f32) (x2 : Vec Ideal S1024x512 .bf16)
    (x3 : Vec Ideal S1x256 .f32) (x4 : Vec Ideal S256x256 .bf16) (x5 x6 : Vec Ideal S256x128 .f32) (x7 : Vec Ideal S1x1024 .f32)
    (x8 x9 : Vec Ideal S1024x2048 .bf16) (x10 : Vec Ideal S1x256 .f32) (x11 : Vec Ideal S32 .f32) (x12 : Vec Ideal S2048x1024 .bf16) : Prop where
  h : ∀ r k, x0 (ix3 (0 : Fin 1) r k) = L.h b (at256 l r) k
  kvn : ∀ k, x1 (ix2 (0 : Fin 1) k) = L.kvn k
  wk : ∀ k (c : Fin 256), x2 (ix2 k (⟨c.val, by omega⟩ : Fin 512)) = L.wk k c
  wv : ∀ k (c : Fin 256), x2 (ix2 k (⟨256 + c.val, by omega⟩ : Fin 512)) = L.wv k c
  kn : ∀ c : Fin 256, x3 (ix2 (0 : Fin 1) c) = L.kn ⟨c.val % 64, Nat.mod_lt _ (by norm_num)⟩
  bd : ∀ k c : Fin 256, x4 (ix2 k c) = if k.val / 64 = c.val / 64 then (1 : EReal) else 0
  cs : ∀ r (c : Fin 128), x5 (ix2 r c) = L.cs (at256 l r) ⟨c.val % 32, Nat.mod_lt _ (by norm_num)⟩
  sn : ∀ r (c : Fin 128), x6 (ix2 r c) = if c.val % 64 < 32 then - L.sn (at256 l r) ⟨c.val % 32, Nat.mod_lt _ (by norm_num)⟩
    else L.sn (at256 l r) ⟨c.val % 32, Nat.mod_lt _ (by norm_num)⟩
  bn : ∀ k, x7 (ix2 (0 : Fin 1) k) = L.bn k
  wq : ∀ k c, x8 (ix2 k c) = L.wq k c
  wg : ∀ k c, x9 (ix2 k c) = L.wg k c
  qn : ∀ c : Fin 256, x10 (ix2 (0 : Fin 1) c) = L.qn ⟨c.val % 64, Nat.mod_lt _ (by norm_num)⟩
  zs : ∀ n, x11 (ix1 n) = L.zs n
  wo : ∀ j c, x12 (ix2 j c) = L.wo j c

section

variable {L : Layer} {b : Fin 4} {l : Fin 32} {x0 : Vec Ideal S1x256x1024 .f32} {x1 : Vec Ideal S1x1024 .f32} {x2 : Vec Ideal S1024x512 .bf16}
    {x3 : Vec Ideal S1x256 .f32} {x4 : Vec Ideal S256x256 .bf16} {x5 x6 : Vec Ideal S256x128 .f32} {x7 : Vec Ideal S1x1024 .f32}
    {x8 x9 : Vec Ideal S1024x2048 .bf16} {x10 : Vec Ideal S1x256 .f32} {x11 : Vec Ideal S32 .f32} {x12 : Vec Ideal S2048x1024 .bf16}
  (T : TileOf L b l x0 x1 x2 x3 x4 x5 x6 x7 x8 x9 x10 x11 x12) (F : L.Finite)
include T

theorem kvMat_apply (r : Fin 256) (c : Fin 512) :
    kvMat x0 x1 x2 (ix2 r c) = proj (L.kvRow b (at256 l r)) fun k => x2 (ix2 k c) := by
  have e : kvMat x0 x1 x2 (ix2 r c) = ∑ k : Fin 1024, (rowNorm (F := Ideal) (shapeCast S256x1024 x0 shapeCasts_S1x256x1024_S256x1024)
      (shapeCast S1x1024 x1 shapeCasts_S1x1024_S1x1024) (ix2 r k) * x2 (ix2 k c) : EReal) := by
    pointwise [kvMat]
  rw [e]
  refine Finset.sum_congr rfl fun k _ => ?_
  rw [rowNorm_apply]
  congr 1
  unfold Layer.kvRow
  congr 1
  · funext k; pointwise []; exact T.h r k
  · funext k; pointwise []; exact T.kvn k

theorem vMat_apply (r : Fin 256) (c : Fin 256) (g : Fin 4) (d : Fin 64) (hg : g.val = c.val / 64) (hd : d.val = c.val % 64) :
    vMat x0 x1 x2 (ix2 r c) = L.val b (at256 l r) g d := by
  have e : vMat x0 x1 x2 (ix2 r c) = kvMat x0 x1 x2 (ix2 r (⟨256 + c.val, by omega⟩ : Fin 512)) := by
    pointwise [vMat]
  rw [e, kvMat_apply T]
  unfold Layer.val
  congr 1
  funext k
  rw [T.wv]
  congr 1
  exact Fin.ext (by show c.val = 64 * g.val + d.val; omega)

include F in
theorem kSlab_apply (o : ℕ) (ho : o % 64 = 0) (hoff) (r : Fin 256) (c : Fin 128) (g : Fin 4) (d : Fin 64)
    (hg : g.val = (o + c.val) / 64) (hd : d.val = c.val % 64) :
    kSlab ![0, o] hoff x0 x1 x2 x3 x4 x5 x6 (ix2 r c) = L.key b (at256 l r) g d := by
  have hoc : o + 128 ≤ 256 := hoff.2 (1 : Fin 2)
  unfold kSlab
  rw [ropeSlab_apply _ _ _ r c (L.cs (at256 l r)) (L.sn (at256 l r)) (by pointwise []; exact T.cs r c) (by pointwise []; exact T.sn r c)]
  unfold Layer.key
  congr 1
  · funext e
    have hk : ∀ c' : Fin 256, extractStridedSlice S256x256 ![0, 0] (kvMat x0 x1 x2) slices_S256x512_o0_0_S256x256 (ix2 r c')
        = proj (L.kvRow b (at256 l r)) fun k => L.wk k c' := by
      intro c'
      have e' : extractStridedSlice S256x256 ![0, 0] (kvMat x0 x1 x2) slices_S256x512_o0_0_S256x256 (ix2 r c')
          = kvMat x0 x1 x2 (ix2 r (⟨c'.val, by omega⟩ : Fin 512)) := by pointwise []
      rw [e', kvMat_apply T]
      congr 1; funext k; exact T.wk k c'
    have ho' : ∀ c' : Fin 128, extractStridedSlice S256x128 ![0, o] (headNorm
        (extractStridedSlice S256x256 ![0, 0] (kvMat x0 x1 x2) slices_S256x512_o0_0_S256x256)
        (shapeCast S256x256 x4 shapeCasts_S256x256_S256x256) (shapeCast S1x256 x3 shapeCasts_S1x256_S1x256)) hoff (ix2 r c')
        = headNorm (extractStridedSlice S256x256 ![0, 0] (kvMat x0 x1 x2) slices_S256x512_o0_0_S256x256)
        (shapeCast S256x256 x4 shapeCasts_S256x256_S256x256) (shapeCast S1x256 x3 shapeCasts_S1x256_S1x256)
          (ix2 r (⟨o + c'.val, by omega⟩ : Fin 256)) := by
      intro c'; pointwise []
    rw [ho', headNorm_apply]
    · congr 1
      · funext e'
        rw [hk]
        congr 1; funext k; congr 1
        exact Fin.ext (by show 64 * ((o + (64 * (c.val / 64) + e.val)) / 64) + e'.val = 64 * g.val + e'.val; omega)
      · funext e'
        pointwise []
        rw [T.kn]
        congr 1
        exact Fin.ext (by show (64 * ((o + (64 * (c.val / 64) + e.val)) / 64) + e'.val) % 64 = e'.val; omega)
      · exact Fin.ext (by show (o + (64 * (c.val / 64) + e.val)) % 64 = e.val; omega)
    · intro k; rw [hk]; exact proj_real (F.kvRow b _) fun _ => F.wk _ _
    · intro k; pointwise []; exact T.bd k _
  · exact Fin.ext hd.symm

omit T in
theorem topSlab {x : FVec Ideal S256x128 .f32} {K : Fin 64 → EReal} {r : Fin 256}
    (hx : ∀ c : Fin 128, ∀ h : c.val < 64, x (ix2 r c) = K ⟨c.val, h⟩) (c : Fin 128) :
    topPiece x (ix3 (0 : Fin 1) r c) = if h : c.val < 64 then K ⟨c.val, h⟩ else 0 := by
  rw [topPiece_apply]
  by_cases h : c.val < 64
  · rw [if_pos h, dif_pos h, hx c h]
  · rw [if_neg h, dif_neg h]

omit T in
theorem botSlab {x : FVec Ideal S256x128 .f32} {K : Fin 64 → EReal} {r : Fin 256}
    (hx : ∀ c : Fin 128, ∀ h : ¬ c.val < 64, x (ix2 r c) = K ⟨c.val - 64, by omega⟩) (c : Fin 128) :
    botPiece x (ix3 (0 : Fin 1) r c) = if h : c.val < 64 then 0 else K ⟨c.val - 64, by omega⟩ := by
  rw [botPiece_apply]
  by_cases h : c.val < 64
  · rw [if_pos h, dif_pos h]
  · rw [if_neg h, dif_neg h, hx c h]

include F in
theorem kTops_apply (g : Fin 4) (r : Fin 256) (c : Fin 128) :
    kTops x0 x1 x2 x3 x4 x5 x6 g (ix3 (0 : Fin 1) r c) = if h : c.val < 64 then L.key b (at256 l r) g ⟨c.val, h⟩ else 0 := by
  fin_cases g <;> refine topSlab (fun c h => ?_) c <;> (try rw [swapHalves_apply]) <;>
    exact kSlab_apply T F _ (by norm_num) _ r _ _ _ (by dsimp only [Fin.zero_eta, Fin.mk_one, Fin.reduceFinMk, Fin.val_zero, Fin.val_one, Fin.val_two]; omega) (by dsimp only; omega)

include F in
theorem kBots_apply (g : Fin 4) (r : Fin 256) (c : Fin 128) :
    kBots x0 x1 x2 x3 x4 x5 x6 g (ix3 (0 : Fin 1) r c) = if h : c.val < 64 then 0 else L.key b (at256 l r) g ⟨c.val - 64, by omega⟩ := by
  fin_cases g <;> refine botSlab (fun c h => ?_) c <;> (try rw [swapHalves_apply]) <;>
    exact kSlab_apply T F _ (by norm_num) _ r _ _ _ (by dsimp only; omega) (by dsimp only; omega)

/-- The tile's values of two groups. -/
theorem vSlab_apply (o : ℕ) (ho : o % 64 = 0) (hoff : S256x256.Slices ![0, o] S256x128) (r : Fin 256) (c : Fin 128) (g : Fin 4) (d : Fin 64)
    (hg : g.val = (o + c.val) / 64) (hd : d.val = c.val % 64) :
    extractStridedSlice S256x128 ![0, o] (vMat x0 x1 x2) hoff (ix2 r c) = L.val b (at256 l r) g d := by
  have hoc : o + 128 ≤ 256 := hoff.2 (1 : Fin 2)
  have e : extractStridedSlice S256x128 ![0, o] (vMat x0 x1 x2) hoff (ix2 r c) = vMat x0 x1 x2 (ix2 r (⟨o + c.val, by omega⟩ : Fin 256)) := by
    pointwise []
  rw [e]
  exact vMat_apply T r _ g d hg (by show d.val = (o + c.val) % 64; omega)

theorem vTops_apply (g : Fin 4) (r : Fin 256) (c : Fin 128) :
    vTops x0 x1 x2 g (ix3 (0 : Fin 1) r c) = if h : c.val < 64 then L.val b (at256 l r) g ⟨c.val, h⟩ else 0 := by
  fin_cases g <;> refine topSlab (fun c h => ?_) c <;> (try rw [swapHalves_apply]) <;>
    exact vSlab_apply T _ (by norm_num) _ r _ _ _ (by dsimp only; omega) (by dsimp only; omega)

theorem vBots_apply (g : Fin 4) (r : Fin 256) (c : Fin 128) :
    vBots x0 x1 x2 g (ix3 (0 : Fin 1) r c) = if h : c.val < 64 then 0 else L.val b (at256 l r) g ⟨c.val - 64, by omega⟩ := by
  fin_cases g <;> refine botSlab (fun c h => ?_) c <;> (try rw [swapHalves_apply]) <;>
    exact vSlab_apply T _ (by norm_num) _ r _ _ _ (by dsimp only; omega) (by dsimp only; omega)

include F in
theorem qSlab_apply (o : ℕ) (ho : o % 64 = 0) (hoff) (k : Fin 8) (r : Fin 256) (c : Fin 128) (n : Fin 32) (d : Fin 64)
    (hn : n.val = (256 * k.val + o + c.val) / 64) (hd : d.val = c.val % 64) :
    qSlab ![0, o] hoff x0 x7 (wqCols x8 k) x10 x4 x5 x6 (ix2 r c) = L.query b (at256 l r) n d * Ideal.ofBits .f32 0x3E000000#32 := by
  have hoc : o + 128 ≤ 256 := hoff.2 (1 : Fin 2)
  have he : IsReal (Ideal.ofBits .f32 0x3E000000#32) := by rw [ofBits_eighth]; exact IsReal.coe _
  have hq : ∀ c' : Fin 256, matmul (φ₂ := .bf16) dot_S256x1024_S1024x256_S256x256_1_0_0_1_n_n none
        (rowNorm (F := Ideal) (shapeCast S256x1024 x0 shapeCasts_S1x256x1024_S256x1024) (shapeCast S1x1024 x7 shapeCasts_S1x1024_S1x1024))
        (shapeCast S1024x256 (wqCols x8 k) shapeCasts_S1024x256_S1024x256) (constant S256x256 .f32 0x00000000#32) (ix2 r c')
        = proj (L.qRow b (at256 l r)) fun i => L.wq i ⟨256 * k.val + c'.val, by omega⟩ := by
    intro c'
    have e : matmul (φ₂ := .bf16) dot_S256x1024_S1024x256_S256x256_1_0_0_1_n_n none
        (rowNorm (F := Ideal) (shapeCast S256x1024 x0 shapeCasts_S1x256x1024_S256x1024) (shapeCast S1x1024 x7 shapeCasts_S1x1024_S1x1024))
        (shapeCast S1024x256 (wqCols x8 k) shapeCasts_S1024x256_S1024x256) (constant S256x256 .f32 0x00000000#32) (ix2 r c')
        = ∑ i : Fin 1024, (rowNorm (F := Ideal) (shapeCast S256x1024 x0 shapeCasts_S1x256x1024_S256x1024)
      (shapeCast S1x1024 x7 shapeCasts_S1x1024_S1x1024) (ix2 r i) * wqCols x8 k (ix2 i c') : EReal) := by
      pointwise []
    rw [e]
    refine Finset.sum_congr rfl fun i _ => ?_
    rw [rowNorm_apply]
    congr 1
    · unfold Layer.qRow
      congr 1
      · funext i; pointwise []; exact T.h r i
      · funext i; pointwise []; exact T.bn i
    · exact T.wq i _
  unfold Layer.query
  rw [← turn_eighth (F.cs _) (F.sn _) (fun _ => proj_real (F.qRow b _) fun _ => F.wq _ _) F.qn he]
  unfold qSlab
  generalize matmul (φ₂ := .bf16) dot_S256x1024_S1024x256_S256x256_1_0_0_1_n_n none
        (rowNorm (F := Ideal) (shapeCast S256x1024 x0 shapeCasts_S1x256x1024_S256x1024) (shapeCast S1x1024 x7 shapeCasts_S1x1024_S1x1024))
        (shapeCast S1024x256 (wqCols x8 k) shapeCasts_S1024x256_S1024x256) (constant S256x256 .f32 0x00000000#32) = X at hq ⊢
  pointwise []
  rw [ropeSlab_apply _ _ _ r c (L.cs (at256 l r)) (L.sn (at256 l r)) (by pointwise []; exact T.cs r c) (by pointwise []; exact T.sn r c)]
  congr 1
  · funext e
    have ho' : ∀ (X : FVec Ideal S256x256 .f32) (c' : Fin 128), extractStridedSlice S256x128 ![0, o] X hoff (ix2 r c')
        = X (ix2 r (⟨o + c'.val, by omega⟩ : Fin 256)) := by
      intro X c'; pointwise []
    rw [ho', headNorm_apply]
    · congr 1
      · funext e'
        rw [hq]
        congr 1; funext i; congr 1
        exact Fin.ext (by show 256 * k.val + (64 * ((o + (64 * (c.val / 64) + e.val)) / 64) + e'.val) = 64 * n.val + e'.val; omega)
      · funext e'
        pointwise []
        rw [T.qn]
        congr 2
        exact Fin.ext (by show (64 * ((o + (64 * (c.val / 64) + e.val)) / 64) + e'.val) % 64 = e'.val; omega)
      · exact Fin.ext (by show (o + (64 * (c.val / 64) + e.val)) % 64 = e.val; omega)
    · intro k; rw [hq]; exact proj_real (F.qRow b _) fun _ => F.wq _ _
    · intro k; pointwise []; exact T.bd k _
  · exact Fin.ext hd.symm

include F in
theorem qSlabs_apply (k : Fin 16) (r : Fin 256) (c : Fin 128) (n : Fin 32) (d : Fin 64)
    (hn : n.val = 2 * k.val + c.val / 64) (hd : d.val = c.val % 64) :
    qSlabs x0 x7 x8 x10 x4 x5 x6 k (ix2 r c) = L.query b (at256 l r) n d * Ideal.ofBits .f32 0x3E000000#32 := by
  unfold qSlabs
  split
  · exact qSlab_apply T F 0 (by norm_num) _ _ r c n d (by dsimp only; omega) hd
  · exact qSlab_apply T F 128 (by norm_num) _ _ r c n d (by dsimp only; omega) hd

theorem gateMat_apply (r : Fin 256) (c : Fin 2048) : gateMat x0 x7 x9 (ix2 r c) = L.gate b (at256 l r) c := by
  have e : gateMat x0 x7 x9 (ix2 r c) = ∑ k : Fin 1024, (rowNorm (F := Ideal) (shapeCast S256x1024 x0 shapeCasts_S1x256x1024_S256x1024)
      (shapeCast S1x1024 x7 shapeCasts_S1x1024_S1x1024) (ix2 r k) * x9 (ix2 k c) : EReal) := by
    pointwise [gateMat]
  rw [e]
  unfold Layer.gate proj
  refine Finset.sum_congr rfl fun k _ => ?_
  rw [rowNorm_apply]
  congr 1
  · unfold Layer.qRow
    congr 1
    · funext k; pointwise []; exact T.h r k
    · funext k; pointwise []; exact T.bn k
  · exact T.wg k c

theorem outMat_apply (og : Vec Ideal S256x2048 .bf16) (r : Fin 256) (c : Fin 1024) :
    outMat x0 og x12 (ix3 (0 : Fin 1) r c) = L.h b (at256 l r) c + ∑ j : Fin 2048, (og (ix2 r j) * L.wo j c : EReal) := by
  have e : outMat x0 og x12 (ix3 (0 : Fin 1) r c) = (∑ j : Fin 2048, (og (ix2 r j) * x12 (ix2 j c) : EReal)) + x0 (ix3 (0 : Fin 1) r c) := by
    pointwise [outMat]
  have e' : (∑ j : Fin 2048, (og (ix2 r j) * x12 (ix2 j c) : EReal)) = ∑ j : Fin 2048, (og (ix2 r j) * L.wo j c : EReal) :=
    Finset.sum_congr rfl fun j _ => congrArg (fun w : EReal => (og (ix2 r j) * w : EReal)) (T.wo j c)
  rw [e, e', T.h]
  exact add_comm _ _

include F in
theorem keyCache_apply (r : Fin 128) (c : Fin 256) (g : Fin 4) (d : Fin 64) (hg : g.val = c.val / 64) (hd : d.val = c.val % 64) :
    keyCache x0 x1 x2 x3 x4 x5 x6 (ix3 (0 : Fin 1) r c) = L.key b (at256 l ⟨128 + r.val, by omega⟩) g d := by
  by_cases h : c.val < 128
  · have e : keyCache x0 x1 x2 x3 x4 x5 x6 (ix3 (0 : Fin 1) r c) = kSlab ![0, 0] slices_S256x256_o0_0_S256x128 x0 x1 x2 x3 x4 x5 x6
        (ix2 (⟨128 + r.val, by omega⟩ : Fin 256) (⟨c.val, h⟩ : Fin 128)) := by
      pointwise [keyCache]
      rw [dif_pos h]
    rw [e]
    exact kSlab_apply T F 0 (by norm_num) _ _ _ g d (by dsimp only; omega) hd
  · have e : keyCache x0 x1 x2 x3 x4 x5 x6 (ix3 (0 : Fin 1) r c) = kSlab ![0, 128] slices_S256x256_o0_128_S256x128 x0 x1 x2 x3 x4 x5 x6
        (ix2 (⟨128 + r.val, by omega⟩ : Fin 256) (⟨c.val - 128, by omega⟩ : Fin 128)) := by
      pointwise [keyCache]
      rw [dif_neg h]
    rw [e]
    exact kSlab_apply T F 128 (by norm_num) _ _ _ g d (by dsimp only; omega) (by dsimp only; omega)

theorem valCache_apply (r : Fin 128) (c : Fin 256) (g : Fin 4) (d : Fin 64) (hg : g.val = c.val / 64) (hd : d.val = c.val % 64) :
    valCache x0 x1 x2 (ix3 (0 : Fin 1) r c) = L.val b (at256 l ⟨128 + r.val, by omega⟩) g d := by
  have e : valCache x0 x1 x2 (ix3 (0 : Fin 1) r c) = vMat x0 x1 x2 (ix2 (⟨128 + r.val, by omega⟩ : Fin 256) c) := by
    pointwise [valCache]
  rw [e]
  exact vMat_apply T _ c g d hg hd

end

end Cert.Swa
-- ==== Proof.Swa.Heads.lean ====
/-
  The attention of two heads over one window, at an index.
-/
module

public import proofs.«01_k».proof.Proof.Swa.Entries

@[expose] public section

set_option maxRecDepth 16384

noncomputable section

namespace Cert.Swa

open Idealize.ShloMosaic Cert.KernelIdeal Cert.KernelIdeal.Gen

/-- A sum over `2 m` places is the sum over the lower and the upper half. -/
theorem sum_halves (m n : ℕ) (hn : n = m + m) (f : Fin n → EReal) :
    ∑ x, f x = ∑ x : Fin m, f ⟨x.val, by omega⟩ + ∑ x : Fin m, f ⟨m + x.val, by omega⟩ := by
  subst hn
  exact Fin.sum_univ_add f

/-- The first head's scores stand in the lower 256 columns. -/
theorem pairScores_low {kA kB : Vec Ideal S1x256x128 .bf16} {K : Fin 256 → Fin 64 → EReal}
    (hA : ∀ n c, kA (ix3 (0 : Fin 1) n c) = if h : c.val < 64 then K n ⟨c.val, h⟩ else 0)
    (hB : ∀ n c, kB (ix3 (0 : Fin 1) n c) = if h : c.val < 64 then 0 else K n ⟨c.val - 64, by omega⟩)
    (q : Vec Ideal S128x128 .bf16) (a : Fin 128) (n : Fin 256) :
    pairScores kA kB q (ix2 a (⟨n.val, by omega⟩ : Fin 512)) = ∑ e : Fin 64, (q (ix2 a (⟨e.val, by omega⟩ : Fin 128)) * K n e : EReal) := by
  have e : pairScores kA kB q (ix2 a (⟨n.val, by omega⟩ : Fin 512)) = ∑ x : Fin 128, (q (ix2 a x) * kA (ix3 (0 : Fin 1) n x) : EReal) := by
    pointwise [pairScores, stack]
  rw [e, sum_halves 64 128 rfl]
  have z : ∑ x : Fin 64, (q (ix2 a (⟨64 + x.val, by omega⟩ : Fin 128)) * kA (ix3 (0 : Fin 1) n (⟨64 + x.val, by omega⟩ : Fin 128)) : EReal) = 0 :=
    Finset.sum_eq_zero fun x _ => by
      rw [hA, dif_neg (by dsimp only; omega)]; exact mul_zero _
  rw [z, add_zero]
  refine Finset.sum_congr rfl fun x _ => ?_
  rw [hA, dif_pos x.isLt]

/-- The second head's scores stand in the upper 256 columns. -/
theorem pairScores_high {kA kB : Vec Ideal S1x256x128 .bf16} {K : Fin 256 → Fin 64 → EReal}
    (hA : ∀ n c, kA (ix3 (0 : Fin 1) n c) = if h : c.val < 64 then K n ⟨c.val, h⟩ else 0)
    (hB : ∀ n c, kB (ix3 (0 : Fin 1) n c) = if h : c.val < 64 then 0 else K n ⟨c.val - 64, by omega⟩)
    (q : Vec Ideal S128x128 .bf16) (a : Fin 128) (n : Fin 256) :
    pairScores kA kB q (ix2 a (⟨256 + n.val, by omega⟩ : Fin 512)) = ∑ e : Fin 64, (q (ix2 a (⟨64 + e.val, by omega⟩ : Fin 128)) * K n e : EReal) := by
  have e : pairScores kA kB q (ix2 a (⟨256 + n.val, by omega⟩ : Fin 512)) = ∑ x : Fin 128, (q (ix2 a x) * kB (ix3 (0 : Fin 1) n x) : EReal) := by
    pointwise [pairScores, stack]
  rw [e, sum_halves 64 128 rfl]
  have z : ∑ x : Fin 64, (q (ix2 a (⟨x.val, by omega⟩ : Fin 128)) * kB (ix3 (0 : Fin 1) n (⟨x.val, by omega⟩ : Fin 128)) : EReal) = 0 :=
    Finset.sum_eq_zero fun x _ => by
      rw [hB, dif_pos x.isLt]; exact mul_zero _
  rw [z, zero_add]
  refine Finset.sum_congr rfl fun x _ => ?_
  rw [hB, dif_neg (by dsimp only; omega)]
  congr 2
  exact Fin.ext (Nat.add_sub_cancel_left _ _)

theorem pairScore_apply (off : ℕ) (hoff mk) (sc : FVec Ideal S128x512 .f32) (a : Fin 128) (n : Fin 256) (M : Fin 256 → Prop) [DecidablePred M]
    (hm : ∀ n, mk (ix2 a n) = if M n then 1#1 else 0#1) (ho : off + n.val < 512) :
    pairScore (F := Ideal) ![0, off] hoff mk sc (ix2 a n) = if M n then sc (ix2 a (⟨off + n.val, ho⟩ : Fin 512)) else ⊥ := by
  have e : pairScore (F := Ideal) ![0, off] hoff mk sc (ix2 a n) = Scalar.select (mk (ix2 a n)) (sc (ix2 a (⟨off + n.val, ho⟩ : Fin 512)))
      (Ideal.ofBits .f32 0xFF800000#32) := by
    pointwise [pairScore]
  rw [e, hm, pick, ofBits_neg_inf]

/-- One head: its weights times the values, times the reciprocal of the total weight. -/
theorem head_apply (s : FVec Ideal S128x256 .f32) (z : EReal) (a : Fin 128) (M : Fin 256 → Prop) [DecidablePred M] (t v : Fin 256 → EReal)
    (hs : ∀ n, s (ix2 a n) = masked M t n) (ht : ∀ n, M n → IsReal (t n)) (hv : ∀ n, M n → IsReal (v n)) (hz : IsReal z) :
    (∑ n, (pairExp (F := Ideal) s z (ix2 a n) * v n : EReal)) * pairInv (F := Ideal) s z (ix2 a (0 : Fin 1)) = attend M t v z := by
  have hp : pairPeak (F := Ideal) s z (ix2 a (0 : Fin 1)) = peak M t z := by
    pointwise [pairPeak]
    rw [ofBits_neg_inf]
    unfold peak
    congr 1
    congr 1
    funext n
    exact hs n
  have he : ∀ n, pairExp (F := Ideal) s z (ix2 a n) = Ideal.exp (masked M t n - peak M t z) := by
    intro n
    rw [← hs, ← hp]
    pointwise [pairExp]
  have hi : pairInv (F := Ideal) s z (ix2 a (0 : Fin 1))
      = Ideal.div 1 ((∑ n, Ideal.exp (masked M t n - peak M t z)) + Ideal.exp (z - peak M t z)) := by
    have e : pairInv (F := Ideal) s z (ix2 a (0 : Fin 1))
        = Ideal.div 1 ((∑ n, (pairExp (F := Ideal) s z (ix2 a n) : EReal)) + Ideal.exp (z - pairPeak (F := Ideal) s z (ix2 a (0 : Fin 1)))) := by
      pointwise [pairInv]
    rw [e, hp]
    exact congrArg (fun w : EReal => Ideal.div 1 (w + Ideal.exp (z - peak M t z))) (Finset.sum_congr rfl fun n _ => he n)
  rw [hi, ← attend_late ht hv hz]
  exact congrArg (fun w : EReal => w * Ideal.div 1 ((∑ n, Ideal.exp (masked M t n - peak M t z)) + Ideal.exp (z - peak M t z)))
    (Finset.sum_congr rfl fun n _ => by rw [he])

theorem silu128_apply (s : FVec Ideal S128x128 .f32) (a b : Fin 128) : silu128 (F := Ideal) s (ix2 a b) = silu (s (ix2 a b)) := by
  have e : silu128 (F := Ideal) s (ix2 a b) = s (ix2 a b) * Ideal.div 1 (1 + Ideal.exp (0 - s (ix2 a b))) := by
    pointwise [silu128]
  rw [e, zero_sub]
  rfl

/-- The gated attention of two heads over one window: the head of a lane attends to the window's columns within its mask. -/
theorem pairAtt_apply (mk : IVec S128x256 1) (kA kB vA vB : Vec Ideal S1x256x128 .bf16) (q : Vec Ideal S128x128 .bf16)
    (z0 z1 : EReal) (g : Vec Ideal S128x128 .f32) (a b : Fin 128) (K V : Fin 256 → Fin 64 → EReal)
    (hkA : ∀ n c, kA (ix3 (0 : Fin 1) n c) = if h : c.val < 64 then K n ⟨c.val, h⟩ else 0)
    (hkB : ∀ n c, kB (ix3 (0 : Fin 1) n c) = if h : c.val < 64 then 0 else K n ⟨c.val - 64, by omega⟩)
    (hvA : ∀ n c, vA (ix3 (0 : Fin 1) n c) = if h : c.val < 64 then V n ⟨c.val, h⟩ else 0)
    (hvB : ∀ n c, vB (ix3 (0 : Fin 1) n c) = if h : c.val < 64 then 0 else V n ⟨c.val - 64, by omega⟩)
    (M : Fin 256 → Prop) [DecidablePred M] (hm : ∀ n, mk (ix2 a n) = if M n then 1#1 else 0#1)
    (hq : ∀ c, IsReal (q (ix2 a c))) (hK : ∀ n e, IsReal (K n e)) (hV : ∀ n e, IsReal (V n e)) (hz0 : IsReal z0) (hz1 : IsReal z1) :
    pairAtt (F := Ideal) mk kA kB vA vB q z0 z1 g (ix2 a b)
      = attend M (fun n => ∑ e : Fin 64, (q (ix2 a (⟨64 * (b.val / 64) + e.val, by omega⟩ : Fin 128)) * K n e : EReal))
          (fun n => V n ⟨b.val % 64, Nat.mod_lt _ (by norm_num)⟩) (if b.val < 64 then z0 else z1) * silu (g (ix2 a b)) := by
  have h0 : ∀ n, pairScore (F := Ideal) ![0, 0] slices_S128x512_o0_0_S128x256 mk (pairScores kA kB q) (ix2 a n)
      = masked M (fun n => ∑ e : Fin 64, (q (ix2 a (⟨e.val, by omega⟩ : Fin 128)) * K n e : EReal)) n := by
    intro n
    rw [pairScore_apply 0 _ mk _ a n M hm (by omega)]
    unfold masked
    congr 1
    refine Eq.trans ?_ (pairScores_low hkA hkB q a n)
    congr 2
    exact Fin.ext (Nat.zero_add _)
  have h1 : ∀ n, pairScore (F := Ideal) ![0, 256] slices_S128x512_o0_256_S128x256 mk (pairScores kA kB q) (ix2 a n)
      = masked M (fun n => ∑ e : Fin 64, (q (ix2 a (⟨64 + e.val, by omega⟩ : Fin 128)) * K n e : EReal)) n := by
    intro n
    rw [pairScore_apply 256 _ mk _ a n M hm (by omega)]
    unfold masked
    congr 1
    exact pairScores_high hkA hkB q a n
  unfold pairAtt
  generalize pairScore (F := Ideal) ![0, 0] slices_S128x512_o0_0_S128x256 mk (pairScores kA kB q) = s0 at h0 ⊢
  generalize pairScore (F := Ideal) ![0, 256] slices_S128x512_o0_256_S128x256 mk (pairScores kA kB q) = s1 at h1 ⊢
  pointwise [stack]
  rw [low128_apply, pick, silu128_apply]
  refine congrArg (fun w : EReal => w * silu (g (ix2 a b))) ?_
  by_cases h : b.val < 64
  · have e1 : ∑ x : Fin 256, (pairExp (F := Ideal) s1 z1 (ix2 a x) * vB (ix3 (0 : Fin 1) x b) : EReal) = 0 :=
      Finset.sum_eq_zero fun x _ => by rw [hvB, dif_pos h]; exact mul_zero _
    have e0 : ∑ x : Fin 256, (pairExp (F := Ideal) s0 z0 (ix2 a x) * vA (ix3 (0 : Fin 1) x b) : EReal)
        = ∑ x : Fin 256, (pairExp (F := Ideal) s0 z0 (ix2 a x) * V x ⟨b.val % 64, Nat.mod_lt _ (by norm_num)⟩ : EReal) :=
      Finset.sum_congr rfl fun x _ => by
        rw [hvA, dif_pos h]; congr 2; exact Fin.ext (Nat.mod_eq_of_lt h).symm
    rw [if_pos h, if_pos h, e1, add_zero, e0, head_apply s0 z0 a M _ _ h0 (fun n _ => IsReal.sum _ fun e _ => (hq _).mul (hK n e)) (fun n _ => hV n _) hz0]
    congr 1
    funext n
    refine Finset.sum_congr rfl fun e _ => ?_
    congr 3
    exact Fin.ext (by show e.val = 64 * (b.val / 64) + e.val; omega)
  · have e0 : ∑ x : Fin 256, (pairExp (F := Ideal) s0 z0 (ix2 a x) * vA (ix3 (0 : Fin 1) x b) : EReal) = 0 :=
      Finset.sum_eq_zero fun x _ => by rw [hvA, dif_neg h]; exact mul_zero _
    have e1 : ∑ x : Fin 256, (pairExp (F := Ideal) s1 z1 (ix2 a x) * vB (ix3 (0 : Fin 1) x b) : EReal)
        = ∑ x : Fin 256, (pairExp (F := Ideal) s1 z1 (ix2 a x) * V x ⟨b.val % 64, Nat.mod_lt _ (by norm_num)⟩ : EReal) :=
      Finset.sum_congr rfl fun x _ => by
        rw [hvB, dif_neg h]; congr 2; exact Fin.ext (by show b.val - 64 = b.val % 64; omega)
    rw [if_neg h, if_neg h, e0, zero_add, e1, head_apply s1 z1 a M _ _ h1 (fun n _ => IsReal.sum _ fun e _ => (hq _).mul (hK n e)) (fun n _ => hV n _) hz1]
    congr 1
    funext n
    refine Finset.sum_congr rfl fun e _ => ?_
    congr 3
    exact Fin.ext (by show 64 + e.val = 64 * (b.val / 64) + e.val; omega)

end Cert.Swa
-- ==== Proof.Swa.Result.lean ====
/-
  The tile's result is the layer's: the group buffers hold the keys and values of the tile and of the 128 positions
  before it, and a window of them is what a row attends to.
-/
module

public import proofs.«01_k».proof.Proof.Swa.Rows
public import proofs.«01_k».proof.Proof.Swa.Heads

@[expose] public section

set_option maxRecDepth 16384

noncomputable section

namespace Cert.Swa

open Idealize.ShloMosaic Cert.KernelIdeal Cert.KernelIdeal.Gen

/-- The position of row `p` of a group buffer at tile `l`; the rows before the sequence hold position 0's number. -/
def bufPos (l : Fin 32) (p : Fin 384) : Fin 8192 := ⟨256 * l.val + p.val - 128, by omega⟩

/-- What row `p` of a group buffer holds at tile `l`: zero before the sequence. -/
def bufRow (K : Fin 8192 → Fin 4 → Fin 64 → EReal) (l : Fin 32) (p : Fin 384) (g : Fin 4) (d : Fin 64) : EReal :=
  if 128 ≤ 256 * l.val + p.val then K (bufPos l p) g d else 0

/-- A group buffer's rows below `n` hold the group in lanes 0 to 63. -/
def LowOk (K : Fin 8192 → Fin 4 → Fin 64 → EReal) (l : Fin 32) (n : ℕ) (B : Vec Ideal S4x384x128 .bf16) : Prop :=
  ∀ g p c, p.val < n → B (ix3 g p c) = if h : c.val < 64 then bufRow K l p g ⟨c.val, h⟩ else 0

/-- A group buffer's rows below `n` hold the group in lanes 64 to 127. -/
def HighOk (K : Fin 8192 → Fin 4 → Fin 64 → EReal) (l : Fin 32) (n : ℕ) (B : Vec Ideal S4x384x128 .bf16) : Prop :=
  ∀ g p c, p.val < n → B (ix3 g p c) = if h : c.val < 64 then 0 else bufRow K l p g ⟨c.val - 64, by omega⟩

section

variable {K : Fin 8192 → Fin 4 → Fin 64 → EReal} {l : Fin 32}

theorem bufRow_new (p : Fin 384) (hp : 128 ≤ p.val) (g : Fin 4) (d : Fin 64) :
    bufRow K l p g d = K (at256 l ⟨p.val - 128, by omega⟩) g d := by
  unfold bufRow
  rw [if_pos (by omega)]
  congr 1
  exact Fin.ext (by show 256 * l.val + p.val - 128 = 256 * l.val + (p.val - 128); omega)

theorem low_full {P : Fin 4 → Vec Ideal S1x256x128 .bf16} {base : Vec Ideal S4x384x128 .bf16} (hb : LowOk K l 128 base)
    (hP : ∀ g r c, P g (ix3 (0 : Fin 1) r c) = if h : c.val < 64 then K (at256 l r) g ⟨c.val, h⟩ else 0) : LowOk K l 384 (buf4 P base) := by
  intro g p c _
  by_cases h : 128 ≤ p.val
  · simp only [bufRow_new p h]
    exact (dif_pos h).trans (hP g _ c)
  · exact (dif_neg h).trans (hb g p c (by omega))

theorem high_full {P : Fin 4 → Vec Ideal S1x256x128 .bf16} {base : Vec Ideal S4x384x128 .bf16} (hb : HighOk K l 128 base)
    (hP : ∀ g r c, P g (ix3 (0 : Fin 1) r c) = if h : c.val < 64 then 0 else K (at256 l r) g ⟨c.val - 64, by omega⟩) : HighOk K l 384 (buf4 P base) := by
  intro g p c _
  by_cases h : 128 ≤ p.val
  · simp only [bufRow_new p h]
    exact (dif_pos h).trans (hP g _ c)
  · exact (dif_neg h).trans (hb g p c (by omega))

theorem bufRow_next (l' : Fin 32) (hl : l'.val = l.val + 1) (p : Fin 384) (hp : p.val < 128) (g : Fin 4) (d : Fin 64) :
    bufRow K l' p g d = bufRow K l ⟨p.val + 256, by omega⟩ g d := by
  unfold bufRow
  refine if_congr (by show _ ↔ 128 ≤ 256 * l.val + (p.val + 256); omega) ?_ rfl
  congr 1
  exact Fin.ext (by show 256 * l'.val + p.val - 128 = 256 * l.val + (p.val + 256) - 128; omega)

theorem low_carried {B : Vec Ideal S4x384x128 .bf16} (hB : LowOk K l 384 B) (l' : Fin 32) (hl : l'.val = l.val + 1) : LowOk K l' 128 (carried B) := by
  intro g p c hp
  simp only [bufRow_next l' hl p hp]
  exact (dif_pos hp).trans (hB g _ c (by show p.val + 256 < 384; omega))

theorem high_carried {B : Vec Ideal S4x384x128 .bf16} (hB : HighOk K l 384 B) (l' : Fin 32) (hl : l'.val = l.val + 1) : HighOk K l' 128 (carried B) := by
  intro g p c hp
  simp only [bufRow_next l' hl p hp]
  exact (dif_pos hp).trans (hB g _ c (by show p.val + 256 < 384; omega))

theorem bufRow_first (h0 : l.val = 0) (p : Fin 384) (hp : p.val < 128) (g : Fin 4) (d : Fin 64) : bufRow K l p g d = 0 :=
  if_neg (by omega)

theorem low_first (h0 : l.val = 0) {z : Vec Ideal S4x128x128 .bf16} (hz : ∀ i, z i = (0 : EReal)) : LowOk K l 128 (padRows z) := by
  intro g p c hp
  simp only [bufRow_first h0 p hp, dite_eq_ite, ite_self]
  exact hz _

theorem high_first (h0 : l.val = 0) {z : Vec Ideal S4x128x128 .bf16} (hz : ∀ i, z i = (0 : EReal)) : HighOk K l 128 (padRows z) := by
  intro g p c hp
  simp only [bufRow_first h0 p hp, dite_eq_ite, ite_self]
  exact hz _

theorem bufRow_real (hK : ∀ p g d, IsReal (K p g d)) (p : Fin 384) (g : Fin 4) (d : Fin 64) : IsReal (bufRow K l p g d) := by
  unfold bufRow
  split
  · exact hK _ _ _
  · exact IsReal.zero

end

section

variable {L : Layer} {b : Fin 4} {l : Fin 32} {x0 : Vec Ideal S1x256x1024 .f32} {x1 : Vec Ideal S1x1024 .f32} {x2 : Vec Ideal S1024x512 .bf16}
    {x3 : Vec Ideal S1x256 .f32} {x4 : Vec Ideal S256x256 .bf16} {x5 x6 : Vec Ideal S256x128 .f32} {x7 : Vec Ideal S1x1024 .f32}
    {x8 x9 : Vec Ideal S1024x2048 .bf16} {x10 : Vec Ideal S1x256 .f32} {x11 : Vec Ideal S32 .f32} {x12 : Vec Ideal S2048x1024 .bf16}
  (T : TileOf L b l x0 x1 x2 x3 x4 x5 x6 x7 x8 x9 x10 x11 x12) (F : L.Finite)
  {KT KB VT VB : Vec Ideal S4x384x128 .bf16} (hKT : LowOk (L.key b) l 384 KT) (hKB : HighOk (L.key b) l 384 KB)
  (hVT : LowOk (L.val b) l 384 VT) (hVB : HighOk (L.val b) l 384 VB)
include T F hKT hKB hVT hVB

theorem tileOg_apply (r : Fin 256) (j : Fin 2048) :
    tileOg (F := Ideal) (tileMask (BitVec.ofNat 32 l.val)) KT KB VT VB (buf16 (qSlabs x0 x7 x8 x10 x4 x5 x6)) (gateMat x0 x7 x9) x11 (ix2 r j)
      = L.att b (at256 l r) ⟨j.val / 64, by omega⟩ ⟨j.val % 64, Nat.mod_lt _ (by norm_num)⟩ * silu (L.gate b (at256 l r) j) := by
  have he : IsReal (Ideal.ofBits .f32 0x3E000000#32) := by rw [ofBits_eighth]; exact IsReal.coe _
  have hqq : ∀ c : Fin 128, win2 (buf16 (qSlabs x0 x7 x8 x10 x4 x5 x6)) ⟨r.val / 128, by omega⟩ ⟨j.val / 128, by omega⟩
      (ix2 (⟨r.val % 128, Nat.mod_lt _ (by norm_num)⟩ : Fin 128) c)
      = L.query b (at256 l r) ⟨2 * (j.val / 128) + c.val / 64, by omega⟩ ⟨c.val % 64, Nat.mod_lt _ (by norm_num)⟩ * Ideal.ofBits .f32 0x3E000000#32 := by
    intro c
    have er : (⟨128 * (r.val / 128) + r.val % 128, by omega⟩ : Fin 256) = r := Fin.ext (Nat.div_add_mod _ _)
    have h := qSlabs_apply T F ⟨(128 * (j.val / 128) + c.val) / 128, by omega⟩ (⟨128 * (r.val / 128) + r.val % 128, by omega⟩ : Fin 256)
      ⟨(128 * (j.val / 128) + c.val) % 128, Nat.mod_lt _ (by norm_num)⟩ ⟨2 * (j.val / 128) + c.val / 64, by omega⟩ ⟨c.val % 64, Nat.mod_lt _ (by norm_num)⟩
      (by dsimp only; omega) (by dsimp only; omega)
    rw [er] at h
    have e : win2 (buf16 (qSlabs x0 x7 x8 x10 x4 x5 x6)) ⟨r.val / 128, by omega⟩ ⟨j.val / 128, by omega⟩
        (ix2 (⟨r.val % 128, Nat.mod_lt _ (by norm_num)⟩ : Fin 128) c)
        = qSlabs x0 x7 x8 x10 x4 x5 x6 ⟨(128 * (j.val / 128) + c.val) / 128, by omega⟩ (ix2 (⟨128 * (r.val / 128) + r.val % 128, by omega⟩ : Fin 256)
          (⟨(128 * (j.val / 128) + c.val) % 128, Nat.mod_lt _ (by norm_num)⟩ : Fin 128)) := rfl
    rw [e, er, h]
  unfold tileOg tilePair
  refine (pairAtt_apply _ _ _ _ _ _ _ _ _ _ _
    (fun n e => bufRow (L.key b) l ⟨128 * (r.val / 128) + n.val, by omega⟩ ⟨j.val / 128 / 4, by omega⟩ e)
    (fun n e => bufRow (L.val b) l ⟨128 * (r.val / 128) + n.val, by omega⟩ ⟨j.val / 128 / 4, by omega⟩ e)
    (fun n c => hKT _ _ c (by show 128 * (r.val / 128) + n.val < 384; omega)) (fun n c => hKB _ _ c (by show 128 * (r.val / 128) + n.val < 384; omega))
    (fun n c => hVT _ _ c (by show 128 * (r.val / 128) + n.val < 384; omega)) (fun n c => hVB _ _ c (by show 128 * (r.val / 128) + n.val < 384; omega))
    (fun n => (r.val % 128 ≤ n.val ∧ n.val ≤ r.val % 128 + 128) ∧ 128 ≤ 256 * l.val + 128 * (r.val / 128) + n.val)
    (fun n => tileMask_apply l ⟨r.val / 128, by omega⟩ ⟨r.val % 128, Nat.mod_lt _ (by norm_num)⟩ n)
    (fun c => (congrArg IsReal (hqq c)).mpr ((F.query _ _ _ _).mul he))
    (fun n e => bufRow_real (F.key b) _ _ _) (fun n e => bufRow_real (F.val b) _ _ _)
    (by rw [T.zs]; exact F.zs _) (by rw [T.zs]; exact F.zs _)).trans ?_
  have hg : win2 (F := Ideal) (e := .f32) (gateMat x0 x7 x9) ⟨r.val / 128, by omega⟩ ⟨j.val / 128, by omega⟩
      (ix2 (⟨r.val % 128, Nat.mod_lt _ (by norm_num)⟩ : Fin 128) (⟨j.val % 128, Nat.mod_lt _ (by norm_num)⟩ : Fin 128)) = L.gate b (at256 l r) j := by
    rw [← gateMat_apply T r j]
    unfold win2
    congr 1
    congr 1
    · exact Fin.ext (Nat.div_add_mod _ _)
    · exact Fin.ext (Nat.div_add_mod _ _)
  have hz : (if j.val % 128 < 64 then x11 (ix1 (⟨2 * (j.val / 128), by omega⟩ : Fin 32)) else x11 (ix1 (⟨2 * (j.val / 128) + 1, by omega⟩ : Fin 32)))
      = L.zs ⟨j.val / 64, by omega⟩ := by
    rw [T.zs, T.zs]
    split
    · congr 1; exact Fin.ext (by show 2 * (j.val / 128) = j.val / 64; omega)
    · congr 1; exact Fin.ext (by show 2 * (j.val / 128) + 1 = j.val / 64; omega)
  refine congrArg₂ (fun u w : EReal => u * silu w) ?_ hg
  refine (congrArg (attend _ _ _) hz).trans ?_
  unfold Layer.att
  refine attend_congr (fun n => bufPos l ⟨128 * (r.val / 128) + n.val, by omega⟩) ?_ ?_ ?_ ?_ ?_
  · intro n hn
    show 256 * l.val + (128 * (r.val / 128) + n.val) - 128 ≤ 256 * l.val + r.val ∧ 256 * l.val + r.val ≤ 256 * l.val + (128 * (r.val / 128) + n.val) - 128 + 128
    omega
  · intro n n' hn hn' h
    have h' : 256 * l.val + (128 * (r.val / 128) + n.val) - 128 = 256 * l.val + (128 * (r.val / 128) + n'.val) - 128 := congrArg Fin.val h
    exact Fin.ext (by omega)
  · intro k hk
    have hk' : k.val ≤ 256 * l.val + r.val ∧ 256 * l.val + r.val ≤ k.val + 128 := hk
    refine ⟨⟨k.val + 128 - 256 * l.val - 128 * (r.val / 128), by omega⟩, ?_, Fin.ext ?_⟩
    · dsimp only
      omega
    · show 256 * l.val + (128 * (r.val / 128) + (k.val + 128 - 256 * l.val - 128 * (r.val / 128))) - 128 = k.val
      omega
  · intro n hn
    have hc : 128 ≤ 256 * l.val + (128 * (r.val / 128) + n.val) := by omega
    have hgp : (⟨j.val / 128 / 4, by omega⟩ : Fin 4) = ⟨j.val / 64 / 8, by omega⟩ := Fin.ext (by show j.val / 128 / 4 = j.val / 64 / 8; omega)
    rw [← sum_eighth (fun e => F.query b (at256 l r) _ e) (fun e => F.key b _ _ e) he]
    refine Finset.sum_congr rfl fun e _ => ?_
    rw [hqq]
    unfold bufRow
    rw [if_pos hc, hgp]
    congr 2
    congr 1
    · exact Fin.ext (by show 2 * (j.val / 128) + (64 * (j.val % 128 / 64) + e.val) / 64 = j.val / 64; omega)
    · exact Fin.ext (by show (64 * (j.val % 128 / 64) + e.val) % 64 = e.val; omega)
  · intro n hn
    have hc : 128 ≤ 256 * l.val + (128 * (r.val / 128) + n.val) := by omega
    have hgp : (⟨j.val / 128 / 4, by omega⟩ : Fin 4) = ⟨j.val / 64 / 8, by omega⟩ := Fin.ext (by show j.val / 128 / 4 = j.val / 64 / 8; omega)
    have hd : (⟨j.val % 128 % 64, by omega⟩ : Fin 64) = ⟨j.val % 64, by omega⟩ := Fin.ext (by show j.val % 128 % 64 = j.val % 64; omega)
    show bufRow (L.val b) l _ _ _ = _
    unfold bufRow
    rw [if_pos hc, hgp]
    exact congrArg _ hd

/-- The tile's result is the layer's at the tile's positions. -/
theorem tile_apply (r : Fin 256) (c : Fin 1024) :
    outMat (F := Ideal) x0 (tileOg (tileMask (BitVec.ofNat 32 l.val)) KT KB VT VB (buf16 (qSlabs x0 x7 x8 x10 x4 x5 x6)) (gateMat x0 x7 x9) x11) x12
      (ix3 (0 : Fin 1) r c) = L.out b (at256 l r) c := by
  rw [outMat_apply T]
  unfold Layer.out
  congr 1
  exact Finset.sum_congr rfl fun j _ => by rw [tileOg_apply T F hKT hKB hVT hVB]

end

section

variable {L : Layer} {b : Fin 4} {l : Fin 32} {x0 : Vec Ideal S1x256x1024 .f32} {x1 : Vec Ideal S1x1024 .f32} {x2 : Vec Ideal S1024x512 .bf16}
    {x3 : Vec Ideal S1x256 .f32} {x4 : Vec Ideal S256x256 .bf16} {x5 x6 : Vec Ideal S256x128 .f32} {x7 : Vec Ideal S1x1024 .f32}
    {x8 x9 : Vec Ideal S1024x2048 .bf16} {x10 : Vec Ideal S1x256 .f32} {x11 : Vec Ideal S32 .f32} {x12 : Vec Ideal S2048x1024 .bf16}
  (T : TileOf L b l x0 x1 x2 x3 x4 x5 x6 x7 x8 x9 x10 x11 x12) (F : L.Finite)
  {xs0 xs1 xs2 xs3 : Vec Ideal S4x384x128 .bf16} (h0 : LowOk (L.key b) l 128 xs0) (h1 : HighOk (L.key b) l 128 xs1)
  (h2 : LowOk (L.val b) l 128 xs2) (h3 : HighOk (L.val b) l 128 xs3)
include T F h0 h1 h2 h3

theorem tileOut_apply (r : Fin 256) (c : Fin 1024) :
    tileOut (BitVec.ofNat 32 l.val) x0 x1 x2 x3 x4 x5 x6 x7 x8 x9 x10 x11 x12 xs0 xs1 xs2 xs3 (ix3 (0 : Fin 1) r c) = L.out b (at256 l r) c :=
  tile_apply T F (low_full h0 (kTops_apply T F)) (high_full h1 (kBots_apply T F)) (low_full h2 (vTops_apply T)) (high_full h3 (vBots_apply T)) r c

end

end Cert.Swa
-- ==== Proof.Swa.Sweep.lean ====
/-
  The points of the sweep, one after the other: what each leaves in its output blocks and its group buffers.
-/
module

public import proofs.«01_k».proof.Proof.Gen.KernelIdeal.Value
public import proofs.«01_k».proof.Proof.Swa.CaseFirst
public import proofs.«01_k».proof.Proof.Swa.CaseMiddle
public import proofs.«01_k».proof.Proof.Swa.CaseLast
public import proofs.«01_k».proof.Proof.Swa.Result

@[expose] public section

set_option maxRecDepth 16384

noncomputable section

namespace Cert.Swa

open Idealize.ShloMosaic Cert.KernelIdeal Cert.KernelIdeal.Gen Cert.KernelIdeal.Value

theorem points : cfg0.N = 128 := N_0

/-- The sequence a point works on. -/
def seqOf (t : Fin cfg0.N) : Fin 4 := ⟨t.val / 32, by have := t.isLt; have := points; omega⟩
/-- The tile of it. -/
def tileNo (t : Fin cfg0.N) : Fin 32 := ⟨t.val % 32, Nat.mod_lt _ (by norm_num)⟩

theorem coords_tile : ∀ t : Fin grid0.N, ((grid0.coords t) 1).val = t.val % 32 := by decide +kernel

/-- The group buffers as a tile leaves them: the last 128 rows of what the tile held, moved to the top. -/
def Left (L : Layer) (b : Fin 4) (l : Fin 32) (s0 s1 s2 s3 : Vec Ideal S4x384x128 .bf16) : Prop :=
  ∃ B0 B1 B2 B3, LowOk (L.key b) l 384 B0 ∧ HighOk (L.key b) l 384 B1 ∧ LowOk (L.val b) l 384 B2 ∧ HighOk (L.val b) l 384 B3
    ∧ s0 = carried B0 ∧ s1 = carried B1 ∧ s2 = carried B2 ∧ s3 = carried B3

/-- What the tile before left is what this tile's buffers start from. -/
theorem Left.next {L : Layer} {b b' : Fin 4} {l l' : Fin 32} (hb : b' = b) (hl : l'.val = l.val + 1) {s0 s1 s2 s3 : Vec Ideal S4x384x128 .bf16}
    (h : Left L b l s0 s1 s2 s3) : LowOk (L.key b') l' 128 s0 ∧ HighOk (L.key b') l' 128 s1 ∧ LowOk (L.val b') l' 128 s2 ∧ HighOk (L.val b') l' 128 s3 := by
  subst hb
  obtain ⟨B0, B1, B2, B3, h0, h1, h2, h3, rfl, rfl, rfl, rfl⟩ := h
  exact ⟨low_carried h0 l' hl, high_carried h1 l' hl, low_carried h2 l' hl, high_carried h3 l' hl⟩

theorem zero1 : ∀ i, k0_pay1 (F := Ideal) i = (0 : EReal) := fun i => by
  obtain ⟨a, b, c, rfl⟩ : ∃ (a : Fin 4) (b : Fin 128) (c : Fin 128), i = ix3 a b c := ⟨i 0, i 1, i 2, by funext k; fin_cases k <;> rfl⟩
  pointwise [k0_pay1]
theorem zero2 : ∀ i, k0_pay2 (F := Ideal) i = (0 : EReal) := zero1
theorem zero3 : ∀ i, k0_pay3 (F := Ideal) i = (0 : EReal) := zero1
theorem zero4 : ∀ i, k0_pay4 (F := Ideal) i = (0 : EReal) := zero1

section

variable {F : FTy → Type} [FloatOps F] (m : (ℓ : Loc nD τ sig) → Buf (Elt F) ℓ) (c : Dev nD) (t : Fin cfg0.N)

/-- The point's result, from the group buffers' first 128 rows. -/
def outAt (s0 s1 s2 s3 : Vec F S4x384x128 .bf16) : Vec F S1x256x1024 .f32 :=
  tileOut (BitVec.ofNat 32 ((grid0.coords t) 1).val) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) s0 s1 s2 s3

/-- The four group buffers as the point reads them, from their first 128 rows. -/
def ktAt (s : Vec F S4x384x128 .bf16) : Vec F S4x384x128 .bf16 :=
  buf4 (kTops (iblk m c 0 t) (iblk m c 1 t) (iblk m c 2 t) (iblk m c 3 t) (iblk m c 4 t) (iblk m c 5 t) (iblk m c 6 t)) s
def kbAt (s : Vec F S4x384x128 .bf16) : Vec F S4x384x128 .bf16 :=
  buf4 (kBots (iblk m c 0 t) (iblk m c 1 t) (iblk m c 2 t) (iblk m c 3 t) (iblk m c 4 t) (iblk m c 5 t) (iblk m c 6 t)) s
def vtAt (s : Vec F S4x384x128 .bf16) : Vec F S4x384x128 .bf16 := buf4 (vTops (iblk m c 0 t) (iblk m c 1 t) (iblk m c 2 t)) s
def vbAt (s : Vec F S4x384x128 .bf16) : Vec F S4x384x128 .bf16 := buf4 (vBots (iblk m c 0 t) (iblk m c 1 t) (iblk m c 2 t)) s

/-- The point leaves the tile's result, and the group buffers moved on, when it finds them as `s0` to `s3`. -/
def Step (s0 s1 s2 s3 : Vec F S4x384x128 .bf16) : Prop :=
  (outsAt0 m c t.val t.isLt).1 = outAt m c t s0 s1 s2 s3
    ∧ (outsAt0 m c t.val t.isLt).2.2.2.1 = carried (ktAt m c t s0) ∧ (outsAt0 m c t.val t.isLt).2.2.2.2.1 = carried (kbAt m c t s1)
    ∧ (outsAt0 m c t.val t.isLt).2.2.2.2.2.1 = carried (vtAt m c t s2) ∧ (outsAt0 m c t.val t.isLt).2.2.2.2.2.2 = carried (vbAt m c t s3)

theorem step_first (h0 : t.val % 32 = 0) (h1 : ¬t.val % 32 = 31) :
    Step m c t (padRows (k0_pay1 (F := F))) (padRows (k0_pay2 (F := F))) (padRows (k0_pay3 (F := F))) (padRows (k0_pay4 (F := F))) := by
  unfold Step outAt ktAt kbAt vtAt vbAt
  rw [outsAt0_A m c t h0 h1]
  dsimp only
  exact ⟨out_first .., ktop_first .., kbot_first .., vtop_first .., vbot_first ..⟩

theorem step_middle (h0 : ¬t.val % 32 = 0) (h1 : ¬t.val % 32 = 31) :
    Step m c t (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2 := by
  unfold Step outAt ktAt kbAt vtAt vbAt
  rw [outsAt0_B m c t h0 h1]
  dsimp only
  exact ⟨out_middle .., ktop_middle .., kbot_middle .., vtop_middle .., vbot_middle ..⟩

theorem step_last (h0 : ¬t.val % 32 = 0) (h1 : t.val % 32 = 31) :
    Step m c t (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2 := by
  unfold Step outAt ktAt kbAt vtAt vbAt
  rw [outsAt0_C m c t h0 h1]
  dsimp only
  exact ⟨out_last .., ktop_last .., kbot_last .., vtop_last .., vbot_last ..⟩

theorem caches_last (h0 : ¬t.val % 32 = 0) (h1 : t.val % 32 = 31) :
    (outsAt0 m c t.val t.isLt).2.1 = keyCache (iblk m c 0 t) (iblk m c 1 t) (iblk m c 2 t) (iblk m c 3 t) (iblk m c 4 t) (iblk m c 5 t) (iblk m c 6 t)
    ∧ (outsAt0 m c t.val t.isLt).2.2.1 = valCache (iblk m c 0 t) (iblk m c 1 t) (iblk m c 2 t) := by
  rw [outsAt0_C m c t h0 h1]
  dsimp only
  exact ⟨kcache_last .., vcache_last ..⟩

end

variable (m : (ℓ : Loc nD τ sig) → Buf (Elt Ideal) ℓ) (c : Dev nD) {L : Layer} (F : L.Finite)
  (T : ∀ t : Fin cfg0.N, TileOf L (seqOf t) (tileNo t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t))

/-- What a point leaves. -/
def Done (m : (ℓ : Loc nD τ sig) → Buf (Elt Ideal) ℓ) (c : Dev nD) (L : Layer) (t : Fin cfg0.N) : Prop :=
  (∀ r k, ((outsAt0 m c t.val t.isLt).1 : Vec Ideal S1x256x1024 .f32) (ix3 (0 : Fin 1) r k) = L.out (seqOf t) (at256 (tileNo t) r) k)
    ∧ Left L (seqOf t) (tileNo t) (outsAt0 m c t.val t.isLt).2.2.2.1 (outsAt0 m c t.val t.isLt).2.2.2.2.1
      (outsAt0 m c t.val t.isLt).2.2.2.2.2.1 (outsAt0 m c t.val t.isLt).2.2.2.2.2.2

include T F

/-- A point that finds the last 128 positions in its group buffers leaves the layer's result and its own last 128. -/
theorem done_step (t : Fin cfg0.N) {s0 s1 s2 s3 : Vec Ideal S4x384x128 .bf16} (S : Step m c t s0 s1 s2 s3)
    (b0 : LowOk (L.key (seqOf t)) (tileNo t) 128 s0) (b1 : HighOk (L.key (seqOf t)) (tileNo t) 128 s1)
    (b2 : LowOk (L.val (seqOf t)) (tileNo t) 128 s2) (b3 : HighOk (L.val (seqOf t)) (tileNo t) 128 s3) : Done m c L t := by
  obtain ⟨e, e0, e1, e2, e3⟩ := S
  refine ⟨fun r k => ?_, _, _, _, _, low_full b0 (kTops_apply (T t) F), high_full b1 (kBots_apply (T t) F), low_full b2 (vTops_apply (T t)),
    high_full b3 (vBots_apply (T t)), e0, e1, e2, e3⟩
  rw [e]
  unfold outAt
  rw [coords_tile]
  exact tileOut_apply (T t) F b0 b1 b2 b3 r k

theorem done_first (t : Fin cfg0.N) (h0 : t.val % 32 = 0) (h1 : ¬t.val % 32 = 31) : Done m c L t :=
  have hl : (tileNo t).val = 0 := h0
  done_step m c F T t (step_first m c t h0 h1) (low_first hl zero1) (high_first hl zero2) (low_first hl zero3) (high_first hl zero4)

theorem done_next (t t' : Fin cfg0.N) (ht : t'.val = t.val - 1) (h0 : ¬t.val % 32 = 0) (D : Done m c L t') : Done m c L t := by
  obtain rfl : t' = ⟨t.val - 1, Nat.lt_of_le_of_lt (Nat.sub_le _ _) t.isLt⟩ := Fin.ext ht
  obtain ⟨b0, b1, b2, b3⟩ := Left.next (b' := seqOf t) (l' := tileNo t) (Fin.ext (by show t.val / 32 = (t.val - 1) / 32; omega))
    (by show t.val % 32 = (t.val - 1) % 32 + 1; omega) D.2
  by_cases h1 : t.val % 32 = 31
  · exact done_step m c F T t (step_last m c t h0 h1) b0 b1 b2 b3
  · exact done_step m c F T t (step_middle m c t h0 h1) b0 b1 b2 b3

/-- Every point leaves the layer's result in its block and the last 128 keys and values in its buffers. -/
theorem done_all : ∀ (n : ℕ) (hn : n < cfg0.N), Done m c L ⟨n, hn⟩ := by
  intro n
  induction n with
  | zero => exact fun hn => done_first m c F T ⟨0, hn⟩ (by norm_num) (by norm_num)
  | succ n ih =>
    intro hn
    by_cases h0 : (n + 1) % 32 = 0
    · exact done_first m c F T ⟨n + 1, hn⟩ h0 (by show ¬(n + 1) % 32 = 31; omega)
    · exact done_next m c F T ⟨n + 1, hn⟩ ⟨n, by omega⟩ rfl h0 (ih _)

/-- The first output is the layer's result. -/
theorem final_out (i0 : Fin 4) (i1 : Fin 8192) (i2 : Fin 1024) : G13 (F := Ideal) m c (ix3 i0 i1 i2) = L.out i0 i1 i2 := by
  have hp : pt13Of (ix3 i0 i1 i2) = 32 * i0.val + i1.val / 256 := by
    show 32 * (i0.val / 1 - 0) + 1 * (i1.val / 256 - 0) + 1 * (i2.val / 1024 - 0) = _
    omega
  have hlt : 32 * i0.val + i1.val / 256 < cfg0.N := by have := points; omega
  have hlt' : pt13Of (ix3 i0 i1 i2) < cfg0.N := by rw [hp]; exact hlt
  unfold G13
  rw [dif_pos hlt', fold0_congr m c _ _ _ (by rw [Nat.zero_add]; exact hlt) hp, ← outsAt0_sweep m c _ hlt]
  have hloc : loc13Of (ix3 i0 i1 i2) = ix3 (0 : Fin 1) (⟨i1.val % 256, Nat.mod_lt _ (by norm_num)⟩ : Fin 256) i2 := by
    funext a
    fin_cases a
    · exact Fin.ext (Nat.mod_one _)
    · rfl
    · exact Fin.ext (Nat.mod_eq_of_lt i2.isLt)
  rw [hloc]
  refine ((done_all m c F T _ hlt).1 _ _).trans ?_
  congr 1
  · exact Fin.ext (by show (32 * i0.val + i1.val / 256) / 32 = i0.val; omega)
  · exact Fin.ext (by show 256 * ((32 * i0.val + i1.val / 256) % 32) + i1.val % 256 = i1.val; omega)

theorem final_keys (i0 : Fin 4) (i1 : Fin 128) (i2 : Fin 256) (g : Fin 4) (d : Fin 64) (hg : g.val = i2.val / 64) (hd : d.val = i2.val % 64) :
    G14 (F := Ideal) m c (ix3 i0 i1 i2) = L.key i0 ⟨8064 + i1.val, by omega⟩ g d := by
  have hp : pt14Of (ix3 i0 i1 i2) = 32 * i0.val + 31 := by
    show 32 * (1 * (i0.val / 1 - 0) + 1 * (i1.val / 128 - 0) + 1 * (i2.val / 256 - 0)) + 31 = _
    omega
  have hlt : 32 * i0.val + 31 < cfg0.N := by have := points; omega
  have hlt' : pt14Of (ix3 i0 i1 i2) < cfg0.N := by rw [hp]; exact hlt
  unfold G14
  rw [dif_pos hlt', fold0_congr m c _ _ _ (by rw [Nat.zero_add]; exact hlt) hp, ← outsAt0_sweep m c _ hlt]
  have hloc : loc14Of (ix3 i0 i1 i2) = ix3 (0 : Fin 1) i1 i2 := by
    funext a
    fin_cases a
    · exact Fin.ext (Nat.mod_one _)
    · exact Fin.ext (Nat.mod_eq_of_lt i1.isLt)
    · exact Fin.ext (Nat.mod_eq_of_lt i2.isLt)
  rw [hloc, (caches_last m c ⟨32 * i0.val + 31, hlt⟩ (by show ¬(32 * i0.val + 31) % 32 = 0; omega)
    (by show (32 * i0.val + 31) % 32 = 31; omega)).1, keyCache_apply (T _) F i1 i2 g d hg hd]
  congr 1
  · exact Fin.ext (by show (32 * i0.val + 31) / 32 = i0.val; omega)
  · exact Fin.ext (by show 256 * ((32 * i0.val + 31) % 32) + (128 + i1.val) = 8064 + i1.val; omega)

theorem final_vals (i0 : Fin 4) (i1 : Fin 128) (i2 : Fin 256) (g : Fin 4) (d : Fin 64) (hg : g.val = i2.val / 64) (hd : d.val = i2.val % 64) :
    G15 (F := Ideal) m c (ix3 i0 i1 i2) = L.val i0 ⟨8064 + i1.val, by omega⟩ g d := by
  have hp : pt15Of (ix3 i0 i1 i2) = 32 * i0.val + 31 := by
    show 32 * (1 * (i0.val / 1 - 0) + 1 * (i1.val / 128 - 0) + 1 * (i2.val / 256 - 0)) + 31 = _
    omega
  have hlt : 32 * i0.val + 31 < cfg0.N := by have := points; omega
  have hlt' : pt15Of (ix3 i0 i1 i2) < cfg0.N := by rw [hp]; exact hlt
  unfold G15
  rw [dif_pos hlt', fold0_congr m c _ _ _ (by rw [Nat.zero_add]; exact hlt) hp, ← outsAt0_sweep m c _ hlt]
  have hloc : loc15Of (ix3 i0 i1 i2) = ix3 (0 : Fin 1) i1 i2 := by
    funext a
    fin_cases a
    · exact Fin.ext (Nat.mod_one _)
    · exact Fin.ext (Nat.mod_eq_of_lt i1.isLt)
    · exact Fin.ext (Nat.mod_eq_of_lt i2.isLt)
  rw [hloc, (caches_last m c ⟨32 * i0.val + 31, hlt⟩ (by show ¬(32 * i0.val + 31) % 32 = 0; omega)
    (by show (32 * i0.val + 31) % 32 = 31; omega)).2, valCache_apply (T _) i1 i2 g d hg hd]
  congr 1
  · exact Fin.ext (by show (32 * i0.val + 31) / 32 = i0.val; omega)
  · exact Fin.ext (by show 256 * ((32 * i0.val + 31) % 32) + (128 + i1.val) = 8064 + i1.val; omega)

end Cert.Swa
-- ==== Proof.Swa.Inputs.lean ====
/-
  The tile operands are the layer's inputs: the blocks the windows read, entry by entry.
-/
module

public import proofs.«01_k».proof.Proof.Swa.Host
public import proofs.«01_k».proof.Proof.Swa.Sweep

@[expose] public section

set_option maxRecDepth 16384

noncomputable section

namespace Cert.Swa

open Idealize.ShloMosaic Idealize.ShloMosaic.TcCoe Cert.KernelIdeal Cert.KernelIdeal.Gen

/-- The layer's inputs, read off the program's arguments. -/
def layerOf (a0 : Vec Ideal S4x8192x1024 .f32) (a1 : Vec Ideal S1024 .f32) (a2 a3 : Vec Ideal S1024x256 .f32) (a4 : Vec Ideal S64 .f32)
    (a5 : Vec Ideal S1x1024 .f32) (a6 : Vec Ideal S1x1024x4096 .f32) (a7 : Vec Ideal S1x64 .f32) (a8 : Vec Ideal S1x32 .f32)
    (a9 : Vec Ideal S1x2048x1024 .f32) : Layer where
  h b p k := a0 (ix3 b p k)
  kvn k := a1 (ix1 k)
  bn k := a5 (ix2 (0 : Fin 1) k)
  wk k c := a2 (ix2 k c)
  wv k c := a3 (ix2 k c)
  wq k c := a6 (ix3 (0 : Fin 1) k (⟨c.val, by omega⟩ : Fin 4096))
  wg k c := a6 (ix3 (0 : Fin 1) k (⟨2048 + c.val, by omega⟩ : Fin 4096))
  kn d := a4 (ix1 d)
  qn d := a7 (ix2 (0 : Fin 1) d)
  zs n := a8 (ix2 (0 : Fin 1) n)
  wo j c := a9 (ix3 (0 : Fin 1) j c)
  cs p d := Host.cos (angles (F := Ideal)) (ix2 p d)
  sn p d := Host.sin (angles (F := Ideal)) (ix2 p d)

theorem laneGroup_apply : ∀ k : Fin 256, (laneGroup (ix1 k) : BitVec 32) = BitVec.ofNat 32 (k.val / 64) := by decide +kernel

theorem fourHeads_apply (w : Vec Ideal S1x64 .f32) (c : Fin 256) :
    fourHeads w (ix2 (0 : Fin 1) c) = w (ix2 (0 : Fin 1) (⟨c.val % 64, Nat.mod_lt _ (by norm_num)⟩ : Fin 64)) := by
  pointwise [fourHeads]

theorem laneGroup_eq (k c : Fin 256) : (laneGroup (ix1 k) : BitVec 32) = laneGroup (ix1 c) ↔ k.val / 64 = c.val / 64 := by
  rw [laneGroup_apply, laneGroup_apply]
  constructor
  · intro h
    have h' := congrArg BitVec.toNat h
    simp only [BitVec.toNat_ofNat] at h'
    omega
  · intro h
    rw [h]

theorem eq_eq (x y : BitVec 32) : IntOp.cmpi .eq x y = if x = y then 1#1 else 0#1 := by
  show BitVec.ofBool (x == y) = _
  by_cases h : x = y
  · rw [if_pos h, h, beq_self_eq_true]; rfl
  · rw [if_neg h, beq_eq_false_iff_ne.mpr h]; rfl

theorem sameHead_apply (k c : Fin 256) : (sameHead (F := Ideal) (ix2 k c) : EReal) = if k.val / 64 = c.val / 64 then (1 : EReal) else 0 := by
  have e : (sameHead (F := Ideal) (ix2 k c) : EReal) = FloatOps.uitofp (F := Ideal) .bf16 (IntOp.cmpi .eq (laneGroup (ix1 k)) (laneGroup (ix1 c))) := by
    unfold sameHead
    generalize laneGroup = g
    pointwise []
  rw [e]
  by_cases h : k.val / 64 = c.val / 64
  · rw [if_pos h, (laneGroup_eq k c).mpr h, eq_eq, if_pos rfl]
    show (((1#1).toNat : ℝ) : EReal) = 1
    norm_num
  · rw [if_neg h, eq_eq, if_neg (fun e => h ((laneGroup_eq k c).mp e))]
    show (((0#1).toNat : ℝ) : EReal) = 0
    norm_num

theorem fourWide_apply (a b x y : Vec Ideal S8192x32 .f32) (p : Fin 8192) (c : Fin 128) :
    fourWide a b x y (ix2 p c) = if c.val / 32 = 0 then a (ix2 p (⟨c.val % 32, Nat.mod_lt _ (by norm_num)⟩ : Fin 32))
      else if c.val / 32 = 1 then b (ix2 p (⟨c.val % 32, Nat.mod_lt _ (by norm_num)⟩ : Fin 32))
      else if c.val / 32 = 2 then x (ix2 p (⟨c.val % 32, Nat.mod_lt _ (by norm_num)⟩ : Fin 32))
      else y (ix2 p (⟨c.val % 32, Nat.mod_lt _ (by norm_num)⟩ : Fin 32)) := by
  pointwise [fourWide]
  have hc := c.isLt
  by_cases h0 : c.val < 32
  · rw [dif_pos h0, if_pos (show c.val / 32 = 0 by omega)]
    exact congrArg (fun d => a (ix2 p d)) (Fin.ext (by show c.val = c.val % 32; omega))
  rw [dif_neg h0, if_neg (show ¬ c.val / 32 = 0 by omega)]
  by_cases h1 : c.val - 32 < 32
  · rw [dif_pos h1, if_pos (show c.val / 32 = 1 by omega)]
    exact congrArg (fun d => b (ix2 p d)) (Fin.ext (by show c.val - 32 = c.val % 32; omega))
  rw [dif_neg h1, if_neg (show ¬ c.val / 32 = 1 by omega)]
  by_cases h2 : c.val - 32 - 32 < 32
  · rw [dif_pos h2, if_pos (show c.val / 32 = 2 by omega)]
    exact congrArg (fun d => x (ix2 p d)) (Fin.ext (by show c.val - 32 - 32 = c.val % 32; omega))
  · rw [dif_neg h2, if_neg (show ¬ c.val / 32 = 2 by omega)]
    exact congrArg (fun d => y (ix2 p d)) (Fin.ext (by show c.val - 32 - 32 - 32 = c.val % 32; omega))

theorem wq_apply (A : Vec Ideal S1x1024x4096 .f32) (k : Fin 1024) (c : Fin 2048) :
    truncf (F := Ideal) .bf16 (extractStridedSlice S1024x2048 ![0, 0] (shapeCast S1024x4096 A shapeCasts_S1x1024x4096_S1024x4096)
      slices_S1024x4096_S1024x2048_0_0) bitsLt_bf16_f32 (ix2 k c) = A (ix3 (0 : Fin 1) k (⟨c.val, by omega⟩ : Fin 4096)) := by
  pointwise []

theorem wg_apply (A : Vec Ideal S1x1024x4096 .f32) (k : Fin 1024) (c : Fin 2048) :
    truncf (F := Ideal) .bf16 (extractStridedSlice S1024x2048 ![0, 2048] (shapeCast S1024x4096 A shapeCasts_S1x1024x4096_S1024x4096)
      slices_S1024x4096_S1024x2048_0_2048) bitsLt_bf16_f32 (ix2 k c) = A (ix3 (0 : Fin 1) k (⟨2048 + c.val, by omega⟩ : Fin 4096)) := by
  pointwise []

theorem wo_apply (A : Vec Ideal S1x2048x1024 .f32) (j : Fin 2048) (c : Fin 1024) :
    truncf (F := Ideal) .bf16 (shapeCast S2048x1024 A shapeCasts_S1x2048x1024_S2048x1024) bitsLt_bf16_f32 (ix2 j c)
      = A (ix3 (0 : Fin 1) j c) := by
  pointwise []

theorem block_h : ∀ t : Fin cfg0.N, win0_0.index t 0 = t.val / 32 ∧ win0_0.index t 1 = t.val % 32 ∧ win0_0.index t 2 = 0 := by decide +kernel
theorem block_cs : ∀ t : Fin cfg0.N, win0_5.index t 0 = t.val % 32 ∧ win0_5.index t 1 = 0 := by decide +kernel
theorem block_sn : ∀ t : Fin cfg0.N, win0_6.index t 0 = t.val % 32 ∧ win0_6.index t 1 = 0 := by decide +kernel

section

variable (m : (ℓ : Loc nD τ sig) → Buf (Elt Ideal) ℓ) (c : Dev nD) (t : Fin cfg0.N)

theorem read_h (r : Fin 256) (k : Fin 1024) : iblk m c 0 t (ix3 (0 : Fin 1) r k) = V m c main_arg0 (ix3 (seqOf t) (at256 (tileNo t) r) k) := by
  obtain ⟨h0, h1, h2⟩ := block_h t
  unfold iblk
  rw [View.read_apply]
  show V m c main_arg0 _ = V m c main_arg0 _
  generalize V m c main_arg0 = A
  congr 1
  funext a
  apply Fin.ext
  match a with
  | ⟨0, _⟩ => show win0_0.index t 0 * 1 + 1 * 0 = t.val / 32; rw [h0]; omega
  | ⟨1, _⟩ => show win0_0.index t 1 * 256 + 1 * r.val = 256 * (t.val % 32) + r.val; rw [h1]; omega
  | ⟨2, _⟩ => show win0_0.index t 2 * 1024 + 1 * k.val = k.val; rw [h2]; omega

theorem read_cs (r : Fin 256) (k : Fin 128) : iblk m c 5 t (ix2 r k) = V m c main_v46 (ix2 (at256 (tileNo t) r) k) := by
  obtain ⟨h0, h1⟩ := block_cs t
  unfold iblk
  rw [View.read_apply]
  show V m c main_v46 _ = V m c main_v46 _
  generalize V m c main_v46 = A
  congr 1
  funext a
  apply Fin.ext
  match a with
  | ⟨0, _⟩ => show win0_5.index t 0 * 256 + 1 * r.val = 256 * (t.val % 32) + r.val; rw [h0]; omega
  | ⟨1, _⟩ => show win0_5.index t 1 * 128 + 1 * k.val = k.val; rw [h1]; omega

theorem read_sn (r : Fin 256) (k : Fin 128) : iblk m c 6 t (ix2 r k) = V m c main_v49 (ix2 (at256 (tileNo t) r) k) := by
  obtain ⟨h0, h1⟩ := block_sn t
  unfold iblk
  rw [View.read_apply]
  show V m c main_v49 _ = V m c main_v49 _
  generalize V m c main_v49 = A
  congr 1
  funext a
  apply Fin.ext
  match a with
  | ⟨0, _⟩ => show win0_6.index t 0 * 256 + 1 * r.val = 256 * (t.val % 32) + r.val; rw [h0]; omega
  | ⟨1, _⟩ => show win0_6.index t 1 * 128 + 1 * k.val = k.val; rw [h1]; omega

/-- An entry of a block that is the whole array. -/
theorem same_entry {s : Shape} {α : Type} (X : s.Idx → α) (x y : s.Idx) (h : ∀ a, (y a).val = 0 * s.size a + 1 * (x a).val) : X y = X x :=
  congrArg X (funext fun a => Fin.ext (by rw [h a]; omega))

theorem read_kvn : iblk m c 1 t = V m c main_v10 :=
  funext fun x => same_entry (s := S1x1024) (V m c main_v10) x _ fun a => by fin_cases a <;> rfl
theorem read_wkv : iblk m c 2 t = V m c main_v1 :=
  funext fun x => same_entry (s := S1024x512) (V m c main_v1) x _ fun a => by fin_cases a <;> rfl
theorem read_kn : iblk m c 3 t = V m c main_v16 :=
  funext fun x => same_entry (s := S1x256) (V m c main_v16) x _ fun a => by fin_cases a <;> rfl
theorem read_bd : iblk m c 4 t = V m c main_v30 :=
  funext fun x => same_entry (s := S256x256) (V m c main_v30) x _ fun a => by fin_cases a <;> rfl
theorem read_bn : iblk m c 7 t = V m c main_v12 :=
  funext fun x => same_entry (s := S1x1024) (V m c main_v12) x _ fun a => by fin_cases a <;> rfl
theorem read_wq : iblk m c 8 t = V m c main_v4 :=
  funext fun x => same_entry (s := S1024x2048) (V m c main_v4) x _ fun a => by fin_cases a <;> rfl
theorem read_wg : iblk m c 9 t = V m c main_v7 :=
  funext fun x => same_entry (s := S1024x2048) (V m c main_v7) x _ fun a => by fin_cases a <;> rfl
theorem read_qn : iblk m c 10 t = V m c main_v21 :=
  funext fun x => same_entry (s := S1x256) (V m c main_v21) x _ fun a => by fin_cases a <;> rfl
theorem read_zs : iblk m c 11 t = V m c main_v22 :=
  funext fun x => same_entry (s := S32) (V m c main_v22) x _ fun a => by fin_cases a <;> rfl
theorem read_wo : iblk m c 12 t = V m c main_v9 :=
  funext fun x => same_entry (s := S2048x1024) (V m c main_v9) x _ fun a => by fin_cases a <;> rfl

/-- The layer of the arguments a run starts from. -/
def layerAt : Layer :=
  layerOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem tile_h (r : Fin 256) (k : Fin 1024) : iblk m c 0 t (ix3 (0 : Fin 1) r k) = (layerAt m c).h (seqOf t) (at256 (tileNo t) r) k :=
  (read_h m c t r k).trans (by rw [V_main_arg0]; rfl)

theorem tile_kvn (k : Fin 1024) : iblk m c 1 t (ix2 (0 : Fin 1) k) = (layerAt m c).kvn k := by
  rw [read_kvn, in_kvn]
  show _ = (m ((c : Thread nD τ).loc main_arg1) : Vec Ideal S1024 .f32) (ix1 k)
  generalize (m ((c : Thread nD τ).loc main_arg1) : Vec Ideal S1024 .f32) = A
  pointwise []

theorem tile_wk (k : Fin 1024) (c' : Fin 256) : iblk m c 2 t (ix2 k (⟨c'.val, by omega⟩ : Fin 512)) = (layerAt m c).wk k c' := by
  rw [read_wkv, in_wkv]
  show _ = (m ((c : Thread nD τ).loc main_arg2) : Vec Ideal S1024x256 .f32) (ix2 k c')
  generalize (m ((c : Thread nD τ).loc main_arg2) : Vec Ideal S1024x256 .f32) = A
  generalize (m ((c : Thread nD τ).loc main_arg3) : Vec Ideal S1024x256 .f32) = B
  have hc := c'.isLt
  pointwise []

theorem tile_wv (k : Fin 1024) (c' : Fin 256) : iblk m c 2 t (ix2 k (⟨256 + c'.val, by omega⟩ : Fin 512)) = (layerAt m c).wv k c' := by
  rw [read_wkv, in_wkv]
  show _ = (m ((c : Thread nD τ).loc main_arg3) : Vec Ideal S1024x256 .f32) (ix2 k c')
  generalize (m ((c : Thread nD τ).loc main_arg2) : Vec Ideal S1024x256 .f32) = A
  generalize (m ((c : Thread nD τ).loc main_arg3) : Vec Ideal S1024x256 .f32) = B
  pointwise []

theorem tile_kn (c' : Fin 256) : iblk m c 3 t (ix2 (0 : Fin 1) c') = (layerAt m c).kn ⟨c'.val % 64, Nat.mod_lt _ (by norm_num)⟩ := by
  rw [read_kn, in_kn, fourHeads_apply]
  show _ = (m ((c : Thread nD τ).loc main_arg4) : Vec Ideal S64 .f32) (ix1 _)
  generalize (m ((c : Thread nD τ).loc main_arg4) : Vec Ideal S64 .f32) = A
  pointwise []

theorem tile_bd (k c' : Fin 256) : iblk m c 4 t (ix2 k c') = if k.val / 64 = c'.val / 64 then (1 : EReal) else 0 := by
  rw [read_bd, in_bd]
  exact sameHead_apply k c'

theorem tile_cs (r : Fin 256) (c' : Fin 128) : iblk m c 5 t (ix2 r c') = (layerAt m c).cs (at256 (tileNo t) r) ⟨c'.val % 32, Nat.mod_lt _ (by norm_num)⟩ := by
  rw [read_cs, in_cs, fourWide_apply]
  show _ = Host.cos (angles (F := Ideal)) (ix2 _ _)
  split_ifs <;> rfl

theorem tile_sn (r : Fin 256) (c' : Fin 128) : iblk m c 6 t (ix2 r c')
    = if c'.val % 64 < 32 then - (layerAt m c).sn (at256 (tileNo t) r) ⟨c'.val % 32, Nat.mod_lt _ (by norm_num)⟩
      else (layerAt m c).sn (at256 (tileNo t) r) ⟨c'.val % 32, Nat.mod_lt _ (by norm_num)⟩ := by
  rw [read_sn, in_sn, fourWide_apply]
  show _ = if c'.val % 64 < 32 then - Host.sin (angles (F := Ideal)) (ix2 _ _) else Host.sin (angles (F := Ideal)) (ix2 _ _)
  have hc := c'.isLt
  split_ifs <;> first | rfl | omega

theorem tile_bn (k : Fin 1024) : iblk m c 7 t (ix2 (0 : Fin 1) k) = (layerAt m c).bn k := by
  rw [read_bn, in_bn]
  show _ = (m ((c : Thread nD τ).loc main_arg5) : Vec Ideal S1x1024 .f32) (ix2 (0 : Fin 1) k)
  generalize (m ((c : Thread nD τ).loc main_arg5) : Vec Ideal S1x1024 .f32) = A
  pointwise []

theorem tile_wq (k : Fin 1024) (c' : Fin 2048) : iblk m c 8 t (ix2 k c') = (layerAt m c).wq k c' := by
  rw [read_wq, in_wq]
  exact wq_apply _ k c'

theorem tile_wg (k : Fin 1024) (c' : Fin 2048) : iblk m c 9 t (ix2 k c') = (layerAt m c).wg k c' := by
  rw [read_wg, in_wg]
  exact wg_apply _ k c'

theorem tile_qn (c' : Fin 256) : iblk m c 10 t (ix2 (0 : Fin 1) c') = (layerAt m c).qn ⟨c'.val % 64, Nat.mod_lt _ (by norm_num)⟩ := by
  rw [read_qn, in_qn, fourHeads_apply]
  show _ = (m ((c : Thread nD τ).loc main_arg7) : Vec Ideal S1x64 .f32) (ix2 (0 : Fin 1) _)
  generalize (m ((c : Thread nD τ).loc main_arg7) : Vec Ideal S1x64 .f32) = A
  pointwise []

theorem tile_zs (n : Fin 32) : iblk m c 11 t (ix1 n) = (layerAt m c).zs n := by
  rw [read_zs, in_zs]
  show _ = (m ((c : Thread nD τ).loc main_arg8) : Vec Ideal S1x32 .f32) (ix2 (0 : Fin 1) n)
  generalize (m ((c : Thread nD τ).loc main_arg8) : Vec Ideal S1x32 .f32) = A
  pointwise []

theorem tile_wo (j : Fin 2048) (c' : Fin 1024) : iblk m c 12 t (ix2 j c') = (layerAt m c).wo j c' := by
  rw [read_wo, in_wo]
  exact wo_apply _ j c'

/-- Every tile's operands are the layer's inputs. -/
theorem tileOf : TileOf (layerAt m c) (seqOf t) (tileNo t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t) :=
  ⟨tile_h m c t, tile_kvn m c t, tile_wk m c t, tile_wv m c t, tile_kn m c t, tile_bd m c t, tile_cs m c t, tile_sn m c t, tile_bn m c t, tile_wq m c t, tile_wg m c t, tile_qn m c t, tile_zs m c t, tile_wo m c t⟩

end

end Cert.Swa

end
-- ==== Proof.Swa.Finite.lean ====
/-
  The precondition read back: the argument entries it names are real numbers, so the inputs of the layer are.
-/
module

public import proofs.«01_k».proof.Pre_finite_args
public import proofs.«01_k».proof.Proof.Swa.Inputs
public import Idealize.ShloMosaic.Lib.ReduceAll

@[expose] public section

noncomputable section

namespace Cert.Swa

open Idealize.ShloMosaic

/-- The side conditions of the precondition's operations. -/
instance preFacts : Cert.Pre_finite_args.Facts where
  bcast_S_S4x8192x1024 := by decide
  reducesTo_S4x8192x1024_S_d0_1_2 := by decide
  h_S_ := by decide
  bcast_S_S1024 := by decide
  reducesTo_S1024_S_d0 := by decide
  bcast_S_S1024x256 := by decide
  reducesTo_S1024x256_S_d0_1 := by decide
  bcast_S_S64 := by decide
  reducesTo_S64_S_d0 := by decide
  bcast_S_S1x1024 := by decide
  reducesTo_S1x1024_S_d0_1 := by decide
  bcast_S_S1x1024x4096 := by decide
  reducesTo_S1x1024x4096_S_d0_1_2 := by decide
  bcast_S_S1x64 := by decide
  reducesTo_S1x64_S_d0_1 := by decide
  bcast_S_S1x32 := by decide
  reducesTo_S1x32_S_d0_1 := by decide

open Cert.Pre_finite_args

theorem ofBits_inf : Ideal.ofBits .f32 0x7F800000#32 = ⊤ := by
  simp [Ideal.ofBits, Ideal.ieee]

/-- A value whose magnitude is below infinity is a real number. -/
theorem isReal_of_abs_lt {x : EReal} (h : max x (-x) < ⊤) : IsReal x := by
  induction x with
  | bot => simp at h
  | top => simp at h
  | coe r => exact ⟨r, rfl⟩

/-- A test that every entry of an array is below infinity in magnitude, come out true. -/
theorem isReal_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : IsReal (x i) := by
  haveI : Subsingleton S_.Idx := ⟨fun a b => funext fun k => k.elim0⟩
  have h1 := Host.reduce_andi_all _ _ hr hu j e i
  have h2 : BitVec.ofBool (decide (max (x i : EReal) (-(x i : EReal)) < Ideal.ofBits .f32 0x7F800000#32)) = 1#1 := h1
  rw [ofBits_inf] at h2
  refine isReal_of_abs_lt ?_
  by_contra hn
  rw [decide_eq_false hn] at h2
  exact absurd h2 (by decide)

theorem both_one {x y : IVec S_ 1} {j : S_.Idx} (h : andi x y j = 1#1) : x j = 1#1 ∧ y j = 1#1 := IntOp.andi_eq_one.1 h

/-- The angle of a position and a lane is a real number. -/
theorem angles_real (p : Fin 8192) (d : Fin 32) : IsReal (Cert.Swa.angles (F := Ideal) (ix2 p d)) := by
  have e : (Cert.Swa.angles (F := Ideal) (ix2 p d) : EReal) = (((BitVec.ofNat 32 p.val).toInt : ℝ) : EReal)
      * Ideal.pow (Ideal.ofBits .f32 0x461C4000#32)
        (Ideal.div (-(((BitVec.ofNat 32 d.val).toInt : ℝ) : EReal)) (Ideal.ofBits .f32 0x42000000#32)) := by
    pointwise [Cert.Swa.angles]
    rfl
  rw [e, ofBits_10000, ofBits_32, ← EReal.coe_neg, div_coe _ (by norm_num)]
  exact (IsReal.coe _).mul ((IsReal.coe _).pow (IsReal.coe _))

/-- Under the precondition the layer's inputs, but for the output projection, are real numbers. -/
theorem layerOf_finite (a0 : FVec Ideal S4x8192x1024 .f32) (a1 : FVec Ideal S1024 .f32) (a2 a3 : FVec Ideal S1024x256 .f32)
    (a4 : FVec Ideal S64 .f32) (a5 : FVec Ideal S1x1024 .f32) (a6 : FVec Ideal S1x1024x4096 .f32) (a7 : FVec Ideal S1x64 .f32)
    (a8 : FVec Ideal S1x32 .f32) (a9 : FVec Ideal S1x2048x1024 .f32)
    (h : Cert.Pre_finite_args.fn (F := Ideal) a0 a1 a2 a3 a4 a5 a6 a7 a8 a9 = fun _ => 1#1) :
    (layerOf a0 a1 a2 a3 a4 a5 a6 a7 a8 a9).Finite := by
  have e := congrFun h (fun k => k.elim0)
  unfold fn fn_part1 fn_part2 at e
  obtain ⟨e, h8⟩ := both_one e
  obtain ⟨e, h7⟩ := both_one e
  obtain ⟨e, h6⟩ := both_one e
  obtain ⟨e, h5⟩ := both_one e
  obtain ⟨e, h4⟩ := both_one e
  obtain ⟨e, h3⟩ := both_one e
  obtain ⟨e, h2⟩ := both_one e
  obtain ⟨h0, h1⟩ := both_one e
  exact {
    h := fun b p k => isReal_of_all a0 _ _ _ _ h0 _
    kvn := fun k => isReal_of_all a1 _ _ _ _ h1 _
    bn := fun k => isReal_of_all a5 _ _ _ _ h5 _
    wk := fun k c => isReal_of_all a2 _ _ _ _ h2 _
    wv := fun k c => isReal_of_all a3 _ _ _ _ h3 _
    wq := fun k c => isReal_of_all a6 _ _ _ _ h6 _
    wg := fun k c => isReal_of_all a6 _ _ _ _ h6 _
    kn := fun k => isReal_of_all a4 _ _ _ _ h4 _
    qn := fun k => isReal_of_all a7 _ _ _ _ h7 _
    zs := fun n => isReal_of_all a8 _ _ _ _ h8 _
    cs := fun p k => (angles_real p k).cos
    sn := fun p k => (angles_real p k).sin }

end Cert.Swa

end
-- ==== Proof.Swa.Ref.lean ====
/-
  The reference program's results, entry by entry: the layer's functions of its arguments.
-/
module

public import proofs.«01_k».proof.Proof.Gen.ReferenceIdeal.Run
public import proofs.«01_k».proof.Proof.Swa.Inputs

@[expose] public section

set_option maxRecDepth 16384

noncomputable section

namespace Cert.Swa

open Idealize.ShloMosaic Idealize.ShloMosaic.TcCoe Cert.ReferenceIdeal Cert.ReferenceIdeal.Gen Cert.ReferenceIdeal.Value

/-- The layer of the arguments the reference reads. -/
def layerRef (V0 : Valuation τ sig (Elt Ideal)) : Layer :=
  layerOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8)) (V0 (Proc.devRef .tc main_arg9))

variable (V0 : Valuation τ sig (Elt Ideal))

/-! The arguments and the intermediate arrays, at their shapes. -/

def A0 : FVec Ideal S4x8192x1024 .f32 := V0 (Proc.devRef .tc main_arg0)
def A1 : FVec Ideal S1024 .f32 := V0 (Proc.devRef .tc main_arg1)
def A2 : FVec Ideal S1024x256 .f32 := V0 (Proc.devRef .tc main_arg2)
def A3 : FVec Ideal S1024x256 .f32 := V0 (Proc.devRef .tc main_arg3)
def A4 : FVec Ideal S64 .f32 := V0 (Proc.devRef .tc main_arg4)
def A5 : FVec Ideal S1x1024 .f32 := V0 (Proc.devRef .tc main_arg5)
def A6 : FVec Ideal S1x1024x4096 .f32 := V0 (Proc.devRef .tc main_arg6)
def A7 : FVec Ideal S1x64 .f32 := V0 (Proc.devRef .tc main_arg7)
def A8 : FVec Ideal S1x32 .f32 := V0 (Proc.devRef .tc main_arg8)
def A9 : FVec Ideal S1x2048x1024 .f32 := V0 (Proc.devRef .tc main_arg9)
def v13 : FVec Ideal S4x8192x1024 .f32 := res_main_v13 V0
def v15 : FVec Ideal S4x8192x4x64 .f32 := res_main_v15 V0
def v28 : FVec Ideal S4x8192x4x64 .f32 := res_main_v28 V0
def v40 : FVec Ideal S8192x32 .f32 := res_main_v40 V0
def v57 : FVec Ideal S4x8192x4x64 .f32 := res_main_v57 V0
def v59 : FVec Ideal S4x8192x4x64 .f32 := res_main_v59 V0
def v75 : FVec Ideal S4x8192x4096 .f32 := res_main_v75 V0
def v77 : FVec Ideal S4x8192x2048 .f32 := res_main_v77 V0
def v78 : FVec Ideal S4x8192x32x64 .f32 := res_main_v78 V0
def v92 : FVec Ideal S4x8192x32x64 .f32 := res_main_v92 V0
def v104 : FVec Ideal S8192x32 .f32 := res_main_v104 V0
def v138 : FVec Ideal S4x4x8x8192x8192 .f32 := res_main_v138 V0
def v144 : FVec Ideal S4x4x8x8192x1 .f32 := res_main_v144 V0
def v147 : FVec Ideal S4x4x8x8192x8192 .f32 := res_main_v147 V0

theorem ref_kvRow (b : Fin 4) (p : Fin 8192) (k : Fin 1024) : v13 V0 (ix3 b p k) = (layerRef V0).kvRow b p k := by
  have e : (v13 V0 (ix3 b p k) : EReal) = A0 V0 (ix3 b p k)
      * Ideal.rsqrt (Ideal.div (∑ j : Fin 1024, (A0 V0 (ix3 b p j) * A0 V0 (ix3 b p j) : EReal)) (Ideal.ofBits .f32 0x44800000#32)
        + Ideal.ofBits .f32 0x358637BD#32) * A1 V0 (ix1 k) := by
    unfold v13 res_main_v13 A0 A1
    generalize V0 (Proc.devRef .tc main_arg0) = A
    generalize V0 (Proc.devRef .tc main_arg1) = B
    pointwise []
  exact e

theorem ref_keyMat (b : Fin 4) (p : Fin 8192) (g : Fin 4) (d : Fin 64) :
    v15 V0 (ix4 b p g d) = proj ((layerRef V0).kvRow b p) fun k => (layerRef V0).wk k (Layer.lane g d) := by
  have e : (v15 V0 (ix4 b p g d) : EReal) = ∑ k : Fin 1024, (v13 V0 (ix3 b p k)
      * A2 V0 (ix2 k (⟨g.val * 64 + d.val, by omega⟩ : Fin 256)) : EReal) := by
    unfold v15 res_main_v15 A2 v13
    generalize V0 (Proc.devRef .tc main_arg2) = A
    generalize res_main_v13 V0 = B
    pointwise []
  rw [e]
  refine Finset.sum_congr rfl fun k _ => ?_
  rw [ref_kvRow]
  exact congrArg (fun c => (layerRef V0).kvRow b p k * A2 V0 (ix2 k c)) (Fin.ext (by show g.val * 64 + d.val = 64 * g.val + d.val; omega))

theorem ref_val (b : Fin 4) (p : Fin 8192) (g : Fin 4) (d : Fin 64) : v59 V0 (ix4 b p g d) = (layerRef V0).val b p g d := by
  have e : (v59 V0 (ix4 b p g d) : EReal) = ∑ k : Fin 1024, (v13 V0 (ix3 b p k)
      * A3 V0 (ix2 k (⟨g.val * 64 + d.val, by omega⟩ : Fin 256)) : EReal) := by
    unfold v59 res_main_v59 A3 v13
    generalize V0 (Proc.devRef .tc main_arg3) = A
    generalize res_main_v13 V0 = B
    pointwise []
  rw [e]
  unfold Layer.val proj
  refine Finset.sum_congr rfl fun k _ => ?_
  rw [ref_kvRow]
  exact congrArg (fun c => (layerRef V0).kvRow b p k * A3 V0 (ix2 k c)) (Fin.ext (by show g.val * 64 + d.val = 64 * g.val + d.val; omega))

theorem ref_headK (b : Fin 4) (p : Fin 8192) (g : Fin 4) (d : Fin 64) :
    v28 V0 (ix4 b p g d) = headN (fun e => v15 V0 (ix4 b p g e)) (fun e => A4 V0 (ix1 e)) d := by
  unfold headN normed v28 res_main_v28 A4 v15
  generalize V0 (Proc.devRef .tc main_arg4) = A
  generalize res_main_v15 V0 = B
  pointwise []

/-- The rotation as the reference writes it, lane by lane. -/
theorem turn_eq (cs sn : Fin 32 → EReal) (x : Fin 64 → EReal) (d : Fin 64) :
    (if h : d.val < 32 then x d * cs ⟨d.val, h⟩ - x ⟨32 + d.val, by omega⟩ * sn ⟨d.val, h⟩
      else x ⟨32 + (d.val - 32), by omega⟩ * cs ⟨d.val - 32, by omega⟩ + x ⟨d.val - 32, by omega⟩ * sn ⟨d.val - 32, by omega⟩)
      = turn cs sn x d := by
  unfold turn
  by_cases h : d.val < 32
  · rw [dif_pos h, dif_pos h]
    congr 3
    exact Fin.ext (Nat.add_comm _ _)
  · rw [dif_neg h, dif_neg h]
    congr 3
    exact Fin.ext (by show 32 + (d.val - 32) = d.val; omega)

theorem ref_turnK (b : Fin 4) (p : Fin 8192) (g : Fin 4) (d : Fin 64) :
    v57 V0 (ix4 b p g d) = turn ((layerRef V0).cs p) ((layerRef V0).sn p) (fun e => v28 V0 (ix4 b p g e)) d := by
  rw [← turn_eq]
  show _ = if h : d.val < 32 then v28 V0 _ * Host.cos (F := Ideal) (v40 V0) (ix2 p _) - v28 V0 _ * Host.sin (F := Ideal) (v40 V0) (ix2 p _)
    else v28 V0 _ * Host.cos (F := Ideal) (v40 V0) (ix2 p _) + v28 V0 _ * Host.sin (F := Ideal) (v40 V0) (ix2 p _)
  unfold v57 res_main_v57 res_main_v42 res_main_v44 res_main_v45 res_main_v46 v40 v28
  generalize res_main_v40 V0 = A
  generalize res_main_v28 V0 = B
  pointwise []

theorem ref_key (b : Fin 4) (p : Fin 8192) (g : Fin 4) (d : Fin 64) : v57 V0 (ix4 b p g d) = (layerRef V0).key b p g d := by
  rw [ref_turnK]
  unfold Layer.key
  congr 1
  funext e
  rw [ref_headK]
  congr 1
  funext e
  exact ref_keyMat V0 b p g e

theorem ref_qg (b : Fin 4) (p : Fin 8192) (c : Fin 4096) :
    v75 V0 (ix3 b p c) = proj ((layerRef V0).qRow b p) fun k => A6 V0 (ix3 (0 : Fin 1) k c) := by
  have e : (v75 V0 (ix3 b p c) : EReal) = ∑ k : Fin 1024, (A0 V0 (ix3 b p k)
      * Ideal.rsqrt (Ideal.div (∑ j : Fin 1024, (A0 V0 (ix3 b p j) * A0 V0 (ix3 b p j) : EReal)) (Ideal.ofBits .f32 0x44800000#32)
        + Ideal.ofBits .f32 0x358637BD#32) * A5 V0 (ix2 (0 : Fin 1) k) * A6 V0 (ix3 (0 : Fin 1) k c) : EReal) := by
    unfold v75 res_main_v75 A0 A5 A6
    generalize V0 (Proc.devRef .tc main_arg0) = A
    generalize V0 (Proc.devRef .tc main_arg5) = B
    generalize V0 (Proc.devRef .tc main_arg6) = C
    pointwise []
  exact e

theorem ref_gate (b : Fin 4) (p : Fin 8192) (c : Fin 2048) : v77 V0 (ix3 b p c) = (layerRef V0).gate b p c := by
  have e : (v77 V0 (ix3 b p c) : EReal) = v75 V0 (ix3 b p (⟨2048 + c.val, by omega⟩ : Fin 4096)) := by
    unfold v77 res_main_v77 v75
    generalize res_main_v75 V0 = A
    pointwise []
  rw [e, ref_qg]
  rfl

theorem ref_queryMat (b : Fin 4) (p : Fin 8192) (n : Fin 32) (d : Fin 64) :
    v78 V0 (ix4 b p n d) = proj ((layerRef V0).qRow b p) fun k => (layerRef V0).wq k (Layer.lane n d) := by
  have e : (v78 V0 (ix4 b p n d) : EReal) = v75 V0 (ix3 b p (⟨64 * n.val + d.val, by omega⟩ : Fin 4096)) := by
    unfold v78 res_main_v78 v75
    generalize res_main_v75 V0 = A
    pointwise []
    exact congrArg (fun c => A (ix3 b p c)) (Fin.ext (by show n.val * 64 + d.val = 64 * n.val + d.val; omega))
  rw [e, ref_qg]
  rfl

theorem ref_headQ (b : Fin 4) (p : Fin 8192) (n : Fin 32) (d : Fin 64) :
    v92 V0 (ix4 b p n d) = headN (fun e => v78 V0 (ix4 b p n e)) (fun e => A7 V0 (ix2 (0 : Fin 1) e)) d := by
  unfold headN normed v92 res_main_v92 A7 v78
  generalize V0 (Proc.devRef .tc main_arg7) = A
  generalize res_main_v78 V0 = B
  pointwise []

/-- The rotated queries. -/
def v121 : FVec Ideal S4x8192x32x64 .f32 :=
  concatenate S4x8192x32x64 3 [⟨S4x8192x32x32, (subf (mulf (res_main_v109 V0) (broadcastInDim S4x8192x32x32 ![0, 1, 2, 3] bcast_S1x8192x1x32_S4x8192x32x32_0_1_2_3 (res_main_v106 V0))) (mulf (res_main_v110 V0) (broadcastInDim S4x8192x32x32 ![0, 1, 2, 3] bcast_S1x8192x1x32_S4x8192x32x32_0_1_2_3 (res_main_v108 V0))))⟩,
    ⟨S4x8192x32x32, (addf (mulf (res_main_v110 V0) (broadcastInDim S4x8192x32x32 ![0, 1, 2, 3] bcast_S1x8192x1x32_S4x8192x32x32_0_1_2_3 (res_main_v106 V0))) (mulf (res_main_v109 V0) (broadcastInDim S4x8192x32x32 ![0, 1, 2, 3] bcast_S1x8192x1x32_S4x8192x32x32_0_1_2_3 (res_main_v108 V0))))⟩]
    concatenates_S4x8192x32x32_S4x8192x32x32_S4x8192x32x64_d3

theorem ref_turnQ (b : Fin 4) (p : Fin 8192) (n : Fin 32) (d : Fin 64) :
    v121 V0 (ix4 b p n d) = turn ((layerRef V0).cs p) ((layerRef V0).sn p) (fun e => v92 V0 (ix4 b p n e)) d := by
  rw [← turn_eq]
  show _ = if h : d.val < 32 then v92 V0 _ * Host.cos (F := Ideal) (v104 V0) (ix2 p _) - v92 V0 _ * Host.sin (F := Ideal) (v104 V0) (ix2 p _)
    else v92 V0 _ * Host.cos (F := Ideal) (v104 V0) (ix2 p _) + v92 V0 _ * Host.sin (F := Ideal) (v104 V0) (ix2 p _)
  unfold v121 res_main_v109 res_main_v110 res_main_v106 res_main_v108 v104 v92
  generalize res_main_v104 V0 = A
  generalize res_main_v92 V0 = B
  pointwise []

theorem ref_query (b : Fin 4) (p : Fin 8192) (n : Fin 32) (d : Fin 64) : v121 V0 (ix4 b p n d) = (layerRef V0).query b p n d := by
  rw [ref_turnQ]
  unfold Layer.query
  congr 1
  funext e
  rw [ref_headQ]
  congr 1
  funext e
  exact ref_queryMat V0 b p n e

end Cert.Swa

end
-- ==== Proof.Swa.Scores.lean ====
/-
  The reference's attention, entry by entry: the scores it keeps, their maximum, the weights and what they sum to.
-/
module

public import proofs.«01_k».proof.Proof.Swa.Ref

@[expose] public section

set_option maxRecDepth 16384

noncomputable section

namespace Cert.Swa

open Idealize.ShloMosaic Idealize.ShloMosaic.TcCoe Cert.ReferenceIdeal Cert.ReferenceIdeal.Gen Cert.ReferenceIdeal.Value
variable (V0 : Valuation τ sig (Elt Ideal))

/-- Which positions a position attends to. -/
def mask : IVec S8192x8192 1 :=
  andi (cmpi .sge (res_main_v132 V0) (broadcastInDim S8192x8192 ![] bcast_S_S8192x8192 (constantI S_ 32 0#32)))
    (cmpi .sle (res_main_v132 V0) (broadcastInDim S8192x8192 ![] bcast_S_S8192x8192 (constantI S_ 32 128#32)))

/-- All the scores, before the scale. -/
def scores (A : FVec Ideal S4x8192x4x64 .f32) (B : FVec Ideal S4x8192x32x64 .f32) : FVec Ideal S4x4x8192x8192x8 .f32 :=
  Host.dotGeneral dot_S4x8192x4x64_S4x8192x4x8x64_S4x4x8192x8192x8_3_4_1_13_02_02 none A
    (shapeCast _ B shapeCasts_S4x8192x32x64_S4x8192x4x8x64)

/-- The scores scaled, with `-∞` where the mask leaves them out. -/
def kept (M : IVec S8192x8192 1) (S : FVec Ideal S4x4x8192x8192x8 .f32) : FVec Ideal S4x4x8x8192x8192 .f32 :=
  select (broadcastInDim S4x4x8x8192x8192 ![3, 4] bcast_S8192x8192_S4x4x8x8192x8192_3_4 M)
    (mulf (transpose S4x4x8x8192x8192 [0, 1, 4, 3, 2] S transposes_S4x4x8192x8192x8_S4x4x8x8192x8192_0_1_4_3_2)
      (broadcastInDim S4x4x8x8192x8192 ![] bcast_S_S4x4x8x8192x8192 (constant S_ .f32 0x3E000000#32)))
    (broadcastInDim S4x4x8x8192x8192 ![] bcast_S_S4x4x8x8192x8192 (id (constant S_ .f32 0xFF800000#32)))

theorem v138_eq : v138 V0 = kept (mask V0) (scores (v57 V0) (v121 V0)) := rfl

theorem mask_apply (p j : Fin 8192) : mask V0 (ix2 p j) = if j.val ≤ p.val ∧ p.val ≤ j.val + 128 then 1#1 else 0#1 := by
  have e : mask V0 (ix2 p j) = IntOp.andi (IntOp.cmpi .sge (IntOp.subi (BitVec.ofNat 32 p.val) (BitVec.ofNat 32 j.val)) 0#32)
      (IntOp.cmpi .sle (IntOp.subi (BitVec.ofNat 32 p.val) (BitVec.ofNat 32 j.val)) 128#32) := by
    unfold mask res_main_v132 res_main_v0
    pointwise []
  have hp := p.isLt
  have hj := j.isLt
  rw [e, sge_eq, sle_eq, and_eq, toInt_diff _ _ (by omega) (by omega), show ((0#32 : BitVec 32).toInt) = 0 from rfl,
    show ((128#32 : BitVec 32).toInt) = 128 from rfl]
  exact if_congr (by constructor <;> rintro ⟨h1, h2⟩ <;> constructor <;> omega) rfl rfl

theorem scores_apply (A : FVec Ideal S4x8192x4x64 .f32) (B : FVec Ideal S4x8192x32x64 .f32) (b : Fin 4) (g : Fin 4) (r : Fin 8) (p j : Fin 8192) :
    (scores A B (ix5 b g j p r) : EReal)
      = ∑ e : Fin 64, (A (ix4 b j g e) * B (ix4 b p (⟨g.val * 8 + r.val, by omega⟩ : Fin 32) e) : EReal) := by
  pointwise [scores]

theorem kept_apply (M : IVec S8192x8192 1) (S : FVec Ideal S4x4x8192x8192x8 .f32) (b : Fin 4) (g : Fin 4) (r : Fin 8) (p j : Fin 8192) :
    (kept M S (ix5 b g r p j) : EReal)
      = Scalar.select (M (ix2 p j)) ((S (ix5 b g j p r) : EReal) * Ideal.ofBits .f32 0x3E000000#32) (Ideal.ofBits .f32 0xFF800000#32) := by
  pointwise [kept]
  rfl

/-- The positions head `8 g + r` attends to from `p`. -/
abbrev near (p : Fin 8192) (j : Fin 8192) : Prop := j.val ≤ p.val ∧ p.val ≤ j.val + 128
/-- The head of group `g`, number `r` in it. -/
abbrev headOf (g : Fin 4) (r : Fin 8) : Fin 32 := ⟨g.val * 8 + r.val, by omega⟩
/-- The scaled scores of a head. -/
def scoreOf (L : Layer) (b : Fin 4) (p : Fin 8192) (g : Fin 4) (r : Fin 8) (j : Fin 8192) : EReal :=
  (∑ e, L.key b j g e * L.query b p (headOf g r) e) * Ideal.ofBits .f32 0x3E000000#32

theorem scoreOf_real {L : Layer} (F : L.Finite) (b : Fin 4) (p : Fin 8192) (g : Fin 4) (r : Fin 8) (j : Fin 8192) : IsReal (scoreOf L b p g r j) :=
  (IsReal.sum _ fun e _ => (Layer.Finite.key b j F _ e).mul (Layer.Finite.query b p F _ e)).mul
    (by rw [ofBits_eighth]; exact IsReal.coe _)

theorem ref_score (b : Fin 4) (g : Fin 4) (r : Fin 8) (p j : Fin 8192) :
    (v138 V0 (ix5 b g r p j) : EReal) = masked (near p) (scoreOf (layerRef V0) b p g r) j := by
  rw [v138_eq, kept_apply, mask_apply, pick, scores_apply, ofBits_neg_inf]
  unfold masked scoreOf
  refine if_congr Iff.rfl ?_ rfl
  refine congrArg (fun w : EReal => w * Ideal.ofBits .f32 0x3E000000#32) ?_
  exact Finset.sum_congr rfl fun e _ => by rw [ref_key, ref_query]

/-- The maximum of each row. -/
def rowTop (B : FVec Ideal S4x4x8x8192x8192 .f32) : FVec Ideal S4x4x8x8192 .f32 :=
  Host.reduce FloatOps.maximumf B (constant S_ .f32 0xFF800000#32) reducesTo_S4x4x8x8192x8192_S4x4x8x8192_d4 h_S_

theorem rowTop_apply (B : FVec Ideal S4x4x8x8192x8192 .f32) (b : Fin 4) (g : Fin 4) (r : Fin 8) (p : Fin 8192) :
    (rowTop B (ix4 b g r p) : EReal) = Finset.univ.fold max ⊥ fun j : Fin 8192 => (B (ix5 b g r p j) : EReal) := by
  pointwise [rowTop]
  rw [ofBits_neg_inf]

/-- The larger of a row's maximum and the sink. -/
def tops (R : FVec Ideal S4x4x8x8192 .f32) (Z : FVec Ideal S1x4x8x1x1 .f32) : FVec Ideal S4x4x8x8192x1 .f32 :=
  maximumf (broadcastInDim S4x4x8x8192x1 ![0, 1, 2, 3] bcast_S4x4x8x8192_S4x4x8x8192x1_0_1_2_3 R)
    (broadcastInDim S4x4x8x8192x1 ![0, 1, 2, 3, 4] bcast_S1x4x8x1x1_S4x4x8x8192x1_0_1_2_3_4 Z)

theorem tops_apply (R : FVec Ideal S4x4x8x8192 .f32) (Z : FVec Ideal S1x4x8x1x1 .f32) (b : Fin 4) (g : Fin 4) (r : Fin 8) (p : Fin 8192) :
    (tops R Z (ix5 b g r p (0 : Fin 1)) : EReal)
      = max (R (ix4 b g r p) : EReal) (Z (ix5 (0 : Fin 1) g r (0 : Fin 1) (0 : Fin 1))) := by
  pointwise [tops]

theorem sink_apply (g : Fin 4) (r : Fin 8) :
    (res_main_v140 V0 (ix5 (0 : Fin 1) g r (0 : Fin 1) (0 : Fin 1)) : EReal) = (layerRef V0).zs (headOf g r) := by
  show _ = A8 V0 (ix2 (0 : Fin 1) (headOf g r))
  unfold res_main_v140 A8
  generalize V0 (Proc.devRef .tc main_arg8) = A
  pointwise []

theorem v144_eq : v144 V0 = tops (rowTop (v138 V0)) (res_main_v140 V0) := rfl

theorem ref_peak (b : Fin 4) (g : Fin 4) (r : Fin 8) (p : Fin 8192) :
    (v144 V0 (ix5 b g r p (0 : Fin 1)) : EReal) = peak (near p) (scoreOf (layerRef V0) b p g r) ((layerRef V0).zs (headOf g r)) := by
  rw [v144_eq, tops_apply, rowTop_apply, sink_apply]
  unfold peak
  rw [show (fun j : Fin 8192 => (v138 V0 (ix5 b g r p j) : EReal)) = masked (near p) (scoreOf (layerRef V0) b p g r) from
    funext fun j => ref_score V0 b g r p j]

theorem ref_weight (b : Fin 4) (g : Fin 4) (r : Fin 8) (p j : Fin 8192) :
    (v147 V0 (ix5 b g r p j) : EReal) = Ideal.exp (masked (near p) (scoreOf (layerRef V0) b p g r) j
      - peak (near p) (scoreOf (layerRef V0) b p g r) ((layerRef V0).zs (headOf g r))) := by
  have e : (v147 V0 (ix5 b g r p j) : EReal) = Ideal.exp ((v138 V0 (ix5 b g r p j) : EReal) - (v144 V0 (ix5 b g r p (0 : Fin 1)) : EReal)) := by
    unfold v147 res_main_v147 v138 v144
    generalize res_main_v138 V0 = A
    generalize res_main_v144 V0 = B
    pointwise []
  rw [e, ref_score, ref_peak]

/-- The weights, divided by their sum and the sink's. -/
def shares (W : FVec Ideal S4x4x8x8192x8192 .f32) (Z : FVec Ideal S1x4x8x1x1 .f32) (P : FVec Ideal S4x4x8x8192x1 .f32) :
    FVec Ideal S4x4x8x8192x8192 .f32 :=
  Host.divf W (broadcastInDim S4x4x8x8192x8192 ![0, 1, 2, 3, 4] bcast_S4x4x8x8192x1_S4x4x8x8192x8192_0_1_2_3_4
    (addf (broadcastInDim S4x4x8x8192x1 ![0, 1, 2, 3] bcast_S4x4x8x8192_S4x4x8x8192x1_0_1_2_3
        (Host.reduceAdd W (constant S_ .f32 0x00000000#32) reducesTo_S4x4x8x8192x8192_S4x4x8x8192_d4 h_S_))
      (Host.exp (subf (broadcastInDim S4x4x8x8192x1 ![0, 1, 2, 3, 4] bcast_S1x4x8x1x1_S4x4x8x8192x1_0_1_2_3_4 Z) P))))

theorem shares_apply (W : FVec Ideal S4x4x8x8192x8192 .f32) (Z : FVec Ideal S1x4x8x1x1 .f32) (P : FVec Ideal S4x4x8x8192x1 .f32)
    (b : Fin 4) (g : Fin 4) (r : Fin 8) (p j : Fin 8192) :
    (shares W Z P (ix5 b g r p j) : EReal) = Ideal.div (W (ix5 b g r p j)) ((∑ i : Fin 8192, (W (ix5 b g r p i) : EReal))
      + Ideal.exp ((Z (ix5 (0 : Fin 1) g r (0 : Fin 1) (0 : Fin 1)) : EReal) - P (ix5 b g r p (0 : Fin 1)))) := by
  pointwise [shares]

/-- The values summed with those shares, heads side by side. -/
def summed (U : FVec Ideal S4x8192x4x64 .f32) (S : FVec Ideal S4x4x8x8192x8192 .f32) : FVec Ideal S4x8192x2048 .f32 :=
  shapeCast _ (transpose S4x8192x4x8x64 [0, 4, 1, 3, 2]
    (Host.dotGeneral dot_S4x8192x4x64_S4x4x8x8192x8192_S4x4x64x8x8192_1_4_3_23_02_01 none U S)
    transposes_S4x4x64x8x8192_S4x8192x4x8x64_0_4_1_3_2) shapeCasts_S4x8192x4x8x64_S4x8192x2048

theorem summed_apply (U : FVec Ideal S4x8192x4x64 .f32) (S : FVec Ideal S4x4x8x8192x8192 .f32) (b : Fin 4) (p : Fin 8192) (c : Fin 2048) :
    (summed U S (ix3 b p c) : EReal) = ∑ j : Fin 8192, (U (ix4 b j (⟨c.val / 512, by omega⟩ : Fin 4) (⟨c.val % 64, by omega⟩ : Fin 64))
      * S (ix5 b (⟨c.val / 512, by omega⟩ : Fin 4) (⟨c.val / 64 % 8, by omega⟩ : Fin 8) p j) : EReal) := by
  pointwise [summed]

theorem ref_att (F : (layerRef V0).Finite) (b : Fin 4) (p : Fin 8192) (c : Fin 2048) :
    (summed (v59 V0) (shares (v147 V0) (res_main_v140 V0) (v144 V0)) (ix3 b p c) : EReal)
      = (layerRef V0).att b p ⟨c.val / 64, by omega⟩ ⟨c.val % 64, Nat.mod_lt _ (by norm_num)⟩ := by
  have hc := c.isLt
  have hn : headOf (⟨c.val / 512, by omega⟩ : Fin 4) (⟨c.val / 64 % 8, by omega⟩ : Fin 8) = (⟨c.val / 64, by omega⟩ : Fin 32) :=
    Fin.ext (by show c.val / 512 * 8 + c.val / 64 % 8 = c.val / 64; omega)
  have hg : (⟨c.val / 64 / 8, by omega⟩ : Fin 4) = ⟨c.val / 512, by omega⟩ := Fin.ext (by show c.val / 64 / 8 = c.val / 512; omega)
  rw [summed_apply]
  simp only [shares_apply, ref_weight, ref_peak, sink_apply, ref_val]
  refine (attend_early (fun j _ => scoreOf_real F b p _ _ j) (fun j _ => Layer.Finite.val b j F _ _) (F.zs _)).trans ?_
  unfold Layer.att scoreOf
  rw [hn, hg]

theorem ref_out (F : (layerRef V0).Finite) (b : Fin 4) (p : Fin 8192) (c : Fin 1024) :
    (addf (A0 V0) (Host.dotGeneral dot_S4x8192x2048_S2048x1024_S4x8192x1024_2_0_01_1_n_n none
      (mulf (summed (v59 V0) (shares (v147 V0) (res_main_v140 V0) (v144 V0)))
        (mulf (v77 V0) (Host.divf (broadcastInDim S4x8192x2048 ![] bcast_S_S4x8192x2048 (constant S_ .f32 0x3F800000#32))
          (addf (broadcastInDim S4x8192x2048 ![] bcast_S_S4x8192x2048 (constant S_ .f32 0x3F800000#32)) (Host.exp (Host.negf (v77 V0)))))))
      (shapeCast _ (A9 V0) shapeCasts_S1x2048x1024_S2048x1024)) (ix3 b p c) : EReal) = (layerRef V0).out b p c := by
  have e : ∀ (H : FVec Ideal S4x8192x1024 .f32) (O G : FVec Ideal S4x8192x2048 .f32) (W : FVec Ideal S1x2048x1024 .f32),
      (addf H (Host.dotGeneral dot_S4x8192x2048_S2048x1024_S4x8192x1024_2_0_01_1_n_n none
        (mulf O (mulf G (Host.divf (broadcastInDim S4x8192x2048 ![] bcast_S_S4x8192x2048 (constant S_ .f32 0x3F800000#32))
          (addf (broadcastInDim S4x8192x2048 ![] bcast_S_S4x8192x2048 (constant S_ .f32 0x3F800000#32)) (Host.exp (Host.negf G))))))
        (shapeCast _ W shapeCasts_S1x2048x1024_S2048x1024)) (ix3 b p c) : EReal)
      = H (ix3 b p c) + ∑ j : Fin 2048, (O (ix3 b p j) * (G (ix3 b p j) * Ideal.div (Ideal.ofBits .f32 0x3F800000#32)
        (Ideal.ofBits .f32 0x3F800000#32 + Ideal.exp (- G (ix3 b p j)))) * W (ix3 (0 : Fin 1) j c) : EReal) := by
    intro H O G W
    pointwise []
  rw [e]
  unfold Layer.out
  refine congrArg (fun w : EReal => A0 V0 (ix3 b p c) + w) ?_
  refine Finset.sum_congr rfl fun j _ => ?_
  rw [ref_att V0 F, ref_gate, Ideal.ofBits_one_f32]
  rfl

theorem ref_keys (b : Fin 4) (i : Fin 128) (c : Fin 256) :
    (shapeCast S4x128x256 (extractStridedSlice S4x128x4x64 ![0, 8064, 0, 0] (v57 V0) slices_S4x8192x4x64_S4x128x4x64_0_8064_0_0)
      shapeCasts_S4x128x4x64_S4x128x256 (ix3 b i c) : EReal)
      = (layerRef V0).key b ⟨8064 + i.val, by omega⟩ ⟨c.val / 64, by omega⟩ ⟨c.val % 64, Nat.mod_lt _ (by norm_num)⟩ := by
  rw [← ref_key]
  generalize v57 V0 = A
  pointwise []

theorem ref_vals (b : Fin 4) (i : Fin 128) (c : Fin 256) :
    (shapeCast S4x128x256 (extractStridedSlice S4x128x4x64 ![0, 8064, 0, 0] (v59 V0) slices_S4x8192x4x64_S4x128x4x64_0_8064_0_0)
      shapeCasts_S4x128x4x64_S4x128x256 (ix3 b i c) : EReal)
      = (layerRef V0).val b ⟨8064 + i.val, by omega⟩ ⟨c.val / 64, by omega⟩ ⟨c.val % 64, Nat.mod_lt _ (by norm_num)⟩ := by
  rw [← ref_val]
  generalize v59 V0 = A
  pointwise []

end Cert.Swa

end
-- ==== Proof.Swa.Agree.lean ====
/-
  From equal arguments the kernel and the reference end with equal results.
-/
module

public import proofs.«01_k».proof.Defs
public import proofs.«01_k».proof.Proof.Swa.Finite
public import proofs.«01_k».proof.Proof.Swa.Scores

@[expose] public section

noncomputable section

namespace Cert.Swa

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (V0 : Valuation Cert.ReferenceIdeal.τ Cert.ReferenceIdeal.sig (Elt Ideal)) (c : Dev Cert.KernelIdeal.nD)

/-- Under the precondition the layer a run starts from has real inputs. -/
theorem layerAt_finite (h : Cert.Pre_KernelIdeal_finite_args m) : (layerAt m c).Finite := layerOf_finite _ _ _ _ _ _ _ _ _ _ (h c)

section
variable (F : (layerAt m c).Finite) (e : layerRef V0 = layerAt m c)
include F e

/-- The residual stream after the layer. -/
theorem out_agree : addf (A0 V0) (Host.dotGeneral Cert.ReferenceIdeal.dot_S4x8192x2048_S2048x1024_S4x8192x1024_2_0_01_1_n_n none
      (mulf (summed (v59 V0) (shares (v147 V0) (Cert.ReferenceIdeal.Value.res_main_v140 V0) (v144 V0)))
        (mulf (v77 V0) (Host.divf (broadcastInDim Cert.ReferenceIdeal.S4x8192x2048 ![] Cert.ReferenceIdeal.Gen.bcast_S_S4x8192x2048
            (constant Cert.ReferenceIdeal.S_ .f32 0x3F800000#32))
          (addf (broadcastInDim Cert.ReferenceIdeal.S4x8192x2048 ![] Cert.ReferenceIdeal.Gen.bcast_S_S4x8192x2048
            (constant Cert.ReferenceIdeal.S_ .f32 0x3F800000#32)) (Host.exp (Host.negf (v77 V0)))))))
      (shapeCast _ (A9 V0) Cert.ReferenceIdeal.Gen.shapeCasts_S1x2048x1024_S2048x1024))
    = Cert.KernelIdeal.Value.G13 (F := Ideal) m c := by
  funext i
  rw [ValueIdx.eq_ix3 i]
  exact (ref_out V0 (e ▸ F) _ _ _).trans (by rw [e]; exact (final_out m c F (tileOf m c) _ _ _).symm)

/-- The last 128 keys. -/
theorem keys_agree : shapeCast Cert.ReferenceIdeal.S4x128x256 (extractStridedSlice Cert.ReferenceIdeal.S4x128x4x64 ![0, 8064, 0, 0] (v57 V0)
        Cert.ReferenceIdeal.Gen.slices_S4x8192x4x64_S4x128x4x64_0_8064_0_0) Cert.ReferenceIdeal.Gen.shapeCasts_S4x128x4x64_S4x128x256
    = Cert.KernelIdeal.Value.G14 (F := Ideal) m c := by
  funext i
  rw [ValueIdx.eq_ix3 i]
  exact (ref_keys V0 _ _ _).trans (by rw [e]; exact (final_keys m c F (tileOf m c) _ _ _ _ _ rfl rfl).symm)

/-- The last 128 values. -/
theorem vals_agree : shapeCast Cert.ReferenceIdeal.S4x128x256 (extractStridedSlice Cert.ReferenceIdeal.S4x128x4x64 ![0, 8064, 0, 0] (v59 V0)
        Cert.ReferenceIdeal.Gen.slices_S4x8192x4x64_S4x128x4x64_0_8064_0_0) Cert.ReferenceIdeal.Gen.shapeCasts_S4x128x4x64_S4x128x256
    = Cert.KernelIdeal.Value.G15 (F := Ideal) m c := by
  funext i
  rw [ValueIdx.eq_ix3 i]
  exact (ref_vals V0 _ _ _).trans (by rw [e]; exact (final_vals m c F (tileOf m c) _ _ _ _ _ rfl rfl).symm)

end

/-- From arguments that agree, the two programs end with equal results. -/
theorem algebraic : Cert.algebraic_KernelIdeal_ReferenceIdeal_pre_finite_args := by
  intro m g m' g' hpre hag
  refine ⟨fun c => Cert.KernelIdeal.Value.G13 (F := Ideal) m c, fun c => Cert.KernelIdeal.Value.G14 (F := Ideal) m c,
    fun c => Cert.KernelIdeal.Value.G15 (F := Ideal) m c, Cert.KernelIdeal.Value.run (F := Ideal) m g, ?_⟩
  have e : ∀ c : Dev Cert.KernelIdeal.nD, layerRef (launchContents m' c) = layerAt m c := fun c => by
    obtain ⟨h0, h1, h2, h3, h4, h5, h6, h7, h8, h9⟩ := hag c
    show layerOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [h0, h1, h2, h3, h4, h5, h6, h7, h8, h9]
    rfl
  refine (θ_run Cert.ReferenceIdeal.defs _ _).mono (fun r h c => ?_) (Cert.ReferenceIdeal.Value.run (F := Ideal) m' g')
  have F := layerAt_finite m c hpre
  obtain ⟨r0, r1, r2, rest⟩ := h c
  exact ⟨r0.trans (out_agree m _ c F (e c)), r1.trans (keys_agree m _ c F (e c)), r2.trans (vals_agree m _ c F (e c)), rest⟩

/-- The reference runs to its end, its arguments unchanged; it declares no semaphore. -/
theorem frame_ref : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

end Cert.Swa

end
-- ==== Proof.Gla.Runs.lean ====
/-
  What the four runs of the recurrent layer's body share: its branch conditions and the buffers it is run on.
-/
module

public import proofs.«01_k».proof.Proof.Gen.GlaIdeal.Frame

public import proofs.«01_k».proof.Proof.Gen.GlaIdeal.Loops

@[expose] public section

set_option maxRecDepth 16384

noncomputable section

namespace Cert.GlaIdeal.Body

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition under which the body clears the state: the tile is the first of its sequence. -/
abbrev cond0_0 (i : grid0.Coords) : Prop := (Scalar.cmpi .ne (Scalar.extui (Scalar.cmpi .eq (BitVec.ofNat 32 (i 1).val) 0#32)) 0#32) = 1#1
/-- It holds at the points divisible by 32. -/
theorem hcond0_0 : ∀ t : Fin cfg0.N, cond0_0 (grid0.coords t) ↔ t.val % 32 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

/-! ## The buffers the body is run on -/

/-- A buffer of output 10, through which its contents are stated; which one does not matter. -/
abbrev VO0_10 : View sig .tc .vmem S1x256x1024 .f32 := (Memref.whole cc0_stg10_0 : Memref sig .tc .vmem S1x256x1024 .f32).view
/-- A buffer of output 11, through which its contents are stated; which one does not matter. -/
abbrev VO0_11 : View sig .tc .vmem S1x4x128x512 .f32 := (Memref.whole cc0_stg11_0 : Memref sig .tc .vmem S1x4x128x512 .f32).view
/-- Each window's buffer at point `t`, and that it is a whole one. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x4x128x512 .f32 := win0_11.stage (cfg0.slots t 11)
abbrev hs0_11 (t : Fin cfg0.N) : (ms0_11 t).IsWhole := hstage0_11 ((cfg0.slots t 11).cast nbuf0_11)
/-- The scratch buffers. -/
abbrev scM0_0 : Memref sig .tc .vmem S256x1024 .f32 := Memref.whole cc0_scratch0
abbrev scM0_1 : Memref sig .tc .vmem S256x2048 .f32 := Memref.whole cc0_scratch1
abbrev scM0_2 : Memref sig .tc .vmem S256x2048 .f32 := Memref.whole cc0_scratch2
abbrev scM0_3 : Memref sig .tc .vmem S256x512 .f32 := Memref.whole cc0_scratch3
abbrev scM0_4 : Memref sig .tc .vmem S256x2048 .f32 := Memref.whole cc0_scratch4
abbrev scM0_5 : Memref sig .tc .vmem S256x2048 .bf16 := Memref.whole cc0_scratch5

/-- The invariant, with the scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## The branch on the decay -/

section Decay

variable (arg2 : Memref sig .tc .vmem S1x256x1024 .f32) (harg2 : arg2.IsWhole) (arg3 : Memref sig .tc .vmem S1x1024 .f32) (harg3 : arg3.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg17 : Memref sig .tc .vmem S256x512 .f32)
  (x0 : Vec F S1x256x1024 .f32) (x1 : Vec F S1x1024 .f32) (x5 : Vec F S1024x128 .bf16) (x6 : Vec F S128x512 .bf16) (x7 : Vec F S1x512 .f32)

/-- The tile's normalised rows, from what the body reads of the tile and of the scale. -/
def normed : FVec F S256x1024 .bf16 :=
  k0_pay57 (View.readAt (Elt F) arg2.view (Rect.unit ![0, 0, 0] S1x256x1024.size inb_S1x256x1024_S1x256x1024_0_0_0).toLoadRect (harg2.unread x0))
    (View.readAt (Elt F) arg3.view (Rect.unit ![0, 0] S1x1024.size inb_S1x1024_S1x1024_0_0).toLoadRect (harg3.unread x1))

/-- What the body stores of the cumulative decays, chunk by chunk, the last first. -/
def decayPieces : List (View.Piece (Elt F) S256x512 .f32) :=
  [⟨Rect.unit ![128, 0] S128x512.size inb_S256x512_S128x512_128_0,
      k0_pay66 (k0_pay61 (normed arg2 harg2 arg3 harg3 x0 x1)
        (View.readAt (Elt F) arg7.view (Rect.unit ![0, 0] S1024x128.size inb_S1024x128_S1024x128_0_0).toLoadRect (harg7.unread x5))
        (View.readAt (Elt F) arg8.view (Rect.unit ![0, 0] S128x512.size inb_S128x512_S128x512_0_0).toLoadRect (harg8.unread x6))
        (View.readAt (Elt F) arg9.view (Rect.unit ![0, 0] S1x512.size inb_S1x512_S1x512_0_0).toLoadRect (harg9.unread x7))) k0_pay63⟩,
    ⟨Rect.unit ![0, 0] S128x512.size inb_S256x512_S128x512_0_0,
      k0_pay65 (k0_pay64 (normed arg2 harg2 arg3 harg3 x0 x1)
        (View.readAt (Elt F) arg7.view (Rect.unit ![0, 0] S1024x128.size inb_S1024x128_S1024x128_0_0).toLoadRect (harg7.unread x5))
        (View.readAt (Elt F) arg8.view (Rect.unit ![0, 0] S128x512.size inb_S128x512_S128x512_0_0).toLoadRect (harg8.unread x6))
        (View.readAt (Elt F) arg9.view (Rect.unit ![0, 0] S1x512.size inb_S1x512_S1x512_0_0).toLoadRect (harg9.unread x7)))⟩]

/-- Whether the least of the tile's cumulative decays is at least -80. -/
def safeWord : BitVec 1 :=
  Scalar.cmpf .oge (k0_pay67 (arg17.view.readCov (decayPieces arg2 harg2 arg3 harg3 arg7 harg7 arg8 harg8 arg9 harg9 x0 x1 x5 x6 x7)
    (Rect.unit ![0, 0] S256x512.size inb_S256x512_S256x512_0_0).toLoadRect)) (FloatOps.ofBits FTy.f32 3265265664#32)

/-- The condition of the branch with the factored weights. -/
abbrev cond0_1 : Prop :=
  Scalar.cmpi .ne (Scalar.extui (safeWord arg2 harg2 arg3 harg3 arg7 harg7 arg8 harg8 arg9 harg9 arg17 x0 x1 x5 x6 x7) : BitVec 32) 0#32 = 1#1

/-- The condition of the branch that goes row by row. -/
abbrev cond0_2 : Prop :=
  Scalar.cmpi .ne (Scalar.extui (Scalar.xori (safeWord arg2 harg2 arg3 harg3 arg7 harg7 arg8 harg8 arg9 harg9 arg17 x0 x1 x5 x6 x7) 1#1) : BitVec 32) 0#32 = 1#1

/-- Where the first branch is not taken, the other is. -/
theorem cond0_2_of_not (h : ¬cond0_1 arg2 harg2 arg3 harg3 arg7 harg7 arg8 harg8 arg9 harg9 arg17 x0 x1 x5 x6 x7) : cond0_2 arg2 harg2 arg3 harg3 arg7 harg7 arg8 harg8 arg9 harg9 arg17 x0 x1 x5 x6 x7 := by
  unfold cond0_1 at h
  unfold cond0_2
  generalize safeWord arg2 harg2 arg3 harg3 arg7 harg7 arg8 harg8 arg9 harg9 arg17 x0 x1 x5 x6 x7 = w at h ⊢
  revert w; decide

/-- Where the first branch is taken, the other is not. -/
theorem not_cond0_2 (h : cond0_1 arg2 harg2 arg3 harg3 arg7 harg7 arg8 harg8 arg9 harg9 arg17 x0 x1 x5 x6 x7) : ¬cond0_2 arg2 harg2 arg3 harg3 arg7 harg7 arg8 harg8 arg9 harg9 arg17 x0 x1 x5 x6 x7 := by
  unfold cond0_1 at h
  unfold cond0_2
  generalize safeWord arg2 harg2 arg3 harg3 arg7 harg7 arg8 harg8 arg9 harg9 arg17 x0 x1 x5 x6 x7 = w at h ⊢
  revert w; decide

end Decay

end Cert.GlaIdeal.Body

end
-- ==== Proof.Gla.RunAS.lean ====
/-
  The body at the first tile of a sequence, with factored weights.
-/
module

public import proofs.«01_k».proof.Proof.Gla.Runs

@[expose] public section

set_option maxRecDepth 16384

noncomputable section

namespace Cert.GlaIdeal.Body

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first tile of a sequence, the decays being small: what it stores, piece by piece, and that it runs. -/
noncomputable def kernelRun0_AS (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) (hc1 : cond0_1 arg2 harg2 arg3 harg3 arg7 harg7 arg8 harg8 arg9 harg9 arg17 x0 x1 x5 x6 x7) (hc2 : ¬cond0_2 arg2 harg2 arg3 harg3 arg7 harg7 arg8 harg8 arg9 harg9 arg17 x0 x1 x5 x6 x7) :
    Σ' (L10 : List (View.Piece (Elt F) S1x256x1024 .f32)), Σ' (L11 : List (View.Piece (Elt F) S1x4x128x512 .f32)), Σ' (LT0 : List (View.Piece (Elt F) S256x1024 .f32)), Σ' (LT1 : List (View.Piece (Elt F) S256x2048 .f32)), Σ' (LT2 : List (View.Piece (Elt F) S256x2048 .f32)), Σ' (LT3 : List (View.Piece (Elt F) S256x512 .f32)), Σ' (LT4 : List (View.Piece (Elt F) S256x2048 .f32)), { LT5 : List (View.Piece (Elt F) S256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LT2) ∗ (∃ f, arg17.view.loc (c : Thread nD τ) ↦[arg17.view.set]{fullShare} arg17.view.writes (Elt F) f LT3) ∗ (∃ f, arg18.view.loc (c : Thread nD τ) ↦[arg18.view.set]{fullShare} arg18.view.writes (Elt F) f LT4) ∗ (∃ f, arg19.view.loc (c : Thread nD τ) ↦[arg19.view.set]{fullShare} arg19.view.writes (Elt F) f LT5)) -∗ K ⟨⟩))
          ⊢ wp frame (wpE (defs₀ (F := F)) Variants.none c none) E (cc0_gla_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0_gla_prompt_eq_skeleton]; unfold cc0_gla_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.GlaIdeal.Body

end
-- ==== Proof.Gla.RunAL.lean ====
/-
  The body at the first tile of a sequence, row by row.
-/
module

public import proofs.«01_k».proof.Proof.Gla.Runs

@[expose] public section

set_option maxRecDepth 16384

noncomputable section

namespace Cert.GlaIdeal.Body

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first tile of a sequence, some decay being large: what it stores, piece by piece, and that it runs. -/
noncomputable def kernelRun0_AL (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) (hc1 : ¬cond0_1 arg2 harg2 arg3 harg3 arg7 harg7 arg8 harg8 arg9 harg9 arg17 x0 x1 x5 x6 x7) (hc2 : cond0_2 arg2 harg2 arg3 harg3 arg7 harg7 arg8 harg8 arg9 harg9 arg17 x0 x1 x5 x6 x7) :
    Σ' (L10 : List (View.Piece (Elt F) S1x256x1024 .f32)), Σ' (L11 : List (View.Piece (Elt F) S1x4x128x512 .f32)), Σ' (LT0 : List (View.Piece (Elt F) S256x1024 .f32)), Σ' (LT1 : List (View.Piece (Elt F) S256x2048 .f32)), Σ' (LT2 : List (View.Piece (Elt F) S256x2048 .f32)), Σ' (LT3 : List (View.Piece (Elt F) S256x512 .f32)), Σ' (LT4 : List (View.Piece (Elt F) S256x2048 .f32)), { LT5 : List (View.Piece (Elt F) S256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LT2) ∗ (∃ f, arg17.view.loc (c : Thread nD τ) ↦[arg17.view.set]{fullShare} arg17.view.writes (Elt F) f LT3) ∗ (∃ f, arg18.view.loc (c : Thread nD τ) ↦[arg18.view.set]{fullShare} arg18.view.writes (Elt F) f LT4) ∗ (∃ f, arg19.view.loc (c : Thread nD τ) ↦[arg19.view.set]{fullShare} arg19.view.writes (Elt F) f LT5)) -∗ K ⟨⟩))
          ⊢ wp frame (wpE (defs₀ (F := F)) Variants.none c none) E (cc0_gla_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0_gla_prompt_eq_skeleton]; unfold cc0_gla_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.GlaIdeal.Body

end
-- ==== Proof.Gla.RunBS.lean ====
/-
  The body at a later tile, with factored weights.
-/
module

public import proofs.«01_k».proof.Proof.Gla.Runs

@[expose] public section

set_option maxRecDepth 16384

noncomputable section

namespace Cert.GlaIdeal.Body

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later tile, the decays being small: what it stores, piece by piece, and that it runs. -/
noncomputable def kernelRun0_BS (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : ¬cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) (xo11 : Vec F S1x4x128x512 .f32) (hc1 : cond0_1 arg2 harg2 arg3 harg3 arg7 harg7 arg8 harg8 arg9 harg9 arg17 x0 x1 x5 x6 x7) (hc2 : ¬cond0_2 arg2 harg2 arg3 harg3 arg7 harg7 arg8 harg8 arg9 harg9 arg17 x0 x1 x5 x6 x7) :
    Σ' (L10 : List (View.Piece (Elt F) S1x256x1024 .f32)), Σ' (L11 : List (View.Piece (Elt F) S1x4x128x512 .f32)), Σ' (LT0 : List (View.Piece (Elt F) S256x1024 .f32)), Σ' (LT1 : List (View.Piece (Elt F) S256x2048 .f32)), Σ' (LT2 : List (View.Piece (Elt F) S256x2048 .f32)), Σ' (LT3 : List (View.Piece (Elt F) S256x512 .f32)), Σ' (LT4 : List (View.Piece (Elt F) S256x2048 .f32)), { LT5 : List (View.Piece (Elt F) S256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LT2) ∗ (∃ f, arg17.view.loc (c : Thread nD τ) ↦[arg17.view.set]{fullShare} arg17.view.writes (Elt F) f LT3) ∗ (∃ f, arg18.view.loc (c : Thread nD τ) ↦[arg18.view.set]{fullShare} arg18.view.writes (Elt F) f LT4) ∗ (∃ f, arg19.view.loc (c : Thread nD τ) ↦[arg19.view.set]{fullShare} arg19.view.writes (Elt F) f LT5)) -∗ K ⟨⟩))
          ⊢ wp frame (wpE (defs₀ (F := F)) Variants.none c none) E (cc0_gla_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0_gla_prompt_eq_skeleton]; unfold cc0_gla_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.GlaIdeal.Body

end
-- ==== Proof.Gla.RunBL.lean ====
/-
  The body at a later tile, row by row.
-/
module

public import proofs.«01_k».proof.Proof.Gla.Runs

@[expose] public section

set_option maxRecDepth 16384

noncomputable section

namespace Cert.GlaIdeal.Body

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later tile, some decay being large: what it stores, piece by piece, and that it runs. -/
noncomputable def kernelRun0_BL (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : ¬cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) (xo11 : Vec F S1x4x128x512 .f32) (hc1 : ¬cond0_1 arg2 harg2 arg3 harg3 arg7 harg7 arg8 harg8 arg9 harg9 arg17 x0 x1 x5 x6 x7) (hc2 : cond0_2 arg2 harg2 arg3 harg3 arg7 harg7 arg8 harg8 arg9 harg9 arg17 x0 x1 x5 x6 x7) :
    Σ' (L10 : List (View.Piece (Elt F) S1x256x1024 .f32)), Σ' (L11 : List (View.Piece (Elt F) S1x4x128x512 .f32)), Σ' (LT0 : List (View.Piece (Elt F) S256x1024 .f32)), Σ' (LT1 : List (View.Piece (Elt F) S256x2048 .f32)), Σ' (LT2 : List (View.Piece (Elt F) S256x2048 .f32)), Σ' (LT3 : List (View.Piece (Elt F) S256x512 .f32)), Σ' (LT4 : List (View.Piece (Elt F) S256x2048 .f32)), { LT5 : List (View.Piece (Elt F) S256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LT2) ∗ (∃ f, arg17.view.loc (c : Thread nD τ) ↦[arg17.view.set]{fullShare} arg17.view.writes (Elt F) f LT3) ∗ (∃ f, arg18.view.loc (c : Thread nD τ) ↦[arg18.view.set]{fullShare} arg18.view.writes (Elt F) f LT4) ∗ (∃ f, arg19.view.loc (c : Thread nD τ) ↦[arg19.view.set]{fullShare} arg19.view.writes (Elt F) f LT5)) -∗ K ⟨⟩))
          ⊢ wp frame (wpE (defs₀ (F := F)) Variants.none c none) E (cc0_gla_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0_gla_prompt_eq_skeleton]; unfold cc0_gla_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.GlaIdeal.Body

end
-- ==== Proof.Gla.Cases.lean ====
/-
  The body at the first tile of a sequence and at a later one, whichever branch its decays select.
-/
module

public import proofs.«01_k».proof.Proof.Gla.RunAS
public import proofs.«01_k».proof.Proof.Gla.RunAL
public import proofs.«01_k».proof.Proof.Gla.RunBS
public import proofs.«01_k».proof.Proof.Gla.RunBL

@[expose] public section

set_option maxRecDepth 16384

noncomputable section

namespace Cert.GlaIdeal.Body

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at the first tile of a sequence, either branch: what it stores, piece by piece, and that it runs. -/
noncomputable def kernelRun0_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) :
    Σ' (L10 : List (View.Piece (Elt F) S1x256x1024 .f32)), Σ' (L11 : List (View.Piece (Elt F) S1x4x128x512 .f32)), Σ' (LT0 : List (View.Piece (Elt F) S256x1024 .f32)), Σ' (LT1 : List (View.Piece (Elt F) S256x2048 .f32)), Σ' (LT2 : List (View.Piece (Elt F) S256x2048 .f32)), Σ' (LT3 : List (View.Piece (Elt F) S256x512 .f32)), Σ' (LT4 : List (View.Piece (Elt F) S256x2048 .f32)), { LT5 : List (View.Piece (Elt F) S256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LT2) ∗ (∃ f, arg17.view.loc (c : Thread nD τ) ↦[arg17.view.set]{fullShare} arg17.view.writes (Elt F) f LT3) ∗ (∃ f, arg18.view.loc (c : Thread nD τ) ↦[arg18.view.set]{fullShare} arg18.view.writes (Elt F) f LT4) ∗ (∃ f, arg19.view.loc (c : Thread nD τ) ↦[arg19.view.set]{fullShare} arg19.view.writes (Elt F) f LT5)) -∗ K ⟨⟩))
          ⊢ wp frame (wpE (defs₀ (F := F)) Variants.none c none) E (cc0_gla_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } :=
  if h : cond0_1 arg2 harg2 arg3 harg3 arg7 harg7 arg8 harg8 arg9 harg9 arg17 x0 x1 x5 x6 x7 then
    kernelRun0_AS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 h (not_cond0_2 arg2 harg2 arg3 harg3 arg7 harg7 arg8 harg8 arg9 harg9 arg17 x0 x1 x5 x6 x7 h)
  else
    kernelRun0_AL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 h (cond0_2_of_not arg2 harg2 arg3 harg3 arg7 harg7 arg8 harg8 arg9 harg9 arg17 x0 x1 x5 x6 x7 h)

/-- The body at a later tile, either branch: what it stores, piece by piece, and that it runs. -/
noncomputable def kernelRun0_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : ¬cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) (xo11 : Vec F S1x4x128x512 .f32) :
    Σ' (L10 : List (View.Piece (Elt F) S1x256x1024 .f32)), Σ' (L11 : List (View.Piece (Elt F) S1x4x128x512 .f32)), Σ' (LT0 : List (View.Piece (Elt F) S256x1024 .f32)), Σ' (LT1 : List (View.Piece (Elt F) S256x2048 .f32)), Σ' (LT2 : List (View.Piece (Elt F) S256x2048 .f32)), Σ' (LT3 : List (View.Piece (Elt F) S256x512 .f32)), Σ' (LT4 : List (View.Piece (Elt F) S256x2048 .f32)), { LT5 : List (View.Piece (Elt F) S256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LT2) ∗ (∃ f, arg17.view.loc (c : Thread nD τ) ↦[arg17.view.set]{fullShare} arg17.view.writes (Elt F) f LT3) ∗ (∃ f, arg18.view.loc (c : Thread nD τ) ↦[arg18.view.set]{fullShare} arg18.view.writes (Elt F) f LT4) ∗ (∃ f, arg19.view.loc (c : Thread nD τ) ↦[arg19.view.set]{fullShare} arg19.view.writes (Elt F) f LT5)) -∗ K ⟨⟩))
          ⊢ wp frame (wpE (defs₀ (F := F)) Variants.none c none) E (cc0_gla_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } :=
  if h : cond0_1 arg2 harg2 arg3 harg3 arg7 harg7 arg8 harg8 arg9 harg9 arg17 x0 x1 x5 x6 x7 then
    kernelRun0_BS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo11 h (not_cond0_2 arg2 harg2 arg3 harg3 arg7 harg7 arg8 harg8 arg9 harg9 arg17 x0 x1 x5 x6 x7 h)
  else
    kernelRun0_BL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo11 h (cond0_2_of_not arg2 harg2 arg3 harg3 arg7 harg7 arg8 harg8 arg9 harg9 arg17 x0 x1 x5 x6 x7 h)

end Cert.GlaIdeal.Body

end
-- ==== Proof.Gla.Frame.lean ====
/-
  The frame of the recurrent layer: what the outputs hold point by point, the body's obligation, the launch.
-/
module

public import proofs.«01_k».proof.Proof.Gla.Cases
public import Idealize.ShloMosaic.Lib.Claim

@[expose] public section

set_option maxRecDepth 16384

noncomputable section

namespace Cert.GlaIdeal.Body

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first tile of a sequence the pieces stored to output 10 cover its block. -/
theorem cover0_A_10 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).1, y ∈ pc.1.set := by
  unfold kernelRun0_A
  rcases Classical.em (cond0_1 arg2 harg2 arg3 harg3 arg7 harg7 arg8 harg8 arg9 harg9 arg17 x0 x1 x5 x6 x7) with h | h
  · rw [dif_pos h]
    exact View.cover_of_tiledL (s := S1x256x1024) _ S1x256x1024.size (by sl_kernel_rfl) y
  · rw [dif_neg h]
    exact View.cover_of_tiledL (s := S1x256x1024) _ S1x256x1024.size (by sl_kernel_rfl) y

/-- What the first tile of a sequence leaves in output 10's buffer. -/
def out0_A_10 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) : Vec F S1x256x1024 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).1)

/-- At the first tile of a sequence the pieces stored to output 11 cover its block. -/
theorem cover0_A_11 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) (y : S1x4x128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.1, y ∈ pc.1.set := by
  unfold kernelRun0_A
  rcases Classical.em (cond0_1 arg2 harg2 arg3 harg3 arg7 harg7 arg8 harg8 arg9 harg9 arg17 x0 x1 x5 x6 x7) with h | h
  · rw [dif_pos h]
    exact View.cover_of_tiledBy (s := S1x4x128x512) _ ![1, 1, 128, 512] (by sl_kernel_rfl) y
  · rw [dif_neg h]
    exact View.cover_of_tiledBy (s := S1x4x128x512) _ ![1, 1, 128, 512] (by sl_kernel_rfl) y

/-- What the first tile of a sequence leaves in output 11's buffer. -/
def out0_A_11 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) : Vec F S1x4x128x512 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.1)

/-- At a later tile the pieces stored to output 10 cover its block. -/
theorem cover0_B_10 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : ¬cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) (xo11 : Vec F S1x4x128x512 .f32) (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo11).1, y ∈ pc.1.set := by
  unfold kernelRun0_B
  rcases Classical.em (cond0_1 arg2 harg2 arg3 harg3 arg7 harg7 arg8 harg8 arg9 harg9 arg17 x0 x1 x5 x6 x7) with h | h
  · rw [dif_pos h]
    exact View.cover_of_tiledL (s := S1x256x1024) _ S1x256x1024.size (by sl_kernel_rfl) y
  · rw [dif_neg h]
    exact View.cover_of_tiledL (s := S1x256x1024) _ S1x256x1024.size (by sl_kernel_rfl) y

/-- What a later tile leaves in output 10's buffer. -/
def out0_B_10 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : ¬cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) (xo11 : Vec F S1x4x128x512 .f32) : Vec F S1x256x1024 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo11).1)

/-- At a later tile the pieces stored to output 11 cover its block. -/
theorem cover0_B_11 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : ¬cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) (xo11 : Vec F S1x4x128x512 .f32) (y : S1x4x128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo11).2.1, y ∈ pc.1.set := by
  unfold kernelRun0_B
  rcases Classical.em (cond0_1 arg2 harg2 arg3 harg3 arg7 harg7 arg8 harg8 arg9 harg9 arg17 x0 x1 x5 x6 x7) with h | h
  · rw [dif_pos h]
    exact View.cover_of_tiledL (s := S1x4x128x512) _ S1x1x128x512.size (by sl_kernel_rfl) y
  · rw [dif_neg h]
    exact View.cover_of_tiledL (s := S1x4x128x512) _ S1x1x128x512.size (by sl_kernel_rfl) y

/-- What a later tile leaves in output 11's buffer. -/
def out0_B_11 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : ¬cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) (xo11 : Vec F S1x4x128x512 .f32) : Vec F S1x4x128x512 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo11).2.1)

/-! ## What the outputs hold after each point -/

/-- What the two outputs' buffers hold after point `n`: at the first tile of a sequence from that tile alone, at a later one
over the state the point before left. -/
def outsAt0 (c : Dev nD) : (n : ℕ) → n < cfg0.N → Vec F S1x256x1024 .f32 × Vec F S1x4x128x512 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 32 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2)

/-- `outsAt0` at the first tile of a sequence. -/
theorem outsAt0_A (c : Dev nD) (t : Fin cfg0.N) (h0 : t.val % 32 = 0) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans rfl

/-- `outsAt0` at a later tile. -/
theorem outsAt0_B (c : Dev nD) (t : Fin cfg0.N) (h0 : ¬t.val % 32 = 0) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The pipeline's proof data on core `c`: the arrays as the region finds them; after the body at point `t` each input's
buffer at its block and the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
/-- At a later tile the state's buffer holds what the point before left. -/
theorem before0_11_B (c : Dev nD) (t : Fin cfg0.N) (h0 : ¬t.val % 32 = 0) (d) :
    (dats m 0 c).before 11 t d = (outsAt0 m c (t.val - 1) (Nat.lt_of_le_of_lt (Nat.sub_le _ _) t.isLt)).2 := by
  have hN : t.val < 128 := lt_of_lt_of_eq t.isLt (show cfg0.N = 128 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 3200000 in
/-- The body at any point takes `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  have hN : t.val < 128 := lt_of_lt_of_eq t.isLt (show cfg0.N = 128 from N_0)
  by_cases h0 : t.val % 32 = 0
  · rw [outsAt0_A m c t h0]
    unfold out0_A_10 out0_A_11; (try dsimp only)
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, ⟨%e10, H10⟩, ⟨%e11, H11⟩, ⟨%fT0, HS0⟩, ⟨%fT1, HS1⟩, ⟨%fT2, HS2⟩, ⟨%fT3, HS3⟩, ⟨%fT4, HS4⟩, ⟨%fT5, HS5⟩⟩
    isplitl [HS0 HS1 HS2 HS3 HS4 HS5 Hg]
    · isplitl [HS0 HS1 HS2 HS3 HS4 HS5]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexists _; unfold owns; iexists _; isplitr
          swap; · iexact HS4
          ipureintro; rfl
        iexists _; unfold owns; iexists _; isplitr
        swap; · iexact HS5
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _)
  · rw [outsAt0_B m c t h0]
    simp only [before0_11_B m c t h0]
    unfold out0_B_10 out0_B_11; (try dsimp only)
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, ⟨%e10, H10⟩, ⟨%e11, H11⟩, ⟨%fT0, HS0⟩, ⟨%fT1, HS1⟩, ⟨%fT2, HS2⟩, ⟨%fT3, HS3⟩, ⟨%fT4, HS4⟩, ⟨%fT5, HS5⟩⟩
    isplitl [HS0 HS1 HS2 HS3 HS4 HS5 Hg]
    · isplitl [HS0 HS1 HS2 HS3 HS4 HS5]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexists _; unfold owns; iexists _; isplitr
          swap; · iexact HS4
          ipureintro; rfl
        iexists _; unfold owns; iexists _; isplitr
        swap; · iexact HS5
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _)

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every fair execution terminates, and every final state has each array of the pipeline at what the proof data say
and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.GlaIdeal.Body

end
-- ==== Proof.Gla.Step.lean ====
/-
  One chunk of 128 positions applied to the state, head by head, and what the run's loads read.
-/
module

public import proofs.«01_k».proof.Proof.Gla.Runs
public import Idealize.ShloMosaic.Lib.Pipeline.ReadBack
public import Idealize.ShloMosaic.Lib.Pipeline.Value
public import Idealize.ShloMosaic.Lib.Pipeline.ValueKit.Tiles
public import Idealize.ShloMosaic.Lib.WritesUnit
public import Idealize.ShloMosaic.Lib.Pointwise

@[expose] public section

set_option maxRecDepth 16384

noncomputable section

namespace Cert.GlaIdeal.Value

open Idealize.ShloMosaic Cert.GlaIdeal Cert.GlaIdeal.Gen

variable {F : FTy → Type} [FloatOps F]

/-- A head's 128 lanes of a chunk. -/
def lanes (h : Fin 4) (x : FVec F S128x512 .f32) : FVec F S128x128 .f32 := match h with
  | 0 => extractStridedSlice S128x128 ![0, 0] x slices_S128x512_o0_0_S128x128
  | 1 => extractStridedSlice S128x128 ![0, 128] x slices_S128x512_o0_128_S128x128
  | 2 => extractStridedSlice S128x128 ![0, 256] x slices_S128x512_o0_256_S128x128
  | 3 => extractStridedSlice S128x128 ![0, 384] x slices_S128x512_o0_384_S128x128

/-- A head's 128 lanes of a row. -/
def rowLanes (h : Fin 4) (x : FVec F S1x512 .f32) : FVec F S1x128 .f32 := match h with
  | 0 => extractStridedSlice S1x128 ![0, 0] x slices_S1x512_o0_0_S1x128
  | 1 => extractStridedSlice S1x128 ![0, 128] x slices_S1x512_o0_128_S1x128
  | 2 => extractStridedSlice S1x128 ![0, 256] x slices_S1x512_o0_256_S1x128
  | 3 => extractStridedSlice S1x128 ![0, 384] x slices_S1x512_o0_384_S1x128

/-- A row of 128 factors, one to a row of the state. -/
def spread (x : FVec F S1x128 .f32) : FVec F S128x512 .f32 :=
  have y : FVec F S128x128 .f32 := transpose S128x128 [1, 0]
    (broadcastTo S128x128 (shapeCast S1x128 x shapeCasts_S1x128_S1x128) broadcasts_S1x128_S128x128) transposes_S128x128_p1_0_S128x128
  concatenate S128x512 1 [⟨S128x128, y⟩, ⟨S128x128, y⟩, ⟨S128x128, y⟩, ⟨S128x128, y⟩]
    concatenates_S128x128_S128x128_S128x128_S128x128_S128x512_d1

/-- One head's state after a chunk with cumulative decays `b`, keys `k` and values `v`, from the state `s`. -/
def headStep (h : Fin 4) (b : Vec F S128x512 .f32) (k : Vec F S128x128 .f32) (v : Vec F S128x512 .f32) (s : Vec F S1x1x128x512 .f32) :
    FVec F S1x1x128x512 .f32 :=
  shapeCast S1x1x128x512
    (addf (mulf (shapeCast S128x512 s shapeCasts_S1x1x128x512_S128x512) (spread (rowLanes h (k0_pay71 b))))
      (matmul dot_S128x128_S128x512_S128x512_1_0_0_1_n_n none
        (truncf .bf16 (transpose S128x128 [1, 0] (mulf k (lanes h (k0_pay70 b))) transposes_S128x128_p1_0_S128x128) bitsLt_bf16_f32)
        (truncf .bf16 v bitsLt_bf16_f32) (constant S128x512 .f32 0x00000000#32)))
    shapeCasts_S128x512_S1x1x128x512

section

variable (b : Vec F S128x512 .f32) (k : Vec F S128x128 .f32) (v : Vec F S128x512 .f32) (s : Vec F S1x1x128x512 .f32)

theorem step_0_0 : k0_pay76 (k0_pay70 b) (k0_pay71 b) k (k0_pay73 v) (k0_pay74 s) = headStep 0 b k v s := rfl

theorem step_0_1 : k0_pay81 (k0_pay70 b) (k0_pay71 b) k (k0_pay77 v) (k0_pay78 s) = headStep 1 b k v s := rfl

theorem step_0_2 : k0_pay86 (k0_pay71 b) (k0_pay82 v) (k0_pay83 s) (k0_pay85 (k0_pay70 b) k) = headStep 2 b k v s := rfl

theorem step_0_3 : k0_pay91 (k0_pay89 (k0_pay71 b) s) (k0_pay90 (k0_pay70 b) k v) = headStep 3 b k v s := rfl

theorem step_1_0 : k0_pay101 (k0_pay96 v) (k0_pay99 b k) (k0_pay100 b s) (constant S128x512 .f32 0x00000000#32) = headStep 0 b k v s := rfl

theorem step_1_1 : k0_pay105 (k0_pay104 (k0_pay94 b) (k0_pay95 b) k v s) = headStep 1 b k v s := rfl

theorem step_1_2 : k0_pay108 (k0_pay94 b) (k0_pay95 b) k v s = headStep 2 b k v s := rfl

theorem step_1_3 : k0_pay112 (k0_pay94 b) (k0_pay95 b) k v s = headStep 3 b k v s := rfl

end

/-- A head's rows of the keys of a chunk, among a tile's queries and keys. -/
abbrev keyRect (c : Fin 2) (h : Fin 4) : Rect S256x1024 := Rect.unit ![128 * c.val, 512 + 128 * h.val] S128x128.size (by
  intro a; fin_cases a
  · show 128 * c.val + 128 ≤ 256; omega
  · show 512 + 128 * h.val + 128 ≤ 1024; omega)

/-- A head's rows of the values of a chunk, among a tile's values. -/
abbrev valRect (c : Fin 2) (h : Fin 4) : Rect S256x2048 := Rect.unit ![128 * c.val, 512 * h.val] S128x512.size (by
  intro a; fin_cases a
  · show 128 * c.val + 128 ≤ 256; omega
  · show 512 * h.val + 512 ≤ 2048; omega)

/-- A head's part of the state. -/
abbrev headRect (h : Fin 4) : Rect S1x4x128x512 := Rect.unit ![0, h.val, 0, 0] S1x1x128x512.size (by
  intro a; fin_cases a
  · show 0 + 1 ≤ 1; omega
  · show h.val + 1 ≤ 4; omega
  · show 0 + 128 ≤ 128; omega
  · show 0 + 512 ≤ 512; omega)

/-- The state from its four heads. -/
def heads (p : Fin 4 → Vec F S1x1x128x512 .f32) : Vec F S1x4x128x512 .f32 := fun y =>
  p (y (1 : Fin 4)) (ix4 0 0 (y (2 : Fin 4)) (y (3 : Fin 4)))

/-- The state after a chunk: the tile's queries and keys `K` and values `W`, the chunk's cumulative decays `b`. -/
def chunk (c : Fin 2) (K : Vec F S256x1024 .f32) (W : Vec F S256x2048 .f32) (b : Vec F S128x512 .f32) (s : Vec F S1x4x128x512 .f32) :
    Vec F S1x4x128x512 .f32 :=
  heads fun h => headStep h b (View.ld K (keyRect c h)) (View.ld W (valRect c h)) (View.ld s (headRect h))

theorem ld_heads (p : Fin 4 → Vec F S1x1x128x512 .f32) (h : Fin 4) : View.ld (heads p) (headRect h) = p h := by
  funext z
  have e0 : ((headRect h).idx z (1 : Fin 4)) = h := Fin.ext (by
    rw [Rect.idx_unit_val]; have : (z (1 : Fin 4)).val < 1 := (z (1 : Fin 4)).isLt
    show h.val + (z (1 : Fin 4)).val = h.val; omega)
  rw [View.ld_apply]
  unfold heads
  rw [e0]
  refine congrArg (p h) (funext fun a => Fin.ext ?_)
  have z0 : (z (0 : Fin 4)).val < 1 := (z (0 : Fin 4)).isLt
  have z1 : (z (1 : Fin 4)).val < 1 := (z (1 : Fin 4)).isLt
  fin_cases a
  · show 0 = (z (0 : Fin 4)).val; omega
  · show 0 = (z (1 : Fin 4)).val; omega
  · show ((headRect h).idx z (2 : Fin 4)).val = (z (2 : Fin 4)).val; rw [Rect.idx_unit_val]; exact Nat.zero_add _
  · show ((headRect h).idx z (3 : Fin 4)).val = (z (3 : Fin 4)).val; rw [Rect.idx_unit_val]; exact Nat.zero_add _

section

variable {κ : Kind} {sp : Space}

/-- A load of what was just stored. -/
theorem load_hit {S : Shape} {e : EltTy} (v : View sig κ sp S e) (off size : Fin S.rank → ℕ) (i i')
    (w : (Rect.unit off size i).shape.Idx → Elt F e) (L : List (View.Piece (Elt F) S e)) :
    v.readCov (⟨Rect.unit off size i, w⟩ :: L) (Rect.unit off size i').toLoadRect = w := by
  rw [View.readCov_eq_canon']
  funext j
  exact View.canon_cons_emb _ w L j

/-- A load of a head's part of the state, past a store into another's. -/
theorem load_skip (v : View sig κ sp S1x4x128x512 .f32) (a b : ℕ) (hab : a ≠ b) (i i')
    (w : (Rect.unit (s := S1x4x128x512) ![0, a, 0, 0] S1x1x128x512.size i).shape.Idx → Elt F .f32)
    (L : List (View.Piece (Elt F) S1x4x128x512 .f32)) :
    v.readCov (⟨Rect.unit ![0, a, 0, 0] S1x1x128x512.size i, w⟩ :: L) (Rect.unit (s := S1x4x128x512) ![0, b, 0, 0] S1x1x128x512.size i').toLoadRect
      = v.readCov L (Rect.unit (s := S1x4x128x512) ![0, b, 0, 0] S1x1x128x512.size i').toLoadRect := by
  show v.readAt (Elt F) _ (v.writes (Elt F) v.junk _) = v.readAt (Elt F) _ (v.writes (Elt F) v.junk _)
  rw [View.readAt_eq_ld, View.readAt_eq_ld]
  funext j
  refine View.read_writes_cons_unit_of_not_mem v _ i w L _ rfl (1 : Fin 4) ?_
  have hj : (j (1 : Fin 4)).val < 1 := (j (1 : Fin 4)).isLt
  have e : ((Rect.unit (s := S1x4x128x512) ![0, b, 0, 0] S1x1x128x512.size i').idx j (1 : Fin 4)).val = b + (j (1 : Fin 4)).val :=
    Rect.idx_unit_val _ _ _ _ _
  show ((Rect.unit (s := S1x4x128x512) ![0, b, 0, 0] S1x1x128x512.size i').idx j (1 : Fin 4)).val < a
    ∨ a + 1 ≤ ((Rect.unit (s := S1x4x128x512) ![0, b, 0, 0] S1x1x128x512.size i').idx j (1 : Fin 4)).val
  rw [e]; omega

/-- A load of the first chunk's cumulative decays, past the store of the second's. -/
theorem load_skip_decay (v : View sig κ sp S256x512 .f32) (i i')
    (w : (Rect.unit (s := S256x512) ![128, 0] S128x512.size i).shape.Idx → Elt F .f32)
    (L : List (View.Piece (Elt F) S256x512 .f32)) :
    v.readCov (⟨Rect.unit ![128, 0] S128x512.size i, w⟩ :: L) (Rect.unit (s := S256x512) ![0, 0] S128x512.size i').toLoadRect
      = v.readCov L (Rect.unit (s := S256x512) ![0, 0] S128x512.size i').toLoadRect := by
  show v.readAt (Elt F) _ (v.writes (Elt F) v.junk _) = v.readAt (Elt F) _ (v.writes (Elt F) v.junk _)
  rw [View.readAt_eq_ld, View.readAt_eq_ld]
  funext j
  refine View.read_writes_cons_unit_of_not_mem v _ i w L _ rfl (0 : Fin 2) (.inl ?_)
  have hj : (j (0 : Fin 2)).val < 128 := (j (0 : Fin 2)).isLt
  have e : ((Rect.unit (s := S256x512) ![0, 0] S128x512.size i').idx j (0 : Fin 2)).val = 0 + (j (0 : Fin 2)).val :=
    Rect.idx_unit_val _ _ _ _ _
  show ((Rect.unit (s := S256x512) ![0, 0] S128x512.size i').idx j (0 : Fin 2)).val < 128
  rw [e]; omega

/-- The state read after its four heads' stores. -/
theorem read_heads (v : View sig κ sp S1x4x128x512 .f32) (f : v.ty.Contents (Elt F)) (p0 p1 p2 p3 : Vec F S1x1x128x512 .f32) (i3 i2 i1 i0)
    (L : List (View.Piece (Elt F) S1x4x128x512 .f32)) :
    v.read (Elt F) (v.writes (Elt F) f (⟨Rect.unit ![0, 3, 0, 0] S1x1x128x512.size i3, p3⟩ :: ⟨Rect.unit ![0, 2, 0, 0] S1x1x128x512.size i2, p2⟩
      :: ⟨Rect.unit ![0, 1, 0, 0] S1x1x128x512.size i1, p1⟩ :: ⟨Rect.unit ![0, 0, 0, 0] S1x1x128x512.size i0, p0⟩ :: L))
      = heads ![p0, p1, p2, p3] := by
  funext y
  have h0 : (y (0 : Fin 4)).val < 1 := (y (0 : Fin 4)).isLt
  have hm : ∀ a : Fin 4, (y (1 : Fin 4)).val = a.val → ∀ d : Fin 4, (y d).val = (![0, a.val, 0, 0] : Fin 4 → ℕ) d
      + ((ix4 (0 : Fin 1) (0 : Fin 1) (y (2 : Fin 4)) (y (3 : Fin 4)) : S1x1x128x512.Idx) d).val := fun a ha d => by
    fin_cases d
    · show (y (0 : Fin 4)).val = 0 + 0; omega
    · show (y (1 : Fin 4)).val = a.val + 0; omega
    · exact (Nat.zero_add _).symm
    · exact (Nat.zero_add _).symm
  have hn : ∀ a : ℕ, (y (1 : Fin 4)).val ≠ a → (y (1 : Fin 4)).val < a ∨ a + 1 ≤ (y (1 : Fin 4)).val := fun a ha => by omega
  unfold heads
  have hc : y (1 : Fin 4) = (0 : Fin 4) ∨ y (1 : Fin 4) = (1 : Fin 4) ∨ y (1 : Fin 4) = (2 : Fin 4) ∨ y (1 : Fin 4) = (3 : Fin 4) := by
    have : (y (1 : Fin 4)).val < 4 := (y (1 : Fin 4)).isLt
    have : (y (1 : Fin 4)).val = 0 ∨ (y (1 : Fin 4)).val = 1 ∨ (y (1 : Fin 4)).val = 2 ∨ (y (1 : Fin 4)).val = 3 := by omega
    rcases this with e | e | e | e
    · exact .inl (Fin.ext e)
    · exact .inr (.inl (Fin.ext e))
    · exact .inr (.inr (.inl (Fin.ext e)))
    · exact .inr (.inr (.inr (Fin.ext e)))
  rcases hc with e | e | e | e
  · rw [View.read_writes_cons_unit_of_not_mem v _ i3 p3 _ y rfl (1 : Fin 4) (hn 3 (by rw [e]; decide)),
      View.read_writes_cons_unit_of_not_mem v _ i2 p2 _ y rfl (1 : Fin 4) (hn 2 (by rw [e]; decide)),
      View.read_writes_cons_unit_of_not_mem v _ i1 p1 _ y rfl (1 : Fin 4) (hn 1 (by rw [e]; decide)),
      View.read_writes_cons_unit_of_mem v _ i0 p0 _ y (ix4 (0 : Fin 1) (0 : Fin 1) (y (2 : Fin 4)) (y (3 : Fin 4))) rfl (hm 0 (by rw [e])), e]
    rfl
  · rw [View.read_writes_cons_unit_of_not_mem v _ i3 p3 _ y rfl (1 : Fin 4) (hn 3 (by rw [e]; decide)),
      View.read_writes_cons_unit_of_not_mem v _ i2 p2 _ y rfl (1 : Fin 4) (hn 2 (by rw [e]; decide)),
      View.read_writes_cons_unit_of_mem v _ i1 p1 _ y (ix4 (0 : Fin 1) (0 : Fin 1) (y (2 : Fin 4)) (y (3 : Fin 4))) rfl (hm 1 (by rw [e])), e]
    rfl
  · rw [View.read_writes_cons_unit_of_not_mem v _ i3 p3 _ y rfl (1 : Fin 4) (hn 3 (by rw [e]; decide)),
      View.read_writes_cons_unit_of_mem v _ i2 p2 _ y (ix4 (0 : Fin 1) (0 : Fin 1) (y (2 : Fin 4)) (y (3 : Fin 4))) rfl (hm 2 (by rw [e])), e]
    rfl
  · rw [View.read_writes_cons_unit_of_mem v _ i3 p3 _ y (ix4 (0 : Fin 1) (0 : Fin 1) (y (2 : Fin 4)) (y (3 : Fin 4))) rfl (hm 3 (by rw [e])), e]
    rfl

/-- A load of part of a buffer. -/
theorem load_part {S : Shape} {e : EltTy} (M : Memref sig κ sp S e) (hM : M.IsWhole) (X : Vec F S e) (r : Rect S) :
    View.readAt (Elt F) M.view r.toLoadRect (hM.unread X) = View.ld X r := by
  rw [View.readAt_eq_ld, hM.read_unread]

/-- A load of a buffer stored into once, whole. -/
theorem load_cov_whole {S : Shape} {e : EltTy} {off : Fin S.rank → ℕ} (h : off = fun _ => 0)
    (v : View sig κ sp S e) (X : Vec F S e) (inb) (r : Rect S) :
    v.readCov [⟨Rect.unit off S.size inb, X⟩] r.toLoadRect = View.ld X r := by
  rw [View.readCov_eq_canon', View.canon_unit_zero h]

end

/-- The state after a tile: the tile's rows `x0` of the residual stream, the gain `x1`, the weights of queries and keys, of values,
and of the gate. -/
def tile (x0 : Vec F S1x256x1024 .f32) (x1 : Vec F S1x1024 .f32) (x2 : Vec F S1024x1024 .bf16) (x3 : Vec F S1024x2048 .bf16)
    (x5 : Vec F S1024x128 .bf16) (x6 : Vec F S128x512 .bf16) (x7 : Vec F S1x512 .f32) (s : Vec F S1x4x128x512 .f32) : Vec F S1x4x128x512 .f32 :=
  chunk 1 (k0_pay58 x0 x1 x2) (k0_pay59 x0 x1 x3) (k0_pay66 (k0_pay61 (k0_pay57 x0 x1) x5 x6 x7) k0_pay63)
    (chunk 0 (k0_pay58 x0 x1 x2) (k0_pay59 x0 x1 x3) (k0_pay65 (k0_pay64 (k0_pay57 x0 x1) x5 x6 x7)) s)

end Cert.GlaIdeal.Value
-- ==== Proof.Gla.Spec.lean ====
/-
  The state over the extended reals: the projections of a position, its log-decays, and the sum over positions that the
  chunks of the program and the one sum of the reference both come to.
-/
module

public import proofs.«01_k».proof.Proof.Swa.Spec

@[expose] public section

noncomputable section

namespace Cert.Decay

open Idealize.ShloMosaic Cert.Swa

/-! ## Log-decays -/

/-- The log-decay from the gate's value before it. -/
def logDecay (g : EReal) : EReal :=
  (min g 0 - Ideal.log1p (Ideal.exp (0 - max g (-g)))) * Ideal.ofBits .f32 0x3D800000#32

theorem ofBits_inv16 : Ideal.ofBits .f32 0x3D800000#32 = (((1 : ℝ) / 16 : ℝ) : EReal) := by
  simp [Ideal.ofBits, Ideal.ieee]; norm_num; rw [← EReal.coe_mul]; norm_num

theorem ofBits_16 : Ideal.ofBits .f32 0x41800000#32 = ((16 : ℝ) : EReal) := by
  simp [Ideal.ofBits, Ideal.ieee]; norm_num; rw [← EReal.coe_mul]; norm_num

theorem log1p_coe {a : ℝ} (ha : 0 < 1 + a) : Ideal.log1p (a : EReal) = ((Real.log (1 + a) : ℝ) : EReal) := by
  have e : (1 : EReal) + (a : EReal) = ((1 + a : ℝ) : EReal) := by rw [EReal.coe_add, EReal.coe_one]
  show Ideal.log (1 + (a : EReal)) = _
  rw [e]
  show (if (1 + a) ≤ 0 then ⊥ else ((Real.log (1 + a) : ℝ) : EReal)) = _
  rw [if_neg (by linarith)]

theorem max_coe (a b : ℝ) : max (a : EReal) (b : EReal) = ((max a b : ℝ) : EReal) := (EReal.coe_strictMono.monotone.map_max).symm

theorem min_coe (a b : ℝ) : min (a : EReal) (b : EReal) = ((min a b : ℝ) : EReal) := (EReal.coe_strictMono.monotone.map_min).symm

/-- The log-decay of a finite gate value. -/
theorem logDecay_coe (g : ℝ) : logDecay (g : EReal)
    = (((min g 0 - Real.log (1 + Real.exp (-|g|))) * (1 / 16) : ℝ) : EReal) := by
  have ha : max (g : EReal) (-(g : EReal)) = ((|g| : ℝ) : EReal) := by rw [← EReal.coe_neg, max_coe]; rfl
  unfold logDecay
  rw [ha, ← EReal.coe_zero, ← EReal.coe_sub, exp_coe, log1p_coe (by positivity), min_coe, ofBits_inv16, ← EReal.coe_sub, ← EReal.coe_mul]
  congr 4
  rw [zero_sub]

theorem logDecay_real {g : EReal} (h : IsReal g) : IsReal (logDecay g) := by
  obtain ⟨a, rfl⟩ := h; exact ⟨_, logDecay_coe a⟩

/-- The log-decay as a quotient of the negated softplus of the negated gate. -/
theorem softplus_eq {g : EReal} (h : IsReal g) :
    Ideal.div (-(max (-g) 0 + Ideal.log1p (Ideal.exp (-(max (-g - 0) (-(-g - 0))))))) (Ideal.ofBits .f32 0x41800000#32) = logDecay g := by
  obtain ⟨a, rfl⟩ := h
  have hs : (-(a : EReal) - 0) = ((-a : ℝ) : EReal) := by rw [sub_zero, EReal.coe_neg]
  have ha : max ((-a : ℝ) : EReal) (-((-a : ℝ) : EReal)) = ((|a| : ℝ) : EReal) := by
    rw [← EReal.coe_neg, max_coe, ← abs_neg]; rfl
  rw [hs, ha, logDecay_coe, ← EReal.coe_neg, ← EReal.coe_neg, ← EReal.coe_zero, exp_coe, log1p_coe (by positivity), max_coe,
    ← EReal.coe_add, ← EReal.coe_neg, ofBits_16, div_coe _ (by norm_num)]
  have hm : max (-a) 0 = -min a 0 := by rw [← neg_zero, max_neg_neg, neg_zero]
  rw [hm]
  congr 1
  ring

/-! ## The state -/

/-- The layer's inputs the state depends on. -/
structure Inputs where
  x : Fin 4 → Fin 8192 → Fin 1024 → EReal
  an : Fin 1024 → EReal
  w : Fin 1024 → Fin 5136 → EReal
  g2 : Fin 16 → Fin 512 → EReal
  bg : Fin 512 → EReal

/-- They are finite. -/
structure Inputs.Finite (L : Inputs) : Prop where
  x : ∀ b p k, IsReal (L.x b p k)
  an : ∀ k, IsReal (L.an k)
  w : ∀ k c, IsReal (L.w k c)
  g2 : ∀ e j, IsReal (L.g2 e j)
  bg : ∀ j, IsReal (L.bg j)

variable (L : Inputs)

/-- A position's row, normed. -/
def Inputs.row (b : Fin 4) (p : Fin 8192) : Fin 1024 → EReal := rowN (L.x b p) L.an

/-- A position's projection. -/
def Inputs.col (b : Fin 4) (p : Fin 8192) (c : Fin 5136) : EReal := ∑ k, L.row b p k * L.w k c

/-- A position's gate before the decay is read off it. -/
def Inputs.gate (b : Fin 4) (p : Fin 8192) (j : Fin 512) : EReal :=
  ∑ e : Fin 16, L.col b p ⟨5120 + e.val, by omega⟩ * L.g2 e j + L.bg j

/-- A position's log-decays. -/
def Inputs.dec (b : Fin 4) (p : Fin 8192) (j : Fin 512) : EReal := logDecay (L.gate b p j)

variable {L}

theorem Inputs.Finite.col (F : L.Finite) (b : Fin 4) (p : Fin 8192) (c : Fin 5136) : IsReal (L.col b p c) :=
  IsReal.sum _ fun k _ => (rowN_real (F.x b p) F.an k).mul (F.w k c)

theorem Inputs.Finite.gate (F : L.Finite) (b : Fin 4) (p : Fin 8192) (j : Fin 512) : IsReal (L.gate b p j) :=
  (IsReal.sum _ fun e _ => (F.col b p _).mul (F.g2 e j)).add (F.bg j)

theorem Inputs.Finite.dec (F : L.Finite) (b : Fin 4) (p : Fin 8192) (j : Fin 512) : IsReal (L.dec b p j) := logDecay_real (F.gate b p j)

/-- A finite sequence over the positions, as real numbers over the naturals. -/
def seq (f : Fin 8192 → EReal) (n : ℕ) : ℝ := if h : n < 8192 then (f ⟨n, h⟩).toReal else 0

theorem seq_coe {f : Fin 8192 → EReal} (hf : ∀ p, IsReal (f p)) (p : Fin 8192) : ((seq f p.val : ℝ) : EReal) = f p := by
  unfold seq
  rw [dif_pos p.isLt]
  exact (hf p).toReal

/-- The decayed sum over the first `n` positions. -/
def run (k a v : ℕ → ℝ) (n : ℕ) : ℝ := ∑ p ∈ Finset.range n, k p * Real.exp (∑ q ∈ Finset.Ico (p + 1) n, a q) * v p

theorem cumul_range (a : ℕ → ℝ) (n : ℕ) (r : Fin 128) :
    ∑ q : Fin 128, (if q.val ≤ r.val then a (n + q.val) else 0) = ∑ q ∈ Finset.range (r.val + 1), a (n + q) := by
  rw [Finset.sum_fin_eq_sum_range]
  have : ∀ i ∈ Finset.range 128, (if h : i < 128 then if (⟨i, h⟩ : Fin 128).val ≤ r.val then a (n + i) else 0 else 0)
      = if i ∈ Finset.range (r.val + 1) then a (n + i) else 0 := fun i hi => by
    rw [dif_pos (Finset.mem_range.mp hi)]
    refine if_congr ?_ rfl rfl
    exact (Finset.mem_range.trans Nat.lt_succ_iff).symm
  rw [Finset.sum_congr rfl this, Finset.sum_ite_mem, Finset.inter_eq_right.mpr]
  exact Finset.range_subset_range.mpr (by omega)

/-- A chunk of 128 positions. -/
theorem run_step (k a v : ℕ → ℝ) (n : ℕ) :
    run k a v (n + 128) = run k a v n * Real.exp (∑ q ∈ Finset.range 128, a (n + q))
      + ∑ r ∈ Finset.range 128, k (n + r) * Real.exp (∑ q ∈ Finset.range 128, a (n + q) - ∑ q ∈ Finset.range (r + 1), a (n + q)) * v (n + r) := by
  have hI : ∀ s ≤ 128, ∑ q ∈ Finset.Ico (n + s) (n + 128), a q
      = ∑ q ∈ Finset.range 128, a (n + q) - ∑ q ∈ Finset.range s, a (n + q) := fun s hs => by
    rw [Finset.sum_Ico_eq_sum_range, eq_sub_iff_add_eq, add_comm, show n + 128 - (n + s) = 128 - s by omega]
    have := Finset.sum_range_add (fun q => a (n + q)) s (128 - s)
    rw [Nat.add_sub_cancel' hs] at this
    rw [this]
    congr 1
    exact Finset.sum_congr rfl fun i _ => by rw [Nat.add_assoc]
  unfold run
  rw [Finset.sum_range_add, Finset.sum_mul]
  congr 1
  · refine Finset.sum_congr rfl fun p hp => ?_
    have hp := Finset.mem_range.mp hp
    have e := Finset.sum_Ico_consecutive a (show p + 1 ≤ n by omega) (show n ≤ n + 128 by omega)
    have e0 := hI 0 (by omega)
    rw [Finset.range_zero, Finset.sum_empty, sub_zero, Nat.add_zero] at e0
    rw [← e, e0, Real.exp_add]
    ring
  · refine Finset.sum_congr rfl fun r hr => ?_
    have hr := Finset.mem_range.mp hr
    rw [Nat.add_assoc n r 1, hI (r + 1) (by omega)]

/-- The same over the extended reals, as a program's chunk has it. -/
theorem chunk_step (k a v : ℕ → ℝ) (n : ℕ) (S : EReal) (B K V : Fin 128 → EReal) (hS : S = ((run k a v n : ℝ) : EReal))
    (hB : ∀ r : Fin 128, B r = ∑ q : Fin 128, if q.val ≤ r.val then ((a (n + q.val) : ℝ) : EReal) else 0)
    (hK : ∀ r, K r = ((k (n + r.val) : ℝ) : EReal)) (hV : ∀ r, V r = ((v (n + r.val) : ℝ) : EReal)) :
    S * Ideal.exp (B 127) + ∑ r : Fin 128, K r * Ideal.exp (B 127 - B r) * V r = ((run k a v (n + 128) : ℝ) : EReal) := by
  have hB' : ∀ r : Fin 128, B r = ((∑ q ∈ Finset.range (r.val + 1), a (n + q) : ℝ) : EReal) := fun r => by
    rw [hB, ← cumul_range, coe_sum]
    refine Finset.sum_congr rfl fun q _ => ?_
    split
    · rfl
    · exact EReal.coe_zero.symm
  have h127 : B 127 = ((∑ q ∈ Finset.range 128, a (n + q) : ℝ) : EReal) := hB' 127
  have ht : ∀ r : Fin 128, K r * Ideal.exp (B 127 - B r) * V r
      = ((k (n + r.val) * Real.exp (∑ q ∈ Finset.range 128, a (n + q) - ∑ q ∈ Finset.range (r.val + 1), a (n + q)) * v (n + r.val) : ℝ) : EReal) := fun r => by
    rw [hK, hV, h127, hB' r, ← EReal.coe_sub, exp_coe, ← EReal.coe_mul, ← EReal.coe_mul]
  rw [Finset.sum_congr rfl fun r _ => ht r, ← coe_sum, h127, exp_coe, hS, ← EReal.coe_mul, ← EReal.coe_add, run_step]
  congr 2

/-- The sum over all positions at once, each decayed by the later ones'. -/
theorem run_all (K A V : Fin 8192 → EReal) (hK : ∀ p, IsReal (K p)) (hA : ∀ p, IsReal (A p)) (hV : ∀ p, IsReal (V p)) :
    ∑ p : Fin 8192, K p * Ideal.exp (∑ q : Fin 8192, A q * (if p.val < q.val then 1 else 0)) * V p
      = ((run (seq K) (seq A) (seq V) 8192 : ℝ) : EReal) := by
  have hs : ∀ p : Fin 8192, ∑ q : Fin 8192, A q * (if p.val < q.val then 1 else 0)
      = ((∑ q ∈ Finset.Ico (p.val + 1) 8192, seq A q : ℝ) : EReal) := fun p => by
    have h1 : ∀ q : Fin 8192, A q * (if p.val < q.val then 1 else 0) = (((if q.val ∈ Finset.Ico (p.val + 1) 8192 then seq A q.val else 0 : ℝ)) : EReal) := fun q => by
      by_cases h : p.val < q.val
      · rw [if_pos h, if_pos (Finset.mem_Ico.mpr ⟨h, q.isLt⟩), mul_one, seq_coe hA]
      · rw [if_neg h, if_neg (fun h' => h (Finset.mem_Ico.mp h').1), mul_zero, EReal.coe_zero]
    rw [Finset.sum_congr rfl fun q _ => h1 q, ← coe_sum,
      Fin.sum_univ_eq_sum_range (fun q => if q ∈ Finset.Ico (p.val + 1) 8192 then seq A q else 0) 8192, Finset.sum_ite_mem, Finset.inter_eq_right.mpr]
    intro i hi
    exact Finset.mem_range.mpr (Finset.mem_Ico.mp hi).2
  have ht : ∀ p : Fin 8192, K p * Ideal.exp (∑ q : Fin 8192, A q * (if p.val < q.val then 1 else 0)) * V p
      = ((seq K p.val * Real.exp (∑ q ∈ Finset.Ico (p.val + 1) 8192, seq A q) * seq V p.val : ℝ) : EReal) := fun p => by
    rw [hs, exp_coe, EReal.coe_mul, EReal.coe_mul, seq_coe hK, seq_coe hV]
  refine (Finset.sum_congr rfl fun p _ => ht p).trans ?_
  rw [← coe_sum]
  unfold run
  exact congrArg Real.toEReal
    (Fin.sum_univ_eq_sum_range (fun p => seq K p * Real.exp (∑ q ∈ Finset.Ico (p + 1) 8192, seq A q) * seq V p) 8192)

variable (L)

/-- The decayed sum over the first `n` positions at one place of a head's state: key lane `j`, value lane `c`. -/
def Inputs.partial (b : Fin 4) (j : Fin 512) (c : Fin 2048) (n : ℕ) : ℝ :=
  run (seq fun p => L.col b p ⟨512 + j.val, by omega⟩) (seq fun p => L.dec b p j) (seq fun p => L.col b p ⟨1024 + c.val, by omega⟩) n

end Cert.Decay

end
-- ==== Proof.Gla.Entries.lean ====
/-
  The tile's functions at an index, over the extended reals.
-/
module

public import proofs.«01_k».proof.Proof.Gla.Step
public import proofs.«01_k».proof.Proof.Gla.Spec
public import proofs.«01_k».proof.Proof.Swa.Entries

@[expose] public section

set_option maxRecDepth 16384

noncomputable section

namespace Cert.GlaIdeal.Value

open Idealize.ShloMosaic Cert.GlaIdeal Cert.GlaIdeal.Gen Cert.Swa Cert.Decay

theorem spread_apply (x : Vec Ideal S1x128 .f32) (d : Fin 128) (v : Fin 512) : (spread (F := Ideal) x (ix2 d v) : EReal) = x (ix2 (0 : Fin 1) d) := by
  pointwise [spread]
  split
  · rfl
  split
  · rfl
  split
  · rfl
  · rfl

/-- A head's lane among the 512 of the four. -/
abbrev lane (h : Fin 4) (d : Fin 128) : Fin 512 := ⟨128 * h.val + d.val, by omega⟩

theorem lanes_apply (h : Fin 4) (x : Vec Ideal S128x512 .f32) (r d : Fin 128) : (lanes (F := Ideal) h x (ix2 r d) : EReal) = x (ix2 r (lane h d)) := by
  fin_cases h
  · show extractStridedSlice S128x128 ![0, 0] x slices_S128x512_o0_0_S128x128 (ix2 r d) = _
    pointwise []
    exact congrArg (fun z => x (ix2 r z)) (Fin.ext ((Nat.zero_add _).symm))
  · show extractStridedSlice S128x128 ![0, 128] x slices_S128x512_o0_128_S128x128 (ix2 r d) = _
    pointwise []
    exact congrArg (fun z => x (ix2 r z)) (Fin.ext (rfl))
  · show extractStridedSlice S128x128 ![0, 256] x slices_S128x512_o0_256_S128x128 (ix2 r d) = _
    pointwise []
    exact congrArg (fun z => x (ix2 r z)) (Fin.ext (rfl))
  · show extractStridedSlice S128x128 ![0, 384] x slices_S128x512_o0_384_S128x128 (ix2 r d) = _
    pointwise []
    exact congrArg (fun z => x (ix2 r z)) (Fin.ext (rfl))

theorem rowLanes_apply (h : Fin 4) (x : Vec Ideal S1x512 .f32) (d : Fin 128) :
    (rowLanes (F := Ideal) h x (ix2 (0 : Fin 1) d) : EReal) = x (ix2 (0 : Fin 1) (lane h d)) := by
  fin_cases h
  · show extractStridedSlice S1x128 ![0, 0] x slices_S1x512_o0_0_S1x128 (ix2 (0 : Fin 1) d) = _
    pointwise []
    exact congrArg (fun z => x (ix2 (0 : Fin 1) z)) (Fin.ext ((Nat.zero_add _).symm))
  · show extractStridedSlice S1x128 ![0, 128] x slices_S1x512_o0_128_S1x128 (ix2 (0 : Fin 1) d) = _
    pointwise []
    exact congrArg (fun z => x (ix2 (0 : Fin 1) z)) (Fin.ext (rfl))
  · show extractStridedSlice S1x128 ![0, 256] x slices_S1x512_o0_256_S1x128 (ix2 (0 : Fin 1) d) = _
    pointwise []
    exact congrArg (fun z => x (ix2 (0 : Fin 1) z)) (Fin.ext (rfl))
  · show extractStridedSlice S1x128 ![0, 384] x slices_S1x512_o0_384_S1x128 (ix2 (0 : Fin 1) d) = _
    pointwise []
    exact congrArg (fun z => x (ix2 (0 : Fin 1) z)) (Fin.ext (rfl))

theorem toEnd_apply (b : Vec Ideal S128x512 .f32) (r : Fin 128) (j : Fin 512) :
    (k0_pay70 (F := Ideal) b (ix2 r j) : EReal) = Ideal.exp (b (ix2 (127 : Fin 128) j) - b (ix2 r j)) := by
  pointwise [k0_pay70, k0_pay69]

theorem whole_apply (b : Vec Ideal S128x512 .f32) (j : Fin 512) :
    (k0_pay71 (F := Ideal) b (ix2 (0 : Fin 1) j) : EReal) = Ideal.exp (b (ix2 (127 : Fin 128) j)) := by
  pointwise [k0_pay71, k0_pay69]

theorem headStep_apply (h : Fin 4) (b : Vec Ideal S128x512 .f32) (k : Vec Ideal S128x128 .f32) (v : Vec Ideal S128x512 .f32)
    (s : Vec Ideal S1x1x128x512 .f32) (d : Fin 128) (e : Fin 512) :
    (headStep (F := Ideal) h b k v s (ix4 (0 : Fin 1) (0 : Fin 1) d e) : EReal) = s (ix4 (0 : Fin 1) (0 : Fin 1) d e) * Ideal.exp (b (ix2 (127 : Fin 128) (lane h d)))
      + ∑ r : Fin 128, k (ix2 r d) * Ideal.exp (b (ix2 (127 : Fin 128) (lane h d)) - b (ix2 r (lane h d))) * v (ix2 r e) := by
  have e0 : (headStep (F := Ideal) h b k v s (ix4 (0 : Fin 1) (0 : Fin 1) d e) : EReal) = s (ix4 (0 : Fin 1) (0 : Fin 1) d e) * spread (rowLanes h (k0_pay71 (F := Ideal) b)) (ix2 d e)
      + ∑ r : Fin 128, k (ix2 r d) * lanes h (k0_pay70 (F := Ideal) b) (ix2 r d) * v (ix2 r e) := by
    unfold headStep
    generalize spread (rowLanes h (k0_pay71 (F := Ideal) b)) = y
    generalize lanes h (k0_pay70 (F := Ideal) b) = z
    pointwise []
  rw [e0, spread_apply, rowLanes_apply, whole_apply]
  simp only [lanes_apply, toEnd_apply]

theorem chunk_apply (c : Fin 2) (K : Vec Ideal S256x1024 .f32) (W : Vec Ideal S256x2048 .f32) (b : Vec Ideal S128x512 .f32)
    (s : Vec Ideal S1x4x128x512 .f32) (h : Fin 4) (d : Fin 128) (e : Fin 512) :
    (chunk (F := Ideal) c K W b s (ix4 (0 : Fin 1) h d e) : EReal) = s (ix4 (0 : Fin 1) h d e) * Ideal.exp (b (ix2 (127 : Fin 128) (lane h d)))
      + ∑ r : Fin 128, K (ix2 (⟨128 * c.val + r.val, by omega⟩ : Fin 256) (⟨512 + 128 * h.val + d.val, by omega⟩ : Fin 1024))
          * Ideal.exp (b (ix2 (127 : Fin 128) (lane h d)) - b (ix2 r (lane h d)))
          * W (ix2 (⟨128 * c.val + r.val, by omega⟩ : Fin 256) (⟨512 * h.val + e.val, by omega⟩ : Fin 2048)) := by
  have e0 : chunk c K W b s (ix4 (0 : Fin 1) h d e)
      = headStep h b (View.ld K (keyRect c h)) (View.ld W (valRect c h)) (View.ld s (headRect h)) (ix4 (0 : Fin 1) (0 : Fin 1) d e) := rfl
  have eK : ∀ r : Fin 128, View.ld K (keyRect c h) (ix2 r d)
      = K (ix2 (⟨128 * c.val + r.val, by omega⟩ : Fin 256) (⟨512 + 128 * h.val + d.val, by omega⟩ : Fin 1024)) := fun r => by
    rw [View.ld_apply]
    refine congrArg K (funext fun a => Fin.ext ?_)
    rw [Rect.idx_unit_val]
    fin_cases a <;> rfl
  have eW : ∀ r : Fin 128, View.ld W (valRect c h) (ix2 r e)
      = W (ix2 (⟨128 * c.val + r.val, by omega⟩ : Fin 256) (⟨512 * h.val + e.val, by omega⟩ : Fin 2048)) := fun r => by
    rw [View.ld_apply]
    refine congrArg W (funext fun a => Fin.ext ?_)
    rw [Rect.idx_unit_val]
    fin_cases a <;> rfl
  have eS : View.ld s (headRect h) (ix4 (0 : Fin 1) (0 : Fin 1) d e) = s (ix4 (0 : Fin 1) h d e) := by
    rw [View.ld_apply]
    refine congrArg s (funext fun a => Fin.ext ?_)
    rw [Rect.idx_unit_val]
    fin_cases a
    · rfl
    · exact Nat.add_zero _
    · exact Nat.zero_add _
    · exact Nat.zero_add _
  rw [e0, headStep_apply, eS]
  simp only [eK, eW]

/-! ## Projections and decays -/

theorem xn_apply (x0 : Vec Ideal S1x256x1024 .f32) (x1 : Vec Ideal S1x1024 .f32) (r : Fin 256) (k : Fin 1024) :
    (k0_pay57 (F := Ideal) x0 x1 (ix2 r k) : EReal) =rowN (fun k => x0 (ix3 (0 : Fin 1) r k)) (fun k => x1 (ix2 (0 : Fin 1) k)) k := by
  pointwise [k0_pay57, k0_pay56]
  rfl

theorem keys_apply (x0 : Vec Ideal S1x256x1024 .f32) (x1 : Vec Ideal S1x1024 .f32) (x2 : Vec Ideal S1024x1024 .bf16) (r : Fin 256) (c : Fin 1024) :
    (k0_pay58 (F := Ideal) x0 x1 x2 (ix2 r c) : EReal) = ∑ k : Fin 1024, k0_pay57 (F := Ideal) x0 x1 (ix2 r k) * x2 (ix2 k c) := by
  unfold k0_pay58
  generalize k0_pay57 (F := Ideal) x0 x1 = y
  pointwise []

theorem vals_apply (x0 : Vec Ideal S1x256x1024 .f32) (x1 : Vec Ideal S1x1024 .f32) (x3 : Vec Ideal S1024x2048 .bf16) (r : Fin 256) (c : Fin 2048) :
    (k0_pay59 (F := Ideal) x0 x1 x3 (ix2 r c) : EReal) = ∑ k : Fin 1024, k0_pay57 (F := Ideal) x0 x1 (ix2 r k) * x3 (ix2 k c) := by
  unfold k0_pay59
  generalize k0_pay57 (F := Ideal) x0 x1 = y
  pointwise []

theorem decay_apply (y : Vec Ideal S256x1024 .bf16) (x5 : Vec Ideal S1024x128 .bf16) (x6 : Vec Ideal S128x512 .bf16)
    (x7 : Vec Ideal S1x512 .f32) (r : Fin 256) (j : Fin 512) :
    (k0_pay61 (F := Ideal) y x5 x6 x7 (ix2 r j) : EReal)
      = logDecay (∑ e : Fin 128, (∑ k : Fin 1024, y (ix2 r k) * x5 (ix2 k e)) * x6 (ix2 e j) + x7 (ix2 (0 : Fin 1) j)) := by
  pointwise [k0_pay61]
  rfl

theorem tri_apply (r c : Fin 128) : (k0_pay63 (F := Ideal) (ix2 r c) : EReal) = if c.val ≤ r.val then 1 else 0 := by
  have e : (k0_pay63 (F := Ideal) (ix2 r c) : EReal)
      = Scalar.select (IntOp.cmpi .sge (BitVec.ofNat 32 r.val) (BitVec.ofNat 32 c.val)) (1 : EReal) 0 := by
    pointwise [k0_pay63, k0_pay62]
  rw [e, sge_eq, toInt_small _ (by omega), toInt_small _ (by omega), pick]
  exact if_congr Nat.cast_le rfl rfl

/-- Cumulative sums of 128 finite log-decays, as the triangle times them plus the triangle times the zero they round by. -/
theorem cumul_eq (L : Fin 128 → EReal) (hL : ∀ r, IsReal (L r)) (r : Fin 128) :
    ∑ q : Fin 128, (k0_pay63 (F := Ideal) (ix2 r q) : EReal) * L q + ∑ q : Fin 128, (k0_pay63 (F := Ideal) (ix2 r q) : EReal) * (L q - L q)
      = ∑ q : Fin 128, if q.val ≤ r.val then L q else 0 := by
  have h0 : ∑ q : Fin 128, (k0_pay63 (F := Ideal) (ix2 r q) : EReal) * (L q - L q) = 0 :=
    Finset.sum_eq_zero fun q _ => by rw [sub_self_of (hL q), mul_zero]
  rw [h0, add_zero]
  refine Finset.sum_congr rfl fun q _ => ?_
  rw [tri_apply]
  split
  · exact one_mul _
  · exact zero_mul _

theorem cumul0_apply (y : Vec Ideal S256x1024 .bf16) (x5 : Vec Ideal S1024x128 .bf16) (x6 : Vec Ideal S128x512 .bf16) (x7 : Vec Ideal S1x512 .f32)
    (r : Fin 128) (j : Fin 512)
    (hL : ∀ q : Fin 128, IsReal (k0_pay61 (F := Ideal) y x5 x6 x7 (ix2 (⟨0 + q.val, by omega⟩ : Fin 256) j))) :
    (k0_pay65 (F := Ideal) (k0_pay64 (F := Ideal) y x5 x6 x7) (ix2 r j) : EReal)
      = ∑ q : Fin 128, if q.val ≤ r.val then (k0_pay61 (F := Ideal) y x5 x6 x7 (ix2 (⟨0 + q.val, by omega⟩ : Fin 256) j) : EReal) else 0 := by
  rw [← cumul_eq _ hL]
  unfold k0_pay65 k0_pay64
  generalize k0_pay61 (F := Ideal) y x5 x6 x7 = L
  generalize k0_pay63 (F := Ideal) = T
  pointwise []

theorem cumul1_apply (L : Vec Ideal S256x512 .f32) (r : Fin 128) (j : Fin 512)
    (hL : ∀ q : Fin 128, IsReal (L (ix2 (⟨128 + q.val, by omega⟩ : Fin 256) j))) :
    (k0_pay66 (F := Ideal) L (k0_pay63 (F := Ideal)) (ix2 r j) : EReal)
      = ∑ q : Fin 128, if q.val ≤ r.val then (L (ix2 (⟨128 + q.val, by omega⟩ : Fin 256) j) : EReal) else 0 := by
  rw [← cumul_eq _ hL]
  unfold k0_pay66
  generalize k0_pay63 (F := Ideal) = T
  pointwise []

end Cert.GlaIdeal.Value

end
-- ==== Proof.Gla.Inputs.lean ====
/-
  What the state's operands hold: the blocks the windows read, entry by entry, as the layer's inputs.
-/
module

public import proofs.«01_k».proof.Proof.Gla.Frame
public import proofs.«01_k».proof.Proof.Gla.Entries
public import proofs.«01_k».proof.Proof.Swa.Inputs
public import Idealize.ShloMosaic.Lib.StableHlo.Run

@[expose] public section

set_option maxRecDepth 16384

noncomputable section

namespace Cert.GlaIdeal.Value

open Idealize.ShloMosaic Idealize.ShloMosaic.TcCoe Cert.GlaIdeal Cert.GlaIdeal.Gen Cert.Swa Cert.Decay

section

variable {F : FTy → Type} [FloatOps F]

variable (m : (ℓ : Loc nD τ sig) → Buf (Elt F) ℓ) (c : Dev nD)

/-- The joint projection as a matrix. -/
abbrev joint (A : Vec F S1x1024x5136 .f32) : Vec F S1024x5136 .f32 := shapeCast S1024x5136 A shapeCasts_S1x1024x5136_S1024x5136

/-- The gate's lower projection, its 16 columns widened by zeros to 128. -/
def wideLow (A : Vec F S1x1024x5136 .f32) : Vec F S1024x128 .bf16 :=
  truncf .bf16 (pad S1024x128 ![0, 0] ![0, 112] ![0, 0]
    (extractStridedSlice S1024x16 ![0, 5120] (joint A) slices_S1024x5136_S1024x16_0_5120 : Vec F S1024x16 .f32)
    (sitofp .f32 (constantI S_ 32 0#32) : Vec F S_ .f32) pads_S1024x16_S1024x128_000_01120 h_S_ : Vec F S1024x128 .f32) bitsLt_bf16_f32

/-- The gate's upper projection, its 16 rows widened by zeros to 128. -/
def wideUp (A : Vec F S1x16x512 .f32) : Vec F S128x512 .bf16 :=
  truncf .bf16 (pad S128x512 ![0, 0] ![112, 0] ![0, 0] (shapeCast S16x512 A shapeCasts_S1x16x512_S16x512 : Vec F S16x512 .f32)
    (sitofp .f32 (constantI S_ 32 0#32) : Vec F S_ .f32) pads_S16x512_S128x512_01120_000 h_S_ : Vec F S128x512 .f32) bitsLt_bf16_f32

theorem in_qk : V m c main_v2 = truncf .bf16 (extractStridedSlice S1024x1024 ![0, 0]
    (joint (m ((c : Thread nD τ).loc main_arg2) : Vec F S1x1024x5136 .f32)) slices_S1024x5136_S1024x1024_0_0 : Vec F S1024x1024 .f32) bitsLt_bf16_f32 := by
  show StableHlo.after (List.flatten [hostOps0, hostOps0_1, hostOps0_2, hostOps0_3, hostOps0_4]) _ (Proc.devRef .tc main_v2) = _
  simp only [List.flatten_cons, List.flatten_nil, List.append_nil, List.cons_append, List.nil_append]
  after_results_simp
  rfl

theorem in_v : V m c main_v4 = truncf .bf16 (extractStridedSlice S1024x2048 ![0, 1024]
    (joint (m ((c : Thread nD τ).loc main_arg2) : Vec F S1x1024x5136 .f32)) slices_S1024x5136_S1024x2048_0_1024 : Vec F S1024x2048 .f32) bitsLt_bf16_f32 := by
  show StableHlo.after (List.flatten [hostOps0, hostOps0_1, hostOps0_2, hostOps0_3, hostOps0_4]) _ (Proc.devRef .tc main_v4) = _
  simp only [List.flatten_cons, List.flatten_nil, List.append_nil, List.cons_append, List.nil_append]
  after_results_simp
  rfl

theorem in_low : V m c main_v9 = wideLow (m ((c : Thread nD τ).loc main_arg2) : Vec F S1x1024x5136 .f32) := by
  show StableHlo.after (List.flatten [hostOps0, hostOps0_1, hostOps0_2, hostOps0_3, hostOps0_4]) _ (Proc.devRef .tc main_v9) = _
  simp only [List.flatten_cons, List.flatten_nil, List.append_nil, List.cons_append, List.nil_append]
  after_results_simp
  rfl

theorem in_up : V m c main_v12 = wideUp (m ((c : Thread nD τ).loc main_arg3) : Vec F S1x16x512 .f32) := by
  show StableHlo.after (List.flatten [hostOps0, hostOps0_1, hostOps0_2, hostOps0_3, hostOps0_4]) _ (Proc.devRef .tc main_v12) = _
  simp only [List.flatten_cons, List.flatten_nil, List.append_nil, List.cons_append, List.nil_append]
  after_results_simp
  rfl

theorem in_bias : V m c main_v14 = broadcastInDim S1x512 ![1] bcast_S512_S1x512_1
    (shapeCast S512 (m ((c : Thread nD τ).loc main_arg4) : Vec F S1x512 .f32) shapeCasts_S1x512_S512) := by
  show StableHlo.after (List.flatten [hostOps0, hostOps0_1, hostOps0_2, hostOps0_3, hostOps0_4]) _ (Proc.devRef .tc main_v14) = _
  simp only [List.flatten_cons, List.flatten_nil, List.append_nil, List.cons_append, List.nil_append]
  after_results_simp
  rfl

theorem in_gain : V m c main_v16 = broadcastInDim S1x1024 ![1] bcast_S1024_S1x1024_1
    (shapeCast S1024 (m ((c : Thread nD τ).loc main_arg1) : Vec F S1x1024 .f32) shapeCasts_S1x1024_S1024) := by
  show StableHlo.after (List.flatten [hostOps0, hostOps0_1, hostOps0_2, hostOps0_3, hostOps0_4]) _ (Proc.devRef .tc main_v16) = _
  simp only [List.flatten_cons, List.flatten_nil, List.append_nil, List.cons_append, List.nil_append]
  after_results_simp
  rfl

end

theorem wideLow_apply (A : Vec Ideal S1x1024x5136 .f32) (k : Fin 1024) (e : Fin 16) :
    (wideLow (F := Ideal) A (ix2 k (⟨e.val, by omega⟩ : Fin 128)) : EReal) = A (ix3 (0 : Fin 1) k (⟨5120 + e.val, by omega⟩ : Fin 5136)) := by
  pointwise [wideLow]

theorem wideUp_apply (A : Vec Ideal S1x16x512 .f32) (e : Fin 128) (j : Fin 512) :
    (wideUp (F := Ideal) A (ix2 e j) : EReal) = if h : e.val < 16 then A (ix3 (0 : Fin 1) (⟨e.val, h⟩ : Fin 16) j) else 0 := by
  have z : (FloatOps.sitofp (F := Ideal) .f32 (0#32) : EReal) = 0 := by
    show (((0#32 : BitVec 32).toInt : ℝ) : EReal) = 0
    simp
  rw [← z]
  pointwise [wideUp]

/-! ## Blocks -/

/-- The sequence of a tile. -/
abbrev seqOf (t : Fin cfg0.N) : Fin 4 := ⟨t.val / 32, by have := t.isLt; have h : cfg0.N = 128 := N_0; omega⟩

/-- A position of a tile, among the sequence's. -/
abbrev posOf (t : Fin cfg0.N) (r : Fin 256) : Fin 8192 := ⟨256 * (t.val % 32) + r.val, by omega⟩

theorem block_x : ∀ t : Fin cfg0.N, win0_0.index t 0 = t.val / 32 ∧ win0_0.index t 1 = t.val % 32 ∧ win0_0.index t 2 = 0 := by decide +kernel

/-- The inputs of the state, read off the program's arguments. -/
def inputsOf (a0 : Vec Ideal S4x8192x1024 .f32) (a1 : Vec Ideal S1x1024 .f32) (a2 : Vec Ideal S1x1024x5136 .f32) (a3 : Vec Ideal S1x16x512 .f32)
    (a4 : Vec Ideal S1x512 .f32) : Inputs where
  x b p k := a0 (ix3 b p k)
  an k := a1 (ix2 (0 : Fin 1) k)
  w k c := a2 (ix3 (0 : Fin 1) k c)
  g2 e j := a3 (ix3 (0 : Fin 1) e j)
  bg j := a4 (ix2 (0 : Fin 1) j)

variable (m : (ℓ : Loc nD τ sig) → Buf (Elt Ideal) ℓ) (c : Dev nD) (t : Fin cfg0.N)

/-- The inputs a run starts from. -/
def inputsAt : Inputs := inputsOf (m ((c : Thread nD τ).loc main_arg0)) (m ((c : Thread nD τ).loc main_arg1))
  (m ((c : Thread nD τ).loc main_arg2)) (m ((c : Thread nD τ).loc main_arg3)) (m ((c : Thread nD τ).loc main_arg4))

theorem read_gain : iblk m c 1 t = V m c main_v16 :=
  funext fun x => Cert.Swa.same_entry (s := S1x1024) (V m c main_v16) x _ fun a => by fin_cases a <;> rfl
theorem read_qk : iblk m c 2 t = V m c main_v2 :=
  funext fun x => Cert.Swa.same_entry (s := S1024x1024) (V m c main_v2) x _ fun a => by fin_cases a <;> rfl
theorem read_v : iblk m c 3 t = V m c main_v4 :=
  funext fun x => Cert.Swa.same_entry (s := S1024x2048) (V m c main_v4) x _ fun a => by fin_cases a <;> rfl
theorem read_low : iblk m c 5 t = V m c main_v9 :=
  funext fun x => Cert.Swa.same_entry (s := S1024x128) (V m c main_v9) x _ fun a => by fin_cases a <;> rfl
theorem read_up : iblk m c 6 t = V m c main_v12 :=
  funext fun x => Cert.Swa.same_entry (s := S128x512) (V m c main_v12) x _ fun a => by fin_cases a <;> rfl
theorem read_bias : iblk m c 7 t = V m c main_v14 :=
  funext fun x => Cert.Swa.same_entry (s := S1x512) (V m c main_v14) x _ fun a => by fin_cases a <;> rfl

theorem tile_x (r : Fin 256) (k : Fin 1024) : iblk m c 0 t (ix3 (0 : Fin 1) r k) = (inputsAt m c).x (seqOf t) (posOf t r) k := by
  obtain ⟨h0, h1, h2⟩ := block_x t
  unfold iblk
  rw [View.read_apply]
  show V m c main_arg0 _ = (m ((c : Thread nD τ).loc main_arg0) : Vec Ideal S4x8192x1024 .f32) (ix3 (seqOf t) (posOf t r) k)
  rw [V_main_arg0]
  generalize (m ((c : Thread nD τ).loc main_arg0)) = A
  congr 1
  funext a
  apply Fin.ext
  match a with
  | ⟨0, _⟩ => show win0_0.index t 0 * 1 + 1 * 0 = t.val / 32; rw [h0]; omega
  | ⟨1, _⟩ => show win0_0.index t 1 * 256 + 1 * r.val = 256 * (t.val % 32) + r.val; rw [h1]; omega
  | ⟨2, _⟩ => show win0_0.index t 2 * 1024 + 1 * k.val = k.val; rw [h2]; omega

theorem tile_gain (k : Fin 1024) : iblk m c 1 t (ix2 (0 : Fin 1) k) = (inputsAt m c).an k := by
  rw [read_gain, in_gain]
  show _ = (m ((c : Thread nD τ).loc main_arg1) : Vec Ideal S1x1024 .f32) (ix2 (0 : Fin 1) k)
  generalize (m ((c : Thread nD τ).loc main_arg1) : Vec Ideal S1x1024 .f32) = A
  pointwise []

theorem tile_qk (k j : Fin 1024) : iblk m c 2 t (ix2 k j) = (inputsAt m c).w k ⟨j.val, by omega⟩ := by
  rw [read_qk, in_qk]
  show _ = (m ((c : Thread nD τ).loc main_arg2) : Vec Ideal S1x1024x5136 .f32) (ix3 (0 : Fin 1) k (⟨j.val, by omega⟩ : Fin 5136))
  generalize (m ((c : Thread nD τ).loc main_arg2) : Vec Ideal S1x1024x5136 .f32) = A
  pointwise []

theorem tile_v (k : Fin 1024) (j : Fin 2048) : iblk m c 3 t (ix2 k j) = (inputsAt m c).w k ⟨1024 + j.val, by omega⟩ := by
  rw [read_v, in_v]
  show _ = (m ((c : Thread nD τ).loc main_arg2) : Vec Ideal S1x1024x5136 .f32) (ix3 (0 : Fin 1) k (⟨1024 + j.val, by omega⟩ : Fin 5136))
  generalize (m ((c : Thread nD τ).loc main_arg2) : Vec Ideal S1x1024x5136 .f32) = A
  pointwise []

theorem tile_low (k : Fin 1024) (e : Fin 16) :
    iblk m c 5 t (ix2 k (⟨e.val, by omega⟩ : Fin 128)) = (inputsAt m c).w k ⟨5120 + e.val, by omega⟩ := by
  rw [read_low, in_low]
  exact wideLow_apply _ k e

theorem tile_up (e : Fin 128) (j : Fin 512) :
    iblk m c 6 t (ix2 e j) = if h : e.val < 16 then (inputsAt m c).g2 ⟨e.val, h⟩ j else 0 := by
  rw [read_up, in_up]
  exact wideUp_apply _ e j

theorem tile_bias (j : Fin 512) : iblk m c 7 t (ix2 (0 : Fin 1) j) = (inputsAt m c).bg j := by
  rw [read_bias, in_bias]
  show _ = (m ((c : Thread nD τ).loc main_arg4) : Vec Ideal S1x512 .f32) (ix2 (0 : Fin 1) j)
  generalize (m ((c : Thread nD τ).loc main_arg4) : Vec Ideal S1x512 .f32) = A
  pointwise []

end Cert.GlaIdeal.Value

end
-- ==== Proof.Gla.Finite.lean ====
/-
  The precondition of the recurrent layer read back: the argument entries it names are real numbers, so the inputs of the state are.
-/
module

public import proofs.«01_k».proof.Pre_finite_args2
public import proofs.«01_k».proof.Proof.Swa.Finite
public import proofs.«01_k».proof.Proof.Gla.Inputs

@[expose] public section

noncomputable section

namespace Cert.Decay

open Idealize.ShloMosaic Cert.Swa Cert.GlaIdeal.Value

/-- The side conditions of the precondition's operations. -/
instance preFacts : Cert.Pre_finite_args2.Facts where
  bcast_S_S4x8192x1024 := by decide
  reducesTo_S4x8192x1024_S_d0_1_2 := by decide
  h_S_ := by decide
  bcast_S_S1x1024 := by decide
  reducesTo_S1x1024_S_d0_1 := by decide
  bcast_S_S1x1024x5136 := by decide
  reducesTo_S1x1024x5136_S_d0_1_2 := by decide
  bcast_S_S1x16x512 := by decide
  reducesTo_S1x16x512_S_d0_1_2 := by decide
  bcast_S_S1x512 := by decide
  reducesTo_S1x512_S_d0_1 := by decide

open Cert.Pre_finite_args2

/-- Under the precondition the state's inputs are real numbers. -/
theorem inputsOf_finite (a0 : FVec Ideal S4x8192x1024 .f32) (a1 : FVec Ideal S1x1024 .f32) (a2 : FVec Ideal S1x1024x5136 .f32)
    (a3 : FVec Ideal S1x16x512 .f32) (a4 a5 : FVec Ideal S1x512 .f32) (a6 : FVec Ideal S1x2048x1024 .f32)
    (h : Cert.Pre_finite_args2.fn (F := Ideal) a0 a1 a2 a3 a4 a5 a6 = fun _ => 1#1) : (inputsOf a0 a1 a2 a3 a4).Finite := by
  have e := congrFun h (fun k => k.elim0)
  unfold fn fn_part1 at e
  obtain ⟨e, h4⟩ := both_one e
  obtain ⟨e, h3⟩ := both_one e
  obtain ⟨e, h2⟩ := both_one e
  obtain ⟨h0, h1⟩ := both_one e
  exact {
    x := fun b p k => isReal_of_all a0 _ _ _ _ h0 _
    an := fun k => isReal_of_all a1 _ _ _ _ h1 _
    w := fun k c => isReal_of_all a2 _ _ _ _ h2 _
    g2 := fun e j => isReal_of_all a3 _ _ _ _ h3 _
    bg := fun j => isReal_of_all a4 _ _ _ _ h4 _ }

end Cert.Decay

end
-- ==== Proof.Gla.State.lean ====
/-
  What a run leaves in the state's block: the tile applied to the state it found.
-/
module

public import proofs.«01_k».proof.Proof.Gla.Frame
public import proofs.«01_k».proof.Proof.Gla.Step

@[expose] public section

set_option maxRecDepth 16384

noncomputable section

namespace Cert.GlaIdeal.Value

open Idealize.ShloMosaic Idealize.ShloMosaic.TcCoe Idealize.ShloMosaic.Tactic Cert.GlaIdeal Cert.GlaIdeal.Gen Cert.GlaIdeal.Body

variable {F : FTy → Type} [FloatOps F]

theorem zero2 : (![0, 0] : Fin 2 → ℕ) = fun _ => 0 := by funext a; fin_cases a <;> rfl

theorem zero3 : (![0, 0, 0] : Fin 3 → ℕ) = fun _ => 0 := by funext a; fin_cases a <;> rfl

theorem zero4 : (![0, 0, 0, 0] : Fin 4 → ℕ) = fun _ => 0 := by funext a; fin_cases a <;> rfl

/-- The tile from the eight heads' steps. -/
theorem tile_eq (x0 : Vec F S1x256x1024 .f32) (x1 : Vec F S1x1024 .f32) (x2 : Vec F S1024x1024 .bf16) (x3 : Vec F S1024x2048 .bf16)
    (x5 : Vec F S1024x128 .bf16) (x6 : Vec F S128x512 .bf16) (x7 : Vec F S1x512 .f32) (s : Vec F S1x4x128x512 .f32) :
    tile x0 x1 x2 x3 x5 x6 x7 s = heads fun h => headStep h (k0_pay66 (k0_pay61 (k0_pay57 x0 x1) x5 x6 x7) k0_pay63)
      (View.ld (k0_pay58 x0 x1 x2) (keyRect 1 h)) (View.ld (k0_pay59 x0 x1 x3) (valRect 1 h))
      (headStep h (k0_pay65 (k0_pay64 (k0_pay57 x0 x1) x5 x6 x7)) (View.ld (k0_pay58 x0 x1 x2) (keyRect 0 h))
        (View.ld (k0_pay59 x0 x1 x3) (valRect 0 h)) (View.ld s (headRect h))) := by
  unfold tile chunk
  simp only [ld_heads]

theorem out0_B_11_eq (c : Dev nD) (i : grid0.Coords)
    (arg2 : Memref sig .tc .vmem S1x256x1024 .f32) (harg2 : arg2.IsWhole) (arg3 : Memref sig .tc .vmem S1x1024 .f32)
    (harg3 : arg3.IsWhole) (arg4 : Memref sig .tc .vmem S1024x1024 .bf16) (harg4 : arg4.IsWhole)
    (arg5 : Memref sig .tc .vmem S1024x2048 .bf16) (harg5 : arg5.IsWhole) (arg6 : Memref sig .tc .vmem S1024x2048 .bf16)
    (harg6 : arg6.IsWhole) (arg7 : Memref sig .tc .vmem S1024x128 .bf16) (harg7 : arg7.IsWhole)
    (arg8 : Memref sig .tc .vmem S128x512 .bf16) (harg8 : arg8.IsWhole) (arg9 : Memref sig .tc .vmem S1x512 .f32)
    (harg9 : arg9.IsWhole) (arg10 : Memref sig .tc .vmem S1x512 .f32) (harg10 : arg10.IsWhole)
    (arg11 : Memref sig .tc .vmem S2048x1024 .bf16) (harg11 : arg11.IsWhole) (arg12 : Memref sig .tc .vmem S1x256x1024 .f32)
    (harg12 : arg12.IsWhole) (arg13 : Memref sig .tc .vmem S1x4x128x512 .f32) (harg13 : arg13.IsWhole)
    (arg14 : Memref sig .tc .vmem S256x1024 .f32) (harg14 : arg14.IsWhole) (arg15 : Memref sig .tc .vmem S256x2048 .f32)
    (harg15 : arg15.IsWhole) (arg16 : Memref sig .tc .vmem S256x2048 .f32) (harg16 : arg16.IsWhole)
    (arg17 : Memref sig .tc .vmem S256x512 .f32) (harg17 : arg17.IsWhole) (arg18 : Memref sig .tc .vmem S256x2048 .f32)
    (harg18 : arg18.IsWhole) (arg19 : Memref sig .tc .vmem S256x2048 .bf16) (harg19 : arg19.IsWhole) (hc0 : ¬cond0_0 i)
    (x0 : Vec F S1x256x1024 .f32) (x1 : Vec F S1x1024 .f32) (x2 : Vec F S1024x1024 .bf16) (x3 : Vec F S1024x2048 .bf16)
    (x4 : Vec F S1024x2048 .bf16) (x5 : Vec F S1024x128 .bf16) (x6 : Vec F S128x512 .bf16) (x7 : Vec F S1x512 .f32)
    (x8 : Vec F S1x512 .f32) (x9 : Vec F S2048x1024 .bf16) (xo11 : Vec F S1x4x128x512 .f32) :
    out0_B_11 c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 hc0 x0 x1
      x2 x3 x4 x5 x6 x7 x8 x9 xo11
      = tile x0 x1 x2 x3 x5 x6 x7 xo11 := by
  unfold out0_B_11 kernelRun0_B
  rw [tile_eq]
  rcases Classical.em (cond0_1 arg2 harg2 arg3 harg3 arg7 harg7 arg8 harg8 arg9 harg9 arg17 x0 x1 x5 x6 x7) with h | h
    <;> [(rw [dif_pos h]; unfold kernelRun0_BS); (rw [dif_neg h]; unfold kernelRun0_BL)]
  all_goals
    dsimp only
    sl_unfold_words
    simp (proj := false) only [load_part, View.ld_unit_zero (S := S1x256x1024) zero3, View.ld_unit_zero (S := S1x1024) zero2,
      View.ld_unit_zero (S := S1024x1024) zero2, View.ld_unit_zero (S := S1024x2048) zero2, View.ld_unit_zero (S := S1024x128) zero2,
      View.ld_unit_zero (S := S128x512) zero2, View.ld_unit_zero (S := S1x512) zero2, load_cov_whole (S := S256x1024) zero2,
      load_cov_whole (S := S256x2048) zero2, load_cov_whole (S := S1x4x128x512) zero4, load_hit,
      load_skip, load_skip_decay, ne_eq, OfNat.ofNat_ne_zero, OfNat.zero_ne_ofNat, OfNat.one_ne_ofNat, OfNat.ofNat_ne_one, one_ne_zero,
      zero_ne_one, Nat.reduceEqDiff, not_false_eq_true, step_0_0, step_0_1, step_0_2, step_0_3, step_1_0, step_1_1, step_1_2, step_1_3]
    refine (read_heads _ _ _ _ _ _ _ _ _ _ _).trans (congrArg heads (funext fun h => ?_))
    fin_cases h <;> rfl

theorem out0_A_11_eq (c : Dev nD) (i : grid0.Coords)
    (arg2 : Memref sig .tc .vmem S1x256x1024 .f32) (harg2 : arg2.IsWhole) (arg3 : Memref sig .tc .vmem S1x1024 .f32)
    (harg3 : arg3.IsWhole) (arg4 : Memref sig .tc .vmem S1024x1024 .bf16) (harg4 : arg4.IsWhole)
    (arg5 : Memref sig .tc .vmem S1024x2048 .bf16) (harg5 : arg5.IsWhole) (arg6 : Memref sig .tc .vmem S1024x2048 .bf16)
    (harg6 : arg6.IsWhole) (arg7 : Memref sig .tc .vmem S1024x128 .bf16) (harg7 : arg7.IsWhole)
    (arg8 : Memref sig .tc .vmem S128x512 .bf16) (harg8 : arg8.IsWhole) (arg9 : Memref sig .tc .vmem S1x512 .f32)
    (harg9 : arg9.IsWhole) (arg10 : Memref sig .tc .vmem S1x512 .f32) (harg10 : arg10.IsWhole)
    (arg11 : Memref sig .tc .vmem S2048x1024 .bf16) (harg11 : arg11.IsWhole) (arg12 : Memref sig .tc .vmem S1x256x1024 .f32)
    (harg12 : arg12.IsWhole) (arg13 : Memref sig .tc .vmem S1x4x128x512 .f32) (harg13 : arg13.IsWhole)
    (arg14 : Memref sig .tc .vmem S256x1024 .f32) (harg14 : arg14.IsWhole) (arg15 : Memref sig .tc .vmem S256x2048 .f32)
    (harg15 : arg15.IsWhole) (arg16 : Memref sig .tc .vmem S256x2048 .f32) (harg16 : arg16.IsWhole)
    (arg17 : Memref sig .tc .vmem S256x512 .f32) (harg17 : arg17.IsWhole) (arg18 : Memref sig .tc .vmem S256x2048 .f32)
    (harg18 : arg18.IsWhole) (arg19 : Memref sig .tc .vmem S256x2048 .bf16) (harg19 : arg19.IsWhole) (hc0 : cond0_0 i)
    (x0 : Vec F S1x256x1024 .f32) (x1 : Vec F S1x1024 .f32) (x2 : Vec F S1024x1024 .bf16) (x3 : Vec F S1024x2048 .bf16)
    (x4 : Vec F S1024x2048 .bf16) (x5 : Vec F S1024x128 .bf16) (x6 : Vec F S128x512 .bf16) (x7 : Vec F S1x512 .f32)
    (x8 : Vec F S1x512 .f32) (x9 : Vec F S2048x1024 .bf16) :
    out0_A_11 c i
      arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 hc0 x0 x1
      x2 x3 x4 x5 x6 x7 x8 x9
      = tile x0 x1 x2 x3 x5 x6 x7 k0_pay55 := by
  unfold out0_A_11 kernelRun0_A
  rw [tile_eq]
  rcases Classical.em (cond0_1 arg2 harg2 arg3 harg3 arg7 harg7 arg8 harg8 arg9 harg9 arg17 x0 x1 x5 x6 x7) with h | h
    <;> [(rw [dif_pos h]; unfold kernelRun0_AS); (rw [dif_neg h]; unfold kernelRun0_AL)]
  all_goals
    dsimp only
    sl_unfold_words
    simp (proj := false) only [load_part, View.ld_unit_zero (S := S1x256x1024) zero3, View.ld_unit_zero (S := S1x1024) zero2,
      View.ld_unit_zero (S := S1024x1024) zero2, View.ld_unit_zero (S := S1024x2048) zero2, View.ld_unit_zero (S := S1024x128) zero2,
      View.ld_unit_zero (S := S128x512) zero2, View.ld_unit_zero (S := S1x512) zero2, load_cov_whole (S := S256x1024) zero2,
      load_cov_whole (S := S256x2048) zero2, load_cov_whole (S := S1x4x128x512) zero4, load_hit,
      load_skip, load_skip_decay, ne_eq, OfNat.ofNat_ne_zero, OfNat.zero_ne_ofNat, OfNat.one_ne_ofNat, OfNat.ofNat_ne_one, one_ne_zero,
      zero_ne_one, Nat.reduceEqDiff, not_false_eq_true, step_0_0, step_0_1, step_0_2, step_0_3, step_1_0, step_1_1, step_1_2, step_1_3]
    refine (read_heads _ _ _ _ _ _ _ _ _ _ _).trans (congrArg heads (funext fun h => ?_))
    fin_cases h <;> rfl

end Cert.GlaIdeal.Value

end
-- ==== Proof.Gla.Result.lean ====
/-
  The state the program leaves is the decayed sum over all positions: each tile adds its 256 positions to it, 128 at a time.
-/
module

public import proofs.«01_k».proof.Proof.Gla.State
public import proofs.«01_k».proof.Proof.Gla.Inputs

@[expose] public section

set_option maxRecDepth 16384

noncomputable section

namespace Cert.Decay

open Idealize.ShloMosaic Cert.Swa

/-- Adding 128 positions to the decayed sum. -/
theorem partial_step {L : Inputs} (F : L.Finite) (b : Fin 4) (j : Fin 512) (c : Fin 2048) (n : ℕ) (hn : n + 128 ≤ 8192) (S : EReal)
    (B K V : Fin 128 → EReal) (hS : S = ((L.partial b j c n : ℝ) : EReal))
    (hB : ∀ r : Fin 128, B r = ∑ q : Fin 128, if q.val ≤ r.val then L.dec b ⟨n + q.val, by omega⟩ j else 0)
    (hK : ∀ r : Fin 128, K r = L.col b ⟨n + r.val, by omega⟩ ⟨512 + j.val, by omega⟩)
    (hV : ∀ r : Fin 128, V r = L.col b ⟨n + r.val, by omega⟩ ⟨1024 + c.val, by omega⟩) :
    S * Ideal.exp (B 127) + ∑ r : Fin 128, K r * Ideal.exp (B 127 - B r) * V r = ((L.partial b j c (n + 128) : ℝ) : EReal) := by
  refine chunk_step _ _ _ n S B K V hS (fun r => ?_) (fun r => ?_) (fun r => ?_)
  · rw [hB]
    refine Finset.sum_congr rfl fun q _ => if_congr Iff.rfl ?_ rfl
    exact (seq_coe (fun p => F.dec b p j) ⟨n + q.val, by omega⟩).symm
  · rw [hK]
    exact (seq_coe (fun p => F.col b p ⟨512 + j.val, by omega⟩) ⟨n + r.val, by omega⟩).symm
  · rw [hV]
    exact (seq_coe (fun p => F.col b p ⟨1024 + c.val, by omega⟩) ⟨n + r.val, by omega⟩).symm

theorem partial_zero (L : Inputs) (b : Fin 4) (j : Fin 512) (c : Fin 2048) : L.partial b j c 0 = 0 := by
  unfold Inputs.partial run
  exact Finset.sum_range_zero _

/-- A sum of 128 terms of which only the first 16 are not zero. -/
theorem sum_first (f : Fin 128 → EReal) (h : ∀ e : Fin 128, 16 ≤ e.val → f e = 0) :
    ∑ e, f e = ∑ e : Fin 16, f ⟨e.val, by omega⟩ := by
  have s := Fin.sum_univ_add (a := 16) (b := 112) f
  rw [Finset.sum_eq_zero (s := Finset.univ) (f := fun i : Fin 112 => f (Fin.natAdd 16 i))
    (fun i _ => h _ (by show 16 ≤ 16 + i.val; omega)), add_zero] at s
  exact s

end Cert.Decay

namespace Cert.GlaIdeal.Value

open Idealize.ShloMosaic Idealize.ShloMosaic.TcCoe Idealize.SL.Sem Cert.GlaIdeal Cert.GlaIdeal.Gen Cert.GlaIdeal.Body Cert.Swa Cert.Decay

variable (m : (ℓ : Loc nD τ sig) → Buf (Elt Ideal) ℓ) (c : Dev nD) (t : Fin cfg0.N)

theorem normed_at (r : Fin 256) (k : Fin 1024) :
    (k0_pay57 (F := Ideal) (iblk m c 0 t) (iblk m c 1 t) (ix2 r k) : EReal) = (inputsAt m c).row (seqOf t) (posOf t r) k := by
  rw [xn_apply]
  exact congrFun (congrArg₂ rowN (funext fun k => tile_x m c t r k) (funext fun k => tile_gain m c t k)) k

theorem keys_at (r : Fin 256) (j : Fin 1024) :
    (k0_pay58 (F := Ideal) (iblk m c 0 t) (iblk m c 1 t) (iblk m c 2 t) (ix2 r j) : EReal)
      = (inputsAt m c).col (seqOf t) (posOf t r) ⟨j.val, by omega⟩ := by
  rw [keys_apply]
  exact Finset.sum_congr rfl fun k _ => congrArg₂ (· * ·) (normed_at m c t r k) (tile_qk m c t k j)

theorem vals_at (r : Fin 256) (j : Fin 2048) :
    (k0_pay59 (F := Ideal) (iblk m c 0 t) (iblk m c 1 t) (iblk m c 3 t) (ix2 r j) : EReal)
      = (inputsAt m c).col (seqOf t) (posOf t r) ⟨1024 + j.val, by omega⟩ := by
  rw [vals_apply]
  exact Finset.sum_congr rfl fun k _ => congrArg₂ (· * ·) (normed_at m c t r k) (tile_v m c t k j)

theorem dec_at (r : Fin 256) (j : Fin 512) :
    (k0_pay61 (F := Ideal) (k0_pay57 (F := Ideal) (iblk m c 0 t) (iblk m c 1 t)) (iblk m c 5 t) (iblk m c 6 t) (iblk m c 7 t) (ix2 r j) : EReal)
      = (inputsAt m c).dec (seqOf t) (posOf t r) j := by
  rw [decay_apply]
  refine congrArg logDecay (congrArg₂ (· + ·) ?_ (tile_bias m c t j))
  rw [sum_first _ fun e he => ?_]
  · refine Finset.sum_congr rfl fun e _ => congrArg₂ (· * ·) ?_ ?_
    · exact Finset.sum_congr rfl fun k _ => congrArg₂ (· * ·) (normed_at m c t r k) (tile_low m c t k e)
    · exact (tile_up m c t _ j).trans (dif_pos e.isLt)
  · rw [tile_up, dif_neg (by omega), mul_zero]

variable {m c t}

/-- Adding half a tile. -/
theorem half_step (F : (inputsAt m c).Finite) (i : Fin 2) (bb : Vec Ideal S128x512 .f32) (s : Vec Ideal S1x4x128x512 .f32) (h : Fin 4) (d : Fin 128)
    (e : Fin 512) (n n' : ℕ) (hn : n = 256 * (t.val % 32) + 128 * i.val) (hn' : n' = n + 128)
    (hs : (s (ix4 (0 : Fin 1) h d e) : EReal) = (((inputsAt m c).partial (seqOf t) (lane h d) ⟨512 * h.val + e.val, by omega⟩ n : ℝ) : EReal))
    (hb : ∀ r : Fin 128, (bb (ix2 r (lane h d)) : EReal)
      = ∑ q : Fin 128, if q.val ≤ r.val then (inputsAt m c).dec (seqOf t) (posOf t ⟨128 * i.val + q.val, by omega⟩) (lane h d) else 0) :
    (chunk (F := Ideal) i (k0_pay58 (F := Ideal) (iblk m c 0 t) (iblk m c 1 t) (iblk m c 2 t))
        (k0_pay59 (F := Ideal) (iblk m c 0 t) (iblk m c 1 t) (iblk m c 3 t)) bb s (ix4 (0 : Fin 1) h d e) : EReal)
      = (((inputsAt m c).partial (seqOf t) (lane h d) ⟨512 * h.val + e.val, by omega⟩ n' : ℝ) : EReal) := by
  subst hn'
  have hp : ∀ q : Fin 128, posOf t ⟨128 * i.val + q.val, by omega⟩ = ⟨n + q.val, by omega⟩ := fun q =>
    Fin.ext (by show 256 * (t.val % 32) + (128 * i.val + q.val) = n + q.val; omega)
  rw [chunk_apply]
  refine partial_step F _ _ _ n (by omega) _ (fun r => bb (ix2 r (lane h d))) _ _ hs (fun r => ?_) (fun r => ?_) (fun r => ?_)
  · simp only [← hp]
    exact hb r
  · rw [keys_at, hp]
    exact congrArg _ (Fin.ext (by show 512 + 128 * h.val + d.val = 512 + (128 * h.val + d.val); omega))
  · rw [vals_at, hp]

/-- Adding a tile. -/
theorem tile_step (F : (inputsAt m c).Finite) (s : Vec Ideal S1x4x128x512 .f32) (h : Fin 4) (d : Fin 128) (e : Fin 512)
    (hs : (s (ix4 (0 : Fin 1) h d e) : EReal)
      = (((inputsAt m c).partial (seqOf t) (lane h d) ⟨512 * h.val + e.val, by omega⟩ (256 * (t.val % 32)) : ℝ) : EReal)) :
    (tile (F := Ideal) (iblk m c 0 t) (iblk m c 1 t) (iblk m c 2 t) (iblk m c 3 t) (iblk m c 5 t) (iblk m c 6 t) (iblk m c 7 t) s
        (ix4 (0 : Fin 1) h d e) : EReal)
      = (((inputsAt m c).partial (seqOf t) (lane h d) ⟨512 * h.val + e.val, by omega⟩ (256 * (t.val % 32) + 256) : ℝ) : EReal) := by
  unfold tile
  refine half_step F 1 _ _ h d e (256 * (t.val % 32) + 128) _ rfl rfl (half_step F 0 _ _ h d e (256 * (t.val % 32)) _ rfl rfl hs fun r => ?_) fun r => ?_
  · rw [cumul0_apply _ _ _ _ r _ fun q => by rw [dec_at]; exact F.dec _ _ _]
    exact Finset.sum_congr rfl fun q _ => if_congr Iff.rfl (dec_at m c t _ _) rfl
  · rw [cumul1_apply _ r _ fun q => by rw [dec_at]; exact F.dec _ _ _]
    exact Finset.sum_congr rfl fun q _ => if_congr Iff.rfl (dec_at m c t _ _) rfl

/-- The state a sequence starts from. -/
theorem zero_apply (i : S1x4x128x512.Idx) : (k0_pay55 (F := Ideal) i : EReal) = 0 := by
  pointwise [k0_pay55]

/-- The state after a tile. -/
theorem state_at (F : (inputsAt m c).Finite) (h : Fin 4) (d : Fin 128) (e : Fin 512) : ∀ n (hn : n < cfg0.N),
    ((outsAt0 m c n hn).2 (ix4 (0 : Fin 1) h d e) : EReal)
      = (((inputsAt m c).partial (seqOf ⟨n, hn⟩) (lane h d) ⟨512 * h.val + e.val, by omega⟩ (256 * (n % 32) + 256) : ℝ) : EReal) := by
  intro n
  induction n using Nat.strong_induction_on with
  | _ n ih =>
    intro hn
    by_cases h0 : n % 32 = 0
    · rw [show outsAt0 m c n hn = _ from outsAt0_A m c ⟨n, hn⟩ h0]
      dsimp only
      rw [out0_A_11_eq]
      refine tile_step (t := ⟨n, hn⟩) F _ h d e ?_
      rw [zero_apply, show 256 * ((⟨n, hn⟩ : Fin cfg0.N).val % 32) = 0 by show 256 * (n % 32) = 0; omega]
      rw [partial_zero, EReal.coe_zero]
    · rw [show outsAt0 m c n hn = _ from outsAt0_B m c ⟨n, hn⟩ h0]
      dsimp only
      rw [out0_B_11_eq]
      refine tile_step (t := ⟨n, hn⟩) F _ h d e ?_
      refine (ih (n - 1) (by omega) (by omega)).trans ?_
      have e0 : seqOf ⟨n - 1, by omega⟩ = seqOf ⟨n, hn⟩ := Fin.ext (by show (n - 1) / 32 = n / 32; omega)
      rw [e0, show 256 * ((n - 1) % 32) + 256 = 256 * (n % 32) by omega]

/-! ## The array the state is left in -/

variable (m c)

theorem last_lt (i : S4x4x128x512.Idx) : 32 * (i (0 : Fin 4)).val + 31 < cfg0.N := by
  have : (i (0 : Fin 4)).val < 4 := (i (0 : Fin 4)).isLt
  rw [show cfg0.N = 128 from N_0]; omega

/-- A sequence's state is the one its last tile leaves. -/
def left : Buf (Elt Ideal) ((c : Thread nD τ).loc main_v21_1) := fun i =>
  (outsAt0 m c (32 * (i (0 : Fin 4)).val + 31) (last_lt i)).2 (ix4 (0 : Fin 1) (i (1 : Fin 4)) (i (2 : Fin 4)) (i (3 : Fin 4)))

theorem block_state : ∀ t : Fin cfg0.N, win0_11.index t (0 : Fin 4) = t.val / 32 ∧ win0_11.index t (1 : Fin 4) = 0
    ∧ win0_11.index t (2 : Fin 4) = 0 ∧ win0_11.index t (3 : Fin 4) = 0 := by decide +kernel

theorem flushed_state (t : Fin cfg0.N) (hf : (cfg0.win 11).flush t = true) :
    (dats m 0 c).flushed 11 t = ((cfg0.win 11).blk t).view.read (Elt Ideal) (left m c) := by
  show (cfg0.win 11).cut (grid0.coords t) ((dats m 0 c).after 11 t) = _
  rw [after0_11]
  have hm : t.val % 32 = 31 := (flush0_11 t).mp hf
  obtain ⟨e0, e1, e2, e3⟩ := block_state t
  funext y
  have hy0 : (y 0).val < 1 := (y 0).isLt
  have hb0 : (((cfg0.win 11).blk t).view.emb y 0).val = win0_11.index t (0 : Fin 4) * 1 + 1 * (y 0).val := rfl
  have hb1 : (((cfg0.win 11).blk t).view.emb y 1).val = win0_11.index t (1 : Fin 4) * 4 + 1 * (y 1).val := rfl
  have hb2 : (((cfg0.win 11).blk t).view.emb y 2).val = win0_11.index t (2 : Fin 4) * 128 + 1 * (y 2).val := rfl
  have hb3 : (((cfg0.win 11).blk t).view.emb y 3).val = win0_11.index t (3 : Fin 4) * 512 + 1 * (y 3).val := rfl
  have hn : 32 * (((cfg0.win 11).blk t).view.emb y 0).val + 31 = t.val := by rw [hb0]; omega
  have hs : ∀ n (hn : n < cfg0.N), n = t.val → (outsAt0 m c n hn).2 = (outsAt0 m c t.val t.isLt).2 := fun n hn e => by subst e; rfl
  show (outsAt0 m c t.val t.isLt).2 ((cfg0.win 11).xinj (grid0.coords t) y) = left m c (((cfg0.win 11).blk t).view.emb y)
  unfold left
  rw [hs _ _ hn]
  refine congrArg _ (funext fun a => Fin.ext ?_)
  match a with
  | ⟨0, _⟩ => show (y 0).val = 0; omega
  | ⟨1, _⟩ => show (y 1).val = (((cfg0.win 11).blk t).view.emb y 1).val; rw [hb1]; omega
  | ⟨2, _⟩ => show (y 2).val = (((cfg0.win 11).blk t).view.emb y 2).val; rw [hb2]; omega
  | ⟨3, _⟩ => show (y 3).val = (((cfg0.win 11).blk t).view.emb y 3).val; rw [hb3]; omega

theorem state_covered (i : S4x4x128x512.Idx) :
    ∃ t : Fin cfg0.N, (cfg0.win 11).flush t = true ∧ i ∈ ((cfg0.win 11).blk t).view.set := by
  have h0 : (i 0).val < 4 := (i 0).isLt
  have h1 : (i 1).val < 4 := (i 1).isLt
  have h2 : (i 2).val < 128 := (i 2).isLt
  have h3 : (i 3).val < 512 := (i 3).isLt
  obtain ⟨e0, e1, e2, e3⟩ := block_state ⟨_, last_lt i⟩
  have e0 : win0_11.index ⟨_, last_lt i⟩ (0 : Fin 4) = (i 0).val :=
    e0.trans (by show (32 * (i 0).val + 31) / 32 = (i 0).val; omega)
  refine ⟨⟨_, last_lt i⟩, (flush0_11 _).mpr (by show (32 * (i 0).val + 31) % 32 = 31; omega), ?_⟩
  show i ∈ ((View.whole main_v21_1).slice (win0_11.rect ⟨_, last_lt i⟩)).set
  rw [View.set_slice_whole, Rect.mem_set_unit]
  intro a
  match a with
  | ⟨0, _⟩ => show win0_11.index ⟨_, last_lt i⟩ (0 : Fin 4) * 1 ≤ (i 0).val ∧ (i 0).val < win0_11.index ⟨_, last_lt i⟩ (0 : Fin 4) * 1 + 1; omega
  | ⟨1, _⟩ => show win0_11.index ⟨_, last_lt i⟩ (1 : Fin 4) * 4 ≤ (i 1).val ∧ (i 1).val < win0_11.index ⟨_, last_lt i⟩ (1 : Fin 4) * 4 + 4; omega
  | ⟨2, _⟩ => show win0_11.index ⟨_, last_lt i⟩ (2 : Fin 4) * 128 ≤ (i 2).val ∧ (i 2).val < win0_11.index ⟨_, last_lt i⟩ (2 : Fin 4) * 128 + 128; omega
  | ⟨3, _⟩ => show win0_11.index ⟨_, last_lt i⟩ (3 : Fin 4) * 512 ≤ (i 3).val ∧ (i 3).val < win0_11.index ⟨_, last_lt i⟩ (3 : Fin 4) * 512 + 512; omega

theorem final_state : (dats m 0 c).arrAt 11 cfg0.N = left m c :=
  (dats m 0 c).arrAt_eq_of_cover 11 _ (flushed_state m c) state_covered

/-- An entry of the state the program leaves. -/
theorem left_apply (F : (inputsAt m c).Finite) (b h : Fin 4) (d : Fin 128) (e : Fin 512) :
    (left m c (ix4 b h d e) : EReal) = (((inputsAt m c).partial b (lane h d) ⟨512 * h.val + e.val, by omega⟩ 8192 : ℝ) : EReal) := by
  have hl : 32 * b.val + 31 < cfg0.N := last_lt (ix4 b h d e)
  refine (state_at F h d e (32 * b.val + 31) hl).trans ?_
  rw [show seqOf ⟨32 * b.val + 31, hl⟩ = b from Fin.ext (by show (32 * b.val + 31) / 32 = b.val; omega),
    show 256 * ((32 * b.val + 31) % 32) + 256 = 8192 by omega]

/-- The program ends with the state so left, its arguments unchanged. -/
theorem run (g : Dev nD → PrngReg) : θ_run defs (onTc (τ := τ) (main (F := Ideal))) ⟨m, fun _ => 0, g⟩ (fun r => ∀ c : Dev nD,
      r.2.mem ((c.tc : Thread nD τ).loc main_v21_1) = left m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.2 c).1 11).trans (final_state m c), h.1 c⟩) (θ_run_and (unchanged m g) (run_main m g))

end Cert.GlaIdeal.Value

end
-- ==== Proof.Gla.RefValue.lean ====
/-
  The state the reference ends with, entry by entry: each position's key and value, decayed by the positions after it, summed
  over all positions.
-/
module

public import proofs.«01_k».proof.Proof.Gen.GlaReferenceIdeal
public import proofs.«01_k».proof.Proof.Gen.GlaReferenceIdeal.Run
public import proofs.«01_k».proof.Proof.Gla.Inputs

@[expose] public section

set_option maxRecDepth 16384

noncomputable section

namespace Cert.GlaReferenceIdeal.Entry

open Idealize.ShloMosaic Idealize.ShloMosaic.TcCoe Cert.GlaReferenceIdeal Cert.GlaReferenceIdeal.Gen Cert.Swa Cert.Decay

section

variable {F : FTy → Type} [FloatOps F]

/-- The rows, normed. -/
def normed (x : Vec F S4x8192x1024 .f32) (g : Vec F S1x1024 .f32) : Vec F S4x8192x1024 .f32 :=
  mulf (mulf x (broadcastInDim S4x8192x1024 ![0, 1, 2] bcast_S4x8192x1_S4x8192x1024_0_1_2 (Host.rsqrt (addf (Host.divf
      (broadcastInDim S4x8192x1 ![0, 1] bcast_S4x8192_S4x8192x1_0_1
        (Host.reduceAdd (mulf x x) (constant S_ .f32 0x00000000#32) reducesTo_S4x8192x1024_S4x8192_d2 h_S_))
      (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 (shapeCast _ g shapeCasts_S1x1024_S1024)))

/-- The joint projection. -/
def proj (y : Vec F S4x8192x1024 .f32) (w : Vec F S1x1024x5136 .f32) : Vec F S4x8192x5136 .f32 :=
  Host.dotGeneral dot_S4x8192x1024_S1024x5136_S4x8192x5136_2_0_01_1_n_n none y (shapeCast _ w shapeCasts_S1x1024x5136_S1024x5136)

/-- The gate. -/
def gate (y : Vec F S4x8192x5136 .f32) (u : Vec F S1x16x512 .f32) (b : Vec F S1x512 .f32) : Vec F S4x8192x512 .f32 :=
  addf (Host.dotGeneral dot_S4x8192x16_S16x512_S4x8192x512_2_0_01_1_n_n none
      (extractStridedSlice S4x8192x16 ![0, 0, 5120] y slices_S4x8192x5136_S4x8192x16_0_0_5120) (shapeCast _ u shapeCasts_S1x16x512_S16x512))
    (broadcastInDim S4x8192x512 ![0, 1, 2] bcast_S1x1x512_S4x8192x512_0_1_2
      (broadcastInDim S1x1x512 ![2] bcast_S512_S1x1x512_2 (shapeCast _ b shapeCasts_S1x512_S512)))

/-- Zero at every place of the gate. -/
abbrev zeros : Vec F S4x8192x512 .f32 := broadcastInDim S4x8192x512 ![] bcast_S_S4x8192x512 (constant S_ .f32 0x00000000#32)

/-- The log-decays off the gate. -/
def decays (g : Vec F S4x8192x512 .f32) : Vec F S4x8192x512 .f32 :=
  Host.divf (Host.negf (select (cmpf .une (subf (Host.negf g) zeros) (subf (Host.negf g) zeros)) (addf (Host.negf g) zeros)
      (addf (maximumf (Host.negf g) zeros) (Host.log1p (Host.exp (Host.negf (Host.absf (subf (Host.negf g) zeros))))))))
    (broadcastInDim S4x8192x512 ![] bcast_S_S4x8192x512 (constant S_ .f32 0x41800000#32))

/-- One where the column is a later position than the row. -/
def later : Vec F S8192x8192 .f32 :=
  uitofp .f32 (cmpi .sgt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))

/-- How much of each position is left at the end. -/
def remain (a : Vec F S4x8192x512 .f32) (l : Vec F S8192x8192 .f32) : Vec F S4x8192x512 .f32 :=
  Host.exp (transpose S4x8192x512 [0, 2, 1] (Host.dotGeneral dot_S4x8192x512_S8192x8192_S4x512x8192_1_1_02_0_n_n none a l)
    transposes_S4x512x8192_S4x8192x512_0_2_1)

/-- The state off the projection and what is left of each position. -/
def state (y : Vec F S4x8192x5136 .f32) (r : Vec F S4x8192x512 .f32) : Vec F S4x4x128x512 .f32 :=
  Host.dotGeneral dot_S4x8192x4x128_S4x8192x4x512_S4x4x128x512_1_1_3_3_02_02 none
    (mulf (shapeCast _ (extractStridedSlice S4x8192x512 ![0, 0, 512] y slices_S4x8192x5136_S4x8192x512_0_0_512) shapeCasts_S4x8192x512_S4x8192x4x128)
      (shapeCast _ r shapeCasts_S4x8192x512_S4x8192x4x128))
    (shapeCast _ (extractStridedSlice S4x8192x2048 ![0, 0, 1024] y slices_S4x8192x5136_S4x8192x2048_0_0_1024) shapeCasts_S4x8192x2048_S4x8192x4x512)

/-- The reference's state off its arguments. -/
def stateOf (a0 : Vec F S4x8192x1024 .f32) (a1 : Vec F S1x1024 .f32) (a2 : Vec F S1x1024x5136 .f32) (a3 : Vec F S1x16x512 .f32)
    (a4 : Vec F S1x512 .f32) : Vec F S4x4x128x512 .f32 :=
  state (proj (normed a0 a1) a2) (remain (decays (gate (proj (normed a0 a1) a2) a3 a4)) later)

theorem res_eq (m : (ℓ : Loc nD τ sig) → Buf (Elt F) ℓ) (c : Dev nD) : Value.res_main_v42 m c
    = stateOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end

theorem normed_apply (x : Vec Ideal S4x8192x1024 .f32) (g : Vec Ideal S1x1024 .f32) (b : Fin 4) (p : Fin 8192) (k : Fin 1024) :
    (normed (F := Ideal) x g (ix3 b p k) : EReal) = rowN (fun k => x (ix3 b p k)) (fun k => g (ix2 (0 : Fin 1) k)) k := by
  pointwise [normed]
  rfl

theorem proj_apply (y : Vec Ideal S4x8192x1024 .f32) (w : Vec Ideal S1x1024x5136 .f32) (b : Fin 4) (p : Fin 8192) (c : Fin 5136) :
    (proj (F := Ideal) y w (ix3 b p c) : EReal) = ∑ k : Fin 1024, y (ix3 b p k) * w (ix3 (0 : Fin 1) k c) := by
  pointwise [proj]

theorem gate_apply (y : Vec Ideal S4x8192x5136 .f32) (u : Vec Ideal S1x16x512 .f32) (v : Vec Ideal S1x512 .f32) (b : Fin 4) (p : Fin 8192) (j : Fin 512) :
    (gate (F := Ideal) y u v (ix3 b p j) : EReal)
      = ∑ e : Fin 16, y (ix3 b p (⟨5120 + e.val, by omega⟩ : Fin 5136)) * u (ix3 (0 : Fin 1) e j) + v (ix2 (0 : Fin 1) j) := by
  pointwise [gate]

theorem decays_apply (g : Vec Ideal S4x8192x512 .f32) (b : Fin 4) (p : Fin 8192) (j : Fin 512) (h : IsReal (g (ix3 b p j))) :
    (decays (F := Ideal) g (ix3 b p j) : EReal) = logDecay (g (ix3 b p j)) := by
  rw [← softplus_eq h]
  pointwise [decays]
  rw [if_neg (fun h => h rfl)]
  rfl

theorem later_apply (p q : Fin 8192) : (later (F := Ideal) (ix2 p q) : EReal) = if p.val < q.val then 1 else 0 := by
  have e : (later (F := Ideal) (ix2 p q) : EReal)
      = FloatOps.uitofp (F := Ideal) .f32 (IntOp.cmpi .sgt (BitVec.ofNat 32 q.val) (BitVec.ofNat 32 p.val)) := by
    pointwise [later]
  have hc : IntOp.cmpi .sgt (BitVec.ofNat 32 q.val) (BitVec.ofNat 32 p.val)
      = BitVec.ofBool (decide ((BitVec.ofNat 32 p.val).toInt < (BitVec.ofNat 32 q.val).toInt)) := rfl
  rw [e, hc, toInt_small _ (by omega), toInt_small _ (by omega)]
  show (((BitVec.ofBool (decide ((p.val : ℤ) < (q.val : ℤ)))).toNat : ℝ) : EReal) = _
  by_cases h : p.val < q.val
  · rw [if_pos h, decide_eq_true (Nat.cast_lt.mpr h)]
    simp
  · rw [if_neg h, decide_eq_false (fun h' => h (Nat.cast_lt.mp h'))]
    simp

theorem remain_apply (a : Vec Ideal S4x8192x512 .f32) (l : Vec Ideal S8192x8192 .f32) (b : Fin 4) (p : Fin 8192) (j : Fin 512) :
    (remain (F := Ideal) a l (ix3 b p j) : EReal) = Ideal.exp (∑ q : Fin 8192, a (ix3 b q j) * l (ix2 p q)) := by
  pointwise [remain]

theorem state_apply (y : Vec Ideal S4x8192x5136 .f32) (r : Vec Ideal S4x8192x512 .f32) (b h : Fin 4) (d : Fin 128) (e : Fin 512) :
    (state (F := Ideal) y r (ix4 b h d e) : EReal)
      = ∑ p : Fin 8192, y (ix3 b p (⟨512 + (h.val * 128 + d.val), by omega⟩ : Fin 5136)) * r (ix3 b p (⟨h.val * 128 + d.val, by omega⟩ : Fin 512))
          * y (ix3 b p (⟨1024 + (h.val * 512 + e.val), by omega⟩ : Fin 5136)) := by
  pointwise [state]

section

variable (a0 : Vec Ideal S4x8192x1024 .f32) (a1 : Vec Ideal S1x1024 .f32) (a2 : Vec Ideal S1x1024x5136 .f32) (a3 : Vec Ideal S1x16x512 .f32)
  (a4 : Vec Ideal S1x512 .f32)

/-- The inputs of the state. -/
abbrev inputs : Inputs := Cert.GlaIdeal.Value.inputsOf a0 a1 a2 a3 a4

theorem proj_at (b : Fin 4) (p : Fin 8192) (c : Fin 5136) :
    (proj (F := Ideal) (normed (F := Ideal) a0 a1) a2 (ix3 b p c) : EReal) = (inputs a0 a1 a2 a3 a4).col b p c := by
  rw [proj_apply]
  exact Finset.sum_congr rfl fun k _ => congrArg₂ (· * ·) (normed_apply a0 a1 b p k) rfl

theorem gate_at (b : Fin 4) (p : Fin 8192) (j : Fin 512) :
    (gate (F := Ideal) (proj (F := Ideal) (normed (F := Ideal) a0 a1) a2) a3 a4 (ix3 b p j) : EReal) = (inputs a0 a1 a2 a3 a4).gate b p j := by
  rw [gate_apply]
  exact congrArg₂ (· + ·) (Finset.sum_congr rfl fun e _ => congrArg₂ (· * ·) (proj_at a0 a1 a2 a3 a4 b p _) rfl) rfl

variable {a0 a1 a2 a3 a4}

theorem decays_at (F : (inputs a0 a1 a2 a3 a4).Finite) (b : Fin 4) (p : Fin 8192) (j : Fin 512) :
    (decays (F := Ideal) (gate (F := Ideal) (proj (F := Ideal) (normed (F := Ideal) a0 a1) a2) a3 a4) (ix3 b p j) : EReal)
      = (inputs a0 a1 a2 a3 a4).dec b p j := by
  have g := gate_at a0 a1 a2 a3 a4 b p j
  rw [decays_apply _ b p j (by rw [g]; exact F.gate b p j), g]
  rfl

/-- An entry of the reference's state. -/
theorem stateOf_apply (F : (inputs a0 a1 a2 a3 a4).Finite) (b h : Fin 4) (d : Fin 128) (e : Fin 512) :
    (stateOf (F := Ideal) a0 a1 a2 a3 a4 (ix4 b h d e) : EReal)
      = (((inputs a0 a1 a2 a3 a4).partial b ⟨128 * h.val + d.val, by omega⟩ ⟨512 * h.val + e.val, by omega⟩ 8192 : ℝ) : EReal) := by
  unfold stateOf Inputs.partial
  rw [state_apply, ← run_all _ _ _ (fun p => F.col b p _) (fun p => F.dec b p _) (fun p => F.col b p _)]
  refine Finset.sum_congr rfl fun p _ => congrArg₂ (· * ·) (congrArg₂ (· * ·) ?_ ?_) ?_
  · rw [proj_at a0 a1 a2 a3 a4]
    exact congrArg _ (Fin.ext (by show 512 + (h.val * 128 + d.val) = 512 + (128 * h.val + d.val); omega))
  · rw [remain_apply]
    refine congrArg Ideal.exp (Finset.sum_congr rfl fun q _ => congrArg₂ (· * ·) ?_ (later_apply p q))
    rw [decays_at F]
    exact congrArg _ (Fin.ext (by show h.val * 128 + d.val = 128 * h.val + d.val; omega))
  · rw [proj_at a0 a1 a2 a3 a4]
    exact congrArg _ (Fin.ext (by show 1024 + (h.val * 512 + e.val) = 1024 + (512 * h.val + e.val); omega))

end

end Cert.GlaReferenceIdeal.Entry

end
-- ==== Proof.Gla.Agree.lean ====
/-
  From equal arguments the recurrent layer's kernel and its reference end with the same state.
-/
module

public import proofs.«01_k».proof.Defs
public import proofs.«01_k».proof.Proof.Gla.Finite
public import proofs.«01_k».proof.Proof.Gla.Result
public import proofs.«01_k».proof.Proof.Gla.RefValue

@[expose] public section

noncomputable section

namespace Cert.Decay

open Idealize.ShloMosaic Idealize.ShloMosaic.TcCoe Idealize.SL.Sem Cert.GlaIdeal.Value

/-- The reference's state and the kernel's, entry by entry. -/
theorem state_agree (m : (ℓ : Loc Cert.GlaIdeal.nD Cert.GlaIdeal.τ Cert.GlaIdeal.sig) → Buf (Elt Ideal) ℓ) (c : Dev Cert.GlaIdeal.nD)
    (F : (inputsAt m c).Finite) :
    Cert.GlaReferenceIdeal.Entry.stateOf (F := Ideal)
      (m ((c.tc : Thread Cert.GlaIdeal.nD Cert.GlaIdeal.τ).loc Cert.GlaIdeal.main_arg0)) (m ((c.tc : Thread Cert.GlaIdeal.nD Cert.GlaIdeal.τ).loc Cert.GlaIdeal.main_arg1))
      (m ((c.tc : Thread Cert.GlaIdeal.nD Cert.GlaIdeal.τ).loc Cert.GlaIdeal.main_arg2)) (m ((c.tc : Thread Cert.GlaIdeal.nD Cert.GlaIdeal.τ).loc Cert.GlaIdeal.main_arg3))
      (m ((c.tc : Thread Cert.GlaIdeal.nD Cert.GlaIdeal.τ).loc Cert.GlaIdeal.main_arg4)) = left m c := by
  funext i
  rw [ValueIdx.eq_ix4 i]
  exact (Cert.GlaReferenceIdeal.Entry.stateOf_apply F _ _ _ _).trans (left_apply m c F _ _ _ _).symm

/-- From arguments that agree, the two programs end with the same state. -/
theorem algebraic : Cert.algebraic_GlaIdeal_GlaReferenceIdeal_pre_finite_args2 := by
  intro m g m' g' hpre hag
  refine ⟨fun c => left m c, Cert.GlaIdeal.Value.run m g, ?_⟩
  refine (θ_run Cert.GlaReferenceIdeal.defs _ _).mono (fun r h c => ?_) (Cert.GlaReferenceIdeal.Value.run (F := Ideal) m' g')
  have F : (inputsAt m c).Finite := inputsOf_finite _ _ _ _ _ _ _ (hpre c)
  obtain ⟨r0, rest⟩ := h c
  obtain ⟨h0, h1, h2, h3, h4, h5, h6⟩ := hag c
  refine ⟨(r0.trans (Cert.GlaReferenceIdeal.Entry.res_eq m' c)).trans ?_, rest⟩
  rw [h0, h1, h2, h3, h4]
  exact state_agree m c F

end Cert.Decay

end
-- ==== Proof.Gla.Reference.lean ====
/-
  The reference of the recurrent layer runs to its end and leaves its arguments unchanged: it is host code alone.
-/
module

public import proofs.«01_k».proof.Defs
public import proofs.«01_k».proof.Proof.Gen.GlaReferenceIdeal
public import proofs.«01_k».proof.Proof.Gen.GlaReferenceIdeal.Run
public import Idealize.ShloMosaic.Adequacy
public import Idealize.ShloMosaic.Init

@[expose] public section

noncomputable section

namespace Cert.GlaReferenceIdeal.Body

open Idealize.ShloMosaic Idealize.ShloMosaic.TcCoe Idealize.SL.Sem

/-- The frame of the reference. -/
theorem frame : Cert.quiescent_GlaReferenceIdeal := fun m g _ =>
  (θ_run Cert.GlaReferenceIdeal.defs _ _).mono (fun r h => ⟨fun c => (h c).2, sem_eq_zero_of_no_sems (by decide) r.2⟩)
    (Cert.GlaReferenceIdeal.Value.run (F := Ideal) m g)

end Cert.GlaReferenceIdeal.Body

end
-- ==== Proof.GlaBits.Cases.lean ====
/-
  The body at the first tile of a sequence and at a later one, whichever branch its decays select.
-/
module

public import proofs.«01_k».proof.Proof.GlaBits.RunAS
public import proofs.«01_k».proof.Proof.GlaBits.RunAL
public import proofs.«01_k».proof.Proof.GlaBits.RunBS
public import proofs.«01_k».proof.Proof.GlaBits.RunBL

@[expose] public section

set_option maxRecDepth 16384

noncomputable section

namespace Cert.Gla.Body

open Cert.Gla Cert.Gla.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at the first tile of a sequence, either branch: what it stores, piece by piece, and that it runs. -/
noncomputable def kernelRun0_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) :
    Σ' (L10 : List (View.Piece (Elt F) S1x256x1024 .f32)), Σ' (L11 : List (View.Piece (Elt F) S1x4x128x512 .f32)), Σ' (LT0 : List (View.Piece (Elt F) S256x1024 .f32)), Σ' (LT1 : List (View.Piece (Elt F) S256x2048 .f32)), Σ' (LT2 : List (View.Piece (Elt F) S256x2048 .f32)), Σ' (LT3 : List (View.Piece (Elt F) S256x512 .f32)), Σ' (LT4 : List (View.Piece (Elt F) S256x2048 .f32)), { LT5 : List (View.Piece (Elt F) S256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LT2) ∗ (∃ f, arg17.view.loc (c : Thread nD τ) ↦[arg17.view.set]{fullShare} arg17.view.writes (Elt F) f LT3) ∗ (∃ f, arg18.view.loc (c : Thread nD τ) ↦[arg18.view.set]{fullShare} arg18.view.writes (Elt F) f LT4) ∗ (∃ f, arg19.view.loc (c : Thread nD τ) ↦[arg19.view.set]{fullShare} arg19.view.writes (Elt F) f LT5)) -∗ K ⟨⟩))
          ⊢ wp frame (wpE (defs₀ (F := F)) Variants.none c none) E (cc0_gla_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } :=
  if h : cond0_1 arg2 harg2 arg3 harg3 arg7 harg7 arg8 harg8 arg9 harg9 arg17 x0 x1 x5 x6 x7 then
    kernelRun0_AS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 h (not_cond0_2 arg2 harg2 arg3 harg3 arg7 harg7 arg8 harg8 arg9 harg9 arg17 x0 x1 x5 x6 x7 h)
  else
    kernelRun0_AL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 h (cond0_2_of_not arg2 harg2 arg3 harg3 arg7 harg7 arg8 harg8 arg9 harg9 arg17 x0 x1 x5 x6 x7 h)

/-- The body at a later tile, either branch: what it stores, piece by piece, and that it runs. -/
noncomputable def kernelRun0_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x128 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x1024 .bf16) (harg11 : arg11.IsWhole) (arg12 : Memref sig .tc .vmem S1x256x1024 .f32) (harg12 : arg12.IsWhole) (arg13 : Memref sig .tc .vmem S1x4x128x512 .f32) (harg13 : arg13.IsWhole) (arg14 : Memref sig .tc .vmem S256x1024 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S256x512 .f32) (harg17 : arg17.IsWhole) (arg18 : Memref sig .tc .vmem S256x2048 .f32) (harg18 : arg18.IsWhole) (arg19 : Memref sig .tc .vmem S256x2048 .bf16) (harg19 : arg19.IsWhole) (hc0 : ¬cond0_0 i)
    (x0 : Vec F S1x256x1024 .f32) (x1 : Vec F S1x1024 .f32) (x2 : Vec F S1024x1024 .bf16) (x3 : Vec F S1024x2048 .bf16) (x4 : Vec F S1024x2048 .bf16) (x5 : Vec F S1024x128 .bf16) (x6 : Vec F S128x512 .bf16) (x7 : Vec F S1x512 .f32) (x8 : Vec F S1x512 .f32) (x9 : Vec F S2048x1024 .bf16) (xo11 : Vec F S1x4x128x512 .f32) :
    Σ' (L10 : List (View.Piece (Elt F) S1x256x1024 .f32)), Σ' (L11 : List (View.Piece (Elt F) S1x4x128x512 .f32)), Σ' (LT0 : List (View.Piece (Elt F) S256x1024 .f32)), Σ' (LT1 : List (View.Piece (Elt F) S256x2048 .f32)), Σ' (LT2 : List (View.Piece (Elt F) S256x2048 .f32)), Σ' (LT3 : List (View.Piece (Elt F) S256x512 .f32)), Σ' (LT4 : List (View.Piece (Elt F) S256x2048 .f32)), { LT5 : List (View.Piece (Elt F) S256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LT2) ∗ (∃ f, arg17.view.loc (c : Thread nD τ) ↦[arg17.view.set]{fullShare} arg17.view.writes (Elt F) f LT3) ∗ (∃ f, arg18.view.loc (c : Thread nD τ) ↦[arg18.view.set]{fullShare} arg18.view.writes (Elt F) f LT4) ∗ (∃ f, arg19.view.loc (c : Thread nD τ) ↦[arg19.view.set]{fullShare} arg19.view.writes (Elt F) f LT5)) -∗ K ⟨⟩))
          ⊢ wp frame (wpE (defs₀ (F := F)) Variants.none c none) E (cc0_gla_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } :=
  if h : cond0_1 arg2 harg2 arg3 harg3 arg7 harg7 arg8 harg8 arg9 harg9 arg17 x0 x1 x5 x6 x7 then
    kernelRun0_BS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo11 h (not_cond0_2 arg2 harg2 arg3 harg3 arg7 harg7 arg8 harg8 arg9 harg9 arg17 x0 x1 x5 x6 x7 h)
  else
    kernelRun0_BL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo11 h (cond0_2_of_not arg2 harg2 arg3 harg3 arg7 harg7 arg8 harg8 arg9 harg9 arg17 x0 x1 x5 x6 x7 h)

end Cert.Gla.Body

end
-- ==== Proof.lean ====
/-
  The certificate. For the windowed layer: frames of the kernel, of its reading over the reals and of the reference, and the
  equality of the results; the kernel's frames are the generated ones, everything else is in `Proof/Swa`. For the recurrent layer:
  the frames and the equality of the state it hands on, in `Proof/GlaBits` and `Proof/Gla`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Gla
public import proofs.«01_k».proof.Proof.Gen.Gla.Skeleton
public import proofs.«01_k».proof.Proof.Gen.Gla.Loops
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Loops
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaReferenceIdeal
public import proofs.«01_k».proof.Proof.Gen.GlaReferenceIdeal.Run
public import proofs.«01_k».proof.Proof.Swa.Agree
public import proofs.«01_k».proof.Proof.Gla.Frame
public import proofs.«01_k».proof.Proof.Gla.Agree
public import proofs.«01_k».proof.Proof.Gla.Reference
public import proofs.«01_k».proof.Proof.GlaBits.Frame
public import Idealize.ShloMosaic.Adequacy
public import Idealize.ShloMosaic.Init

@[expose] public section

noncomputable section

namespace Cert.Proof

open Idealize.ShloMosaic Idealize.SL.Sem

/-- The claims together, each taken from the module that proves it. -/
theorem claim : Cert.Claim :=
  ⟨Cert.Kernel.Gen.facts, Cert.KernelIdeal.Gen.facts, Cert.ReferenceIdeal.Gen.facts, Cert.Gla.Gen.facts, Cert.GlaIdeal.Gen.facts,
    Cert.GlaReferenceIdeal.Gen.facts, Cert.Swa.preFacts, Cert.Decay.preFacts,
    fun m g _ => Cert.Kernel.Gen.frame m g, fun m g _ => Cert.KernelIdeal.Gen.frame m g, fun m g _ => Cert.KernelIdeal.Gen.frame m g,
    Cert.Swa.frame_ref, fun m g _ => Cert.Swa.frame_ref m g trivial,
    fun m g _ => Cert.Gla.Body.frame m g, fun m g _ => Cert.GlaIdeal.Body.frame m g, fun m g _ => Cert.GlaIdeal.Body.frame m g,
    Cert.GlaReferenceIdeal.Body.frame, fun m g _ => Cert.GlaReferenceIdeal.Body.frame m g trivial,
    trivial, Cert.Swa.algebraic, trivial, Cert.Decay.algebraic⟩

end Cert.Proof

end
